-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attention [hPre_finite_attention : Cert.Pre_finite_attention.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.1 = (fun _ => 1#1)
    ∧ (Cert.Pre_finite_attention.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attention [hPre_finite_attention : Cert.Pre_finite_attention.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.1 = (fun _ => 1#1)
    ∧ (Cert.Pre_finite_attention.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite_attention [hKernel2Ideal : Cert.Kernel2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attention m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite_attention [hReference2Ideal : Cert.Reference2Ideal.Facts] [hPre_finite_attention : Cert.Pre_finite_attention.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attention m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  IdealRules.named_const.Statement Cert.Kernel2Ideal.κ "query_scale" .f32 0x3DB8AA3B#32 (((16 * (Real.log 2))⁻¹ : ℝ) : EReal)

def algebraic_Kernel2Ideal_Reference2Ideal_pre_finite_attention [hKernel2Ideal : Cert.Kernel2Ideal.Facts] [hReference2Ideal : Cert.Reference2Ideal.Facts] [hPre_finite_attention : Cert.Pre_finite_attention.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attention m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v125) = v2 c
          ∧ r.2.mem ((c.tc : Thread Cert.Reference2Ideal.nD Cert.Reference2Ideal.τ).loc Cert.Reference2Ideal.main_v102) = v3 c
          ∧ r.2.mem ((c.tc : Thread Cert.Reference2Ideal.nD Cert.Reference2Ideal.τ).loc Cert.Reference2Ideal.main_v126) = v4 c
          ∧ r.2.mem ((c.tc : Thread Cert.Reference2Ideal.nD Cert.Reference2Ideal.τ).loc Cert.Reference2Ideal.main_v124) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts) (hPre_finite_attention : Cert.Pre_finite_attention.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_attention (hKernel2Ideal := hKernel2Ideal) (hPre_finite_attention := hPre_finite_attention)
    ∧ quiescent_Reference2Ideal (hReference2Ideal := hReference2Ideal)
    ∧ quiescent_Reference2Ideal_pre_finite_attention (hReference2Ideal := hReference2Ideal) (hPre_finite_attention := hPre_finite_attention)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_attention (hKernel2Ideal := hKernel2Ideal) (hReference2Ideal := hReference2Ideal) (hPre_finite_attention := hPre_finite_attention)
-- ==== Pre_finite_attention.lean ====
abbrev S8x2048x1024 : Shape := ⟨3, ![8, 2048, 1024]⟩
abbrev S1x1024 : Shape := ⟨2, ![1, 1024]⟩
abbrev S1024x1024 : Shape := ⟨2, ![1024, 1024]⟩
abbrev S8x1024x256 : Shape := ⟨3, ![8, 1024, 256]⟩
abbrev S8x256x1024 : Shape := ⟨3, ![8, 256, 1024]⟩
abbrev S128x3072 : Shape := ⟨2, ![128, 3072]⟩
abbrev S128x4x128x128 : Shape := ⟨4, ![128, 4, 128, 128]⟩
abbrev S2816x1024 : Shape := ⟨2, ![2816, 1024]⟩
abbrev S128x1024 : Shape := ⟨2, ![128, 1024]⟩
abbrev S15x128x512 : Shape := ⟨3, ![15, 128, 512]⟩
abbrev S1x512 : Shape := ⟨2, ![1, 512]⟩
abbrev S_ : Shape := ⟨0, ![]⟩

class Facts : Prop where
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)
  bcast_S_S8x1024x256 : S_.BroadcastsInDim S8x1024x256 (![] : Fin 0 → Fin S8x1024x256.rank)

variable [Facts]

def fn {F : FTy → Type} [FloatOps F] (main_arg0 : FVec F S8x2048x1024 .f32) (main_arg1 : FVec F S1x1024 .f32) (main_arg2 : FVec F S1024x1024 .bf16) (main_arg3 : FVec F S8x1024x256 .bf16) (main_arg4 : FVec F S8x256x1024 .bf16) (main_arg5 : FVec F S1024x1024 .bf16) (main_arg6 : FVec F S128x3072 .f32) (main_arg7 : FVec F S128x4x128x128 .f32) (main_arg8 : FVec F S2816x1024 .f32) (main_arg9 : FVec F S128x1024 .f32) (main_arg10 : FVec F S128x3072 .f32) (main_arg11 : FVec F S15x128x512 .f32) (main_arg12 : FVec F S1x512 .f32) (main_arg13 : FVec F S1024x1024 .bf16) : IVec S1x1024 1 × IVec S1024x1024 1 × IVec S8x1024x256 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x1024 .f32 := (extf .f32 · bitsLt_bf16_f32) main_arg2
  let main_v4 : FVec F S1024x1024 .f32 := Host.absf main_v3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S8x1024x256 .f32 := (extf .f32 · bitsLt_bf16_f32) main_arg3
  let main_v8 : FVec F S8x1024x256 .f32 := Host.absf main_v7
  let main_cst_1 : FVec F S_ .f32 := constant S_ .f32 0x7F800000#32
  let main_v9 : FVec F S8x1024x256 .f32 := broadcastInDim S8x1024x256 ![] bcast_S_S8x1024x256 main_cst_1
  let main_v10 : IVec S8x1024x256 1 := cmpf .olt main_v8 main_v9
  (main_v2, main_v6, main_v10)
-- ==== Pre_finite_scores.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S128x8x128 : Shape := ⟨3, ![128, 8, 128]⟩
abbrev S128x256x4x256 : Shape := ⟨4, ![128, 256, 4, 256]⟩
abbrev S128x1024 : Shape := ⟨2, ![128, 1024]⟩
abbrev S1024x1024 : Shape := ⟨2, ![1024, 1024]⟩
abbrev S_ : Shape := ⟨0, ![]⟩

class Facts : Prop where
  bcast_S_S128x8x128 : S_.BroadcastsInDim S128x8x128 (![] : Fin 0 → Fin S128x8x128.rank)
  bcast_S_S128x256x4x256 : S_.BroadcastsInDim S128x256x4x256 (![] : Fin 0 → Fin S128x256x4x256.rank)

variable [Facts]

def fn {F : FTy → Type} [FloatOps F] (main_arg0 : FVec F S16384x1024 .f32) (main_arg1 : FVec F S1x1024 .f32) (main_arg2 : FVec F S1024x5632 .bf16) (main_arg3 : FVec F S2816x1024 .bf16) (main_arg4 : FVec F S1x1024 .f32) (main_arg5 : FVec F S128x8x128 .f32) (main_arg6 : FVec F S128x256x4x256 .f32) (main_arg7 : FVec F S128x256x4x256 .f32) (main_arg8 : FVec F S128x1024 .f32) (main_arg9 : FVec F S1024x1024 .bf16) : IVec S128x8x128 1 × IVec S128x256x4x256 1 :=
  let main_v0 : FVec F S128x8x128 .f32 := Host.absf main_arg5
  let main_cst : FVec F S_ .f32 := constant S_ .f32 0x7F800000#32
  let main_v1 : FVec F S128x8x128 .f32 := broadcastInDim S128x8x128 ![] bcast_S_S128x8x128 main_cst
  let main_v2 : IVec S128x8x128 1 := cmpf .olt main_v0 main_v1
  let main_v3 : FVec F S128x256x4x256 .f32 := Host.absf main_arg6
  let main_cst_0 : FVec F S_ .f32 := constant S_ .f32 0x7F800000#32
  let main_v4 : FVec F S128x256x4x256 .f32 := broadcastInDim S128x256x4x256 ![] bcast_S_S128x256x4x256 main_cst_0
  let main_v5 : IVec S128x256x4x256 1 := cmpf .olt main_v3 main_v4
  (main_v2, main_v5)
-- ==== Kernel.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S128x8x128 : Shape := ⟨3, ![128, 8, 128]⟩
abbrev S128x256x4x256 : Shape := ⟨4, ![128, 256, 4, 256]⟩
abbrev S128x1024 : Shape := ⟨2, ![128, 1024]⟩
abbrev S1024x1024 : Shape := ⟨2, ![1024, 1024]⟩
abbrev S128x256x4x2x128 : Shape := ⟨5, ![128, 256, 4, 2, 128]⟩
abbrev S128x256x2x4x128 : Shape := ⟨5, ![128, 256, 2, 4, 128]⟩
abbrev S128x256x8x128 : Shape := ⟨4, ![128, 256, 8, 128]⟩
abbrev S128x1x1024 : Shape := ⟨3, ![128, 1, 1024]⟩
abbrev S512x1024 : Shape := ⟨2, ![512, 1024]⟩
abbrev S4x256x8x128 : Shape := ⟨4, ![4, 256, 8, 128]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S1x256x8x128 : Shape := ⟨4, ![1, 256, 8, 128]⟩
abbrev S256x8x128 : Shape := ⟨3, ![256, 8, 128]⟩
abbrev S1x8x128 : Shape := ⟨3, ![1, 8, 128]⟩
abbrev S8x128 : Shape := ⟨2, ![8, 128]⟩
abbrev S256x8 : Shape := ⟨2, ![256, 8]⟩
abbrev S256x8x1 : Shape := ⟨3, ![256, 8, 1]⟩
abbrev S8x1 : Shape := ⟨2, ![8, 1]⟩
abbrev S1x8x1 : Shape := ⟨3, ![1, 8, 1]⟩
abbrev S8x640 : Shape := ⟨2, ![8, 640]⟩
abbrev S8x768 : Shape := ⟨2, ![8, 768]⟩
abbrev S504x768 : Shape := ⟨2, ![504, 768]⟩
abbrev S1024x512 : Shape := ⟨2, ![1024, 512]⟩
abbrev S512x512 : Shape := ⟨2, ![512, 512]⟩
abbrev S8x384 : Shape := ⟨2, ![8, 384]⟩
abbrev S8x512 : Shape := ⟨2, ![8, 512]⟩
abbrev S504x512 : Shape := ⟨2, ![504, 512]⟩
abbrev S512x2304 : Shape := ⟨2, ![512, 2304]⟩
abbrev S2304x1024 : Shape := ⟨2, ![2304, 1024]⟩
abbrev S128x1x128 : Shape := ⟨3, ![128, 1, 128]⟩
abbrev S128x128 : Shape := ⟨2, ![128, 128]⟩
abbrev S128 : Shape := ⟨1, ![128]⟩
abbrev S128x1 : Shape := ⟨2, ![128, 1]⟩
abbrev S128x768 : Shape := ⟨2, ![128, 768]⟩
abbrev S128x512 : Shape := ⟨2, ![128, 512]⟩
abbrev S128x2304 : Shape := ⟨2, ![128, 2304]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S128x8x128, .f32⟩
  | .hbm, ⟨6, _⟩ => ⟨S128x256x4x256, .f32⟩
  | .hbm, ⟨7, _⟩ => ⟨S128x256x4x256, .f32⟩
  | .hbm, ⟨8, _⟩ => ⟨S128x1024, .f32⟩
  | .hbm, ⟨9, _⟩ => ⟨S1024x1024, .bf16⟩
  | .hbm, ⟨10, _⟩ => ⟨S128x256x4x2x128, .f32⟩
  | .hbm, ⟨11, _⟩ => ⟨S128x256x2x4x128, .f32⟩
  | .hbm, ⟨12, _⟩ => ⟨S128x256x8x128, .f32⟩
  | .hbm, ⟨13, _⟩ => ⟨S128x256x4x2x128, .f32⟩
  | .hbm, ⟨14, _⟩ => ⟨S128x256x2x4x128, .f32⟩
  | .hbm, ⟨15, _⟩ => ⟨S128x256x8x128, .f32⟩
  | .hbm, ⟨16, _⟩ => ⟨S16384x1024, .f32⟩
  | .hbm, ⟨17, _⟩ => ⟨S128x1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S128x8x128, .f32⟩
  | .local _ .vmem, ⟨7, _⟩ => ⟨S4x256x8x128, .f32⟩
  | .local _ .vmem, ⟨8, _⟩ => ⟨S4x256x8x128, .f32⟩
  | .local _ .vmem, ⟨9, _⟩ => ⟨S4x256x8x128, .f32⟩
  | .local _ .vmem, ⟨10, _⟩ => ⟨S4x256x8x128, .f32⟩
  | .local _ .vmem, ⟨11, _⟩ => ⟨S512x1024, .f32⟩
  | .local _ .vmem, ⟨12, _⟩ => ⟨S512x1024, .f32⟩
  | .local _ .vmem, ⟨13, _⟩ => ⟨S128x1x1024, .f32⟩
  | .local _ .vmem, ⟨14, _⟩ => ⟨S128x8x128, .f32⟩
  | .local _ .vmem, ⟨15, _⟩ => ⟨S128x1024, .f32⟩
  | .local _ .vmem, ⟨16, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_2 : BitVec 32 := 0#32
  let v5 : BitVec 1 := Scalar.cmpi .ne v4 c0_i32_2
  v5

def k0_off1 (i : grid0.Coords) (c0_i32_25 : BitVec 32) : Fin 3 → Nat :=
  let arg0 : BitVec 32 := BitVec.ofNat 32 (i 0).val
  let c4_i32 : BitVec 32 := 4#32
  let v9 : BitVec 32 := Scalar.muli arg0 c4_i32
  let v35 : BitVec 32 := Scalar.addi v9 c0_i32_25
  let v36 : Index := Scalar.indexCast v35
  let c0_26 : Index := 0#32
  let c0_27 : Index := 0#32
  ![v36.toNat, 0, 0]
def k0_cond3 (i : grid0.Coords) : BitVec 1 :=
  let arg0 : BitVec 32 := BitVec.ofNat 32 (i 0).val
  let c32_i32_3 : BitVec 32 := 32#32
  let v6 : BitVec 1 := Scalar.cmpi .eq arg0 c32_i32_3
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x256x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x1024 : Shape := ⟨2, ![16384, 1024]⟩
abbrev S1x1024 : Shape := ⟨2, ![1, 1024]⟩
abbrev S1024x5632 : Shape := ⟨2, ![1024, 5632]⟩
abbrev S2816x1024 : Shape := ⟨2, ![2816, 1024]⟩
abbrev S128x8x128 : Shape := ⟨3, ![128, 8, 128]⟩
abbrev S128x256x4x256 : Shape := ⟨4, ![128, 256, 4, 256]⟩
abbrev S128x1024 : Shape := ⟨2, ![128, 1024]⟩
abbrev S1024x1024 : Shape := ⟨2, ![1024, 1024]⟩
abbrev S128x2x4x128 : Shape := ⟨4, ![128, 2, 4, 128]⟩
abbrev S128x4x2x128 : Shape := ⟨4, ![128, 4, 2, 128]⟩
abbrev S128x4x256 : Shape := ⟨3, ![128, 4, 256]⟩
abbrev S_ : Shape := ⟨0, ![]⟩
abbrev S128x4 : Shape := ⟨2, ![128, 4]⟩
abbrev S128x4x1 : Shape := ⟨3, ![128, 4, 1]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S128 : Shape := ⟨1, ![128]⟩
abbrev S128x1 : Shape := ⟨2, ![128, 1]⟩
abbrev S128x5632 : Shape := ⟨2, ![128, 5632]⟩
abbrev S128x2816 : Shape := ⟨2, ![128, 2816]⟩
abbrev S128x1x1024 : Shape := ⟨3, ![128, 1, 1024]⟩

abbrev nBuf : Space → Nat
  | .hbm => 131
  | .vmem => 0
  | .smem => 0
  | _ => 0

abbrev hbmTy0_0 (i : Nat) : BufTy := match i % 128 with
  | 0 => ⟨S16384x1024, .f32⟩
  | 1 => ⟨S1x1024, .f32⟩
  | 2 => ⟨S1024x5632, .bf16⟩
  | 3 => ⟨S2816x1024, .bf16⟩
  | 4 => ⟨S1x1024, .f32⟩
  | 5 => ⟨S128x8x128, .f32⟩
  | 6 => ⟨S128x256x4x256, .f32⟩
  | 7 => ⟨S128x256x4x256, .f32⟩
  | 8 => ⟨S128x1024, .f32⟩
  | 9 => ⟨S1024x1024, .bf16⟩
  | 10 => ⟨S1024x5632, .f32⟩
  | 11 => ⟨S2816x1024, .f32⟩
  | 12 => ⟨S1024x1024, .f32⟩
  | 13 => ⟨S128x2x4x128, .f32⟩
  | 14 => ⟨S128x4x2x128, .f32⟩
  | 15 => ⟨S128x4x256, .f32⟩
  | 16 => ⟨S128x4x256, .f32⟩
  | 17 => ⟨S_, .f32⟩
  | 18 => ⟨S_, .f32⟩
  | 19 => ⟨S_, .f32⟩
  | 20 => ⟨S128x4x256, .f32⟩
  | 21 => ⟨S128x4x256, .f32⟩
  | 22 => ⟨S_, .f32⟩
  | 23 => ⟨S128x4, .f32⟩
  | 24 => ⟨S_, .f32⟩
  | 25 => ⟨S128x4, .f32⟩
  | 26 => ⟨S128x4, .f32⟩
  | 27 => ⟨S128x4x1, .f32⟩
  | 28 => ⟨S128x4x256, .f32⟩
  | 29 => ⟨S128x4x256, .f32⟩
  | 30 => ⟨S128x4x256, .f32⟩
  | 31 => ⟨S_, .f32⟩
  | 32 => ⟨S128x4, .f32⟩
  | 33 => ⟨S128x4x1, .f32⟩
  | 34 => ⟨S128x4x256, .f32⟩
  | 35 => ⟨S128x4x256, .f32⟩
  | 36 => ⟨S128x4x256, .f32⟩
  | 37 => ⟨S128x1024, .f32⟩
  | 38 => ⟨S16384x1024, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S16384x1, .f32⟩
  | 49 => ⟨S16384x1024, .f32⟩
  | 50 => ⟨S16384x1024, .f32⟩
  | 51 => ⟨S16384x1024, .f32⟩
  | 52 => ⟨S16384x1024, .f32⟩
  | 53 => ⟨S16384x5632, .f32⟩
  | 54 => ⟨S16384x2816, .f32⟩
  | 55 => ⟨S16384x2816, .f32⟩
  | 56 => ⟨S16384x2816, .f32⟩
  | 57 => ⟨S16384x2816, .f32⟩
  | 58 => ⟨S_, .f32⟩
  | 59 => ⟨S16384x2816, .f32⟩
  | 60 => ⟨S16384x2816, .f32⟩
  | 61 => ⟨S_, .f32⟩
  | 62 => ⟨S16384x2816, .f32⟩
  | 63 => ⟨S16384x2816, .f32⟩
  | 64 => ⟨S16384x2816, .f32⟩
  | 65 => ⟨S16384x2816, .f32⟩
  | 66 => ⟨S16384x1024, .f32⟩
  | 67 => ⟨S16384x1024, .f32⟩
  | 68 => ⟨S16384x1024, .f32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S_, .f32⟩
  | 76 => ⟨S16384x1, .f32⟩
  | 77 => ⟨S16384x1, .f32⟩
  | 78 => ⟨S16384x1, .f32⟩
  | 79 => ⟨S16384x1024, .f32⟩
  | 80 => ⟨S16384x1024, .f32⟩
  | 81 => ⟨S16384x1024, .f32⟩
  | 82 => ⟨S16384x1024, .f32⟩
  | 83 => ⟨S128x1024, .f32⟩
  | 84 => ⟨S128x1024, .f32⟩
  | 85 => ⟨S128x1024, .f32⟩
  | 86 => ⟨S_, .f32⟩
  | 87 => ⟨S128, .f32⟩
  | 88 => ⟨S128x1, .f32⟩
  | 89 => ⟨S_, .f32⟩
  | 90 => ⟨S128x1, .f32⟩
  | 91 => ⟨S128x1, .f32⟩
  | 92 => ⟨S_, .f32⟩
  | 93 => ⟨S128x1, .f32⟩
  | 94 => ⟨S128x1, .f32⟩
  | 95 => ⟨S128x1, .f32⟩
  | 96 => ⟨S128x1024, .f32⟩
  | 97 => ⟨S128x1024, .f32⟩
  | 98 => ⟨S128x1024, .f32⟩
  | 99 => ⟨S128x1024, .f32⟩
  | 100 => ⟨S128x5632, .f32⟩
  | 101 => ⟨S128x2816, .f32⟩
  | 102 => ⟨S128x2816, .f32⟩
  | 103 => ⟨S128x2816, .f32⟩
  | 104 => ⟨S128x2816, .f32⟩
  | 105 => ⟨S_, .f32⟩
  | 106 => ⟨S128x2816, .f32⟩
  | 107 => ⟨S128x2816, .f32⟩
  | 108 => ⟨S_, .f32⟩
  | 109 => ⟨S128x2816, .f32⟩
  | 110 => ⟨S128x2816, .f32⟩
  | 111 => ⟨S128x2816, .f32⟩
  | 112 => ⟨S128x2816, .f32⟩
  | 113 => ⟨S128x1024, .f32⟩
  | 114 => ⟨S128x1024, .f32⟩
  | 115 => ⟨S128x1024, .f32⟩
  | 116 => ⟨S_, .f32⟩
  | 117 => ⟨S128, .f32⟩
  | 118 => ⟨S128x1, .f32⟩
  | 119 => ⟨S_, .f32⟩
  | 120 => ⟨S128x1, .f32⟩
  | 121 => ⟨S128x1, .f32⟩
  | 122 => ⟨S_, .f32⟩
  | 123 => ⟨S128x1, .f32⟩
  | 124 => ⟨S128x1, .f32⟩
  | 125 => ⟨S128x1, .f32⟩
  | 126 => ⟨S128x1024, .f32⟩
  | 127 => ⟨S128x1024, .f32⟩
  | _ => ⟨S16384x1024, .f32⟩

abbrev hbmTy0_1 (i : Nat) : BufTy := match i % 128 with
  | 0 => ⟨S128x1024, .f32⟩
  | 1 => ⟨S128x1024, .f32⟩
  | 2 => ⟨S128x1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_12 : Ref sig .tc := ⟨.hbm, 116, rfl⟩
abbrev main_v77 : Ref sig .tc := ⟨.hbm, 117, rfl⟩
abbrev main_v78 : Ref sig .tc := ⟨.hbm, 118, rfl⟩
abbrev main_cst_13 : Ref sig .tc := ⟨.hbm, 119, rfl⟩
abbrev main_v79 : Ref sig .tc := ⟨.hbm, 120, rfl⟩
abbrev main_v80 : Ref sig .tc := ⟨.hbm, 121, rfl⟩
abbrev main_cst_14 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1024x1024 : Shape := ⟨2, ![1024, 1024]⟩
abbrev S8x1024x256 : Shape := ⟨3, ![8, 1024, 256]⟩
abbrev S8x256x1024 : Shape := ⟨3, ![8, 256, 1024]⟩
abbrev S128x3072 : Shape := ⟨2, ![128, 3072]⟩
abbrev S128x4x128x128 : Shape := ⟨4, ![128, 4, 128, 128]⟩
abbrev S2816x1024 : Shape := ⟨2, ![2816, 1024]⟩
abbrev S128x1024 : Shape := ⟨2, ![128, 1024]⟩
abbrev S15x128x512 : Shape := ⟨3, ![15, 128, 512]⟩
abbrev S1x512 : Shape := ⟨2, ![1, 512]⟩
abbrev S128x8x128 : Shape := ⟨3, ![128, 8, 128]⟩
abbrev S1x1024x1024 : Shape := ⟨3, ![1, 1024, 1024]⟩
abbrev S1x1024x256 : Shape := ⟨3, ![1, 1024, 256]⟩
abbrev S1x256x1024 : Shape := ⟨3, ![1, 256, 1024]⟩
abbrev S8x2048 : Shape := ⟨2, ![8, 2048]⟩
abbrev S8x4x128x128 : Shape := ⟨4, ![8, 4, 128, 128]⟩
abbrev S176x1024 : Shape := ⟨2, ![176, 1024]⟩
abbrev S128x512 : Shape := ⟨2, ![128, 512]⟩
abbrev S4 : Shape := ⟨1, ![4]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S120x128 : Shape := ⟨2, ![120, 128]⟩
abbrev S8x128 : Shape := ⟨2, ![8, 128]⟩
abbrev S128x128 : Shape := ⟨2, ![128, 128]⟩
abbrev S1x128 : Shape := ⟨2, ![1, 128]⟩
abbrev S128x1 : Shape := ⟨2, ![128, 1]⟩
abbrev S1x1x128x128 : Shape := ⟨4, ![1, 1, 128, 128]⟩
abbrev S128 : Shape := ⟨1, ![128]⟩
abbrev S1x128x128 : Shape := ⟨3, ![1, 128, 128]⟩
abbrev S14x128x512 : Shape := ⟨3, ![14, 128, 512]⟩
abbrev S1x128x512 : Shape := ⟨3, ![1, 128, 512]⟩
abbrev S128x1x128 : Shape := ⟨3, ![128, 1, 128]⟩

abbrev nBuf : Space → Nat
  | .hbm => 20
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1024x1024, .bf16⟩
  | .hbm, ⟨3, _⟩ => ⟨S8x1024x256, .bf16⟩
  | .hbm, ⟨4, _⟩ => ⟨S8x256x1024, .bf16⟩
  | .hbm, ⟨5, _⟩ => ⟨S1024x1024, .bf16⟩
  | .hbm, ⟨6, _⟩ => ⟨S128x3072, .f32⟩
  | .hbm, ⟨7, _⟩ => ⟨S128x4x128x128, .f32⟩
  | .hbm, ⟨8, _⟩ => ⟨S2816x1024, .f32⟩
  | .hbm, ⟨9, _⟩ => ⟨S128x1024, .f32⟩
  | .hbm, ⟨10, _⟩ => ⟨S128x3072, .f32⟩
  | .hbm, ⟨11, _⟩ => ⟨S15x128x512, .f32⟩
  | .hbm, ⟨12, _⟩ => ⟨S1x512, .f32⟩
  | .hbm, ⟨13, _⟩ => ⟨S1024x1024, .bf16⟩
  | .hbm, ⟨14, _⟩ => ⟨S8x2048x1024, .f32⟩
  | .hbm, ⟨15, _⟩ => ⟨S128x4x128x128, .f32⟩
  | .hbm, ⟨16, _⟩ => ⟨S2816x1024, .bf16⟩
  | .hbm, ⟨17, _⟩ => ⟨S128x1024, .f32⟩
  | .hbm, ⟨18, _⟩ => ⟨S15x128x512, .f32⟩
  | .hbm, ⟨19, _⟩ => ⟨S128x8x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S8x2048, .f32⟩
  | .local _ .vmem, ⟨10, _⟩ => ⟨S8x2048, .f32⟩
  | .local _ .vmem, ⟨11, _⟩ => ⟨S8x4x128x128, .f32⟩
  | .local _ .vmem, ⟨12, _⟩ => ⟨S8x4x128x128, .f32⟩
  | .local _ .vmem, ⟨13, _⟩ => ⟨S176x1024, .f32⟩
  | .local _ .vmem, ⟨14, _⟩ => ⟨S176x1024, .f32⟩
  | .local _ .vmem, ⟨15, _⟩ => ⟨S1x512, .f32⟩
  | .local _ .vmem, ⟨16, _⟩ => ⟨S1x1024x1024, .f32⟩
  | .local _ .vmem, ⟨17, _⟩ => ⟨S1x1024x1024, .f32⟩
  | .local _ .vmem, ⟨18, _⟩ => ⟨S8x4x128x128, .f32⟩
  | .local _ .vmem, ⟨19, _⟩ => ⟨S8x4x128x128, .f32⟩
  | .local _ .vmem, ⟨20, _⟩ => ⟨S176x1024, .bf16⟩
  | .local _ .vmem, ⟨21, _⟩ => ⟨S176x1024, .bf16⟩
  | .local _ .vmem, ⟨22, _⟩ => ⟨S128x1024, .f32⟩
  | .local _ .vmem, ⟨23, _⟩ => ⟨S15x128x512, .f32⟩
  | .local _ .vmem, ⟨24, _⟩ => ⟨S128x8x128, .f32⟩
  | .local _ .vmem, ⟨25, _⟩ => ⟨S1024x1024, .bf16⟩
  | .local _ .vmem, ⟨26, _⟩ => ⟨S128x512, .f32⟩
  | .local _ .vmem, ⟨27, _⟩ => ⟨S128x1024, .f32⟩
  | .local _ .vmem, ⟨28, _⟩ => ⟨S128x3072, .f32⟩
  | .local _ .vmem, ⟨29, _⟩ => ⟨S15x128x512, .f32⟩
  | .local _ .vmem, ⟨30, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_2 : BitVec 32 := 0#32
  let v5 : BitVec 1 := Scalar.cmpi .ne v4 c0_i32_2
  v5

def k0_mult1 (i : grid0.Coords) : BitVec 32 :=
  let arg0 : BitVec 32 := BitVec.ofNat 32 (i 0).val
  let c8_i32 : BitVec 32 := 8#32
  let v240 : BitVec 32 := Scalar.muli arg0 c8_i32
  v240
def k0_off1 (i : grid0.Coords) : Fin 2 → Nat :=
  let arg0 : BitVec 32 := BitVec.ofNat 32 (i 0).val
  let c8_i32 : BitVec 32 := 8#32
  let v240 : BitVec 32 := Scalar.muli arg0 c8_i32
  let v404 : BitVec 32 := v240
  let v405 : Index := Scalar.indexCast v404
  let c0_236 : Index := 0#32
  ![v405.toNat, 0]
def k0_mult2 (i : grid0.Coords) : BitVec 32 :=
  let arg0 : BitVec 32 := BitVec.ofNat 32 (i 0).val
  let c8_i32 : BitVec 32 := 8#32
  let v240 : BitVec 32 := Scalar.muli arg0 c8_i32
  v240
def k0_off2 (i : grid0.Coords) : Fin 2 → Nat :=
  let arg0 : BitVec 32 := BitVec.ofNat 32 (i 0).val
  let c8_i32 : BitVec 32 := 8#32
  let v240 : BitVec 32 := Scalar.muli arg0 c8_i32
  let v571 : BitVec 32 := v240
  let v572 : Index := Scalar.indexCast v571
  let c128_327 : Index := 128#32
  ![v572.toNat, 128]
def k0_mult3 (i : grid0.Coords) : BitVec 32 :=
  let arg0 : BitVec 32 := BitVec.ofNat 32 (i 0).val
  let c8_i32 : BitVec 32 := 8#32
  let v240 : BitVec 32 := Scalar.muli arg0 c8_i32
  v240
def k0_off3 (i : grid0.Coords) : Fin 2 → Nat :=
  let arg0 : BitVec 32 := BitVec.ofNat 32 (i 0).val
  let c8_i32 : BitVec 32 := 8#32
  let v240 : BitVec 32 := Scalar.muli arg0 c8_i32
  let v738 : BitVec 32 := v240
  let v739 : Index := Scalar.indexCast v738
  let c256_420 : Index := 256#32
  ![v739.toNat, 256]
def k0_mult4 (i : grid0.Coords) : BitVec 32 :=
  let arg0 : BitVec 32 := BitVec.ofNat 32 (i 0).val
  let c8_i32 : BitVec 32 := 8#32
  let v240 : BitVec 32 := Scalar.muli arg0 c8_i32
  v240
def k0_off4 (i : grid0.Coords) : Fin 2 → Nat :=
  let arg0 : BitVec 32 := BitVec.ofNat 32 (i 0).val
  let c8_i32 : BitVec 32 := 8#32
  let v240 : BitVec 32 := Scalar.muli arg0 c8_i32
  let v905 : BitVec 32 := v240
  let v906 : Index := Scalar.indexCast v905
  let c384_511 : Index := 384#32
  ![v906.toNat, 384]
def k0_cond3 (i : grid0.Coords) : BitVec 1 :=
  let arg0 : BitVec 32 := BitVec.ofNat 32 (i 0).val
  let c16_i32_3 : BitVec 32 := 16#32
  let v6 : BitVec 1 := Scalar.cmpi .eq arg0 c16_i32_3
  let v7 : BitVec 32 := Scalar.extui v6
  let c0_i32_8 : BitVec 32 := 0#32
  let v8 : BitVec 1 := Scalar.cmpi .ne v7 c0_i32_8
  v8

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_15 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_16 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S15x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel2Ideal.lean ====
variable {F : FTy → Type} [FloatOps F] [Named F]
def κ : String → Option EReal := fun
  | "query_scale" => some (((16 * (Real.log 2))⁻¹ : ℝ) : EReal)
  | _ => none
-- ==== Reference2Ideal.lean ====
abbrev S8x2048x1024 : Shape := ⟨3, ![8, 2048, 1024]⟩
abbrev S1x1024 : Shape := ⟨2, ![1, 1024]⟩
abbrev S1024x1024 : Shape := ⟨2, ![1024, 1024]⟩
abbrev S8x1024x256 : Shape := ⟨3, ![8, 1024, 256]⟩
abbrev S8x256x1024 : Shape := ⟨3, ![8, 256, 1024]⟩
abbrev S128x3072 : Shape := ⟨2, ![128, 3072]⟩
abbrev S128x4x128x128 : Shape := ⟨4, ![128, 4, 128, 128]⟩
abbrev S2816x1024 : Shape := ⟨2, ![2816, 1024]⟩
abbrev S128x1024 : Shape := ⟨2, ![128, 1024]⟩
abbrev S15x128x512 : Shape := ⟨3, ![15, 128, 512]⟩
abbrev S1x512 : Shape := ⟨2, ![1, 512]⟩
abbrev S8x256x4x256 : Shape := ⟨4, ![8, 256, 4, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S128x2048 : Shape := ⟨2, ![128, 2048]⟩
abbrev S128x512 : Shape := ⟨2, ![128, 512]⟩
abbrev S128x4x128 : Shape := ⟨3, ![128, 4, 128]⟩
abbrev S128x4x128x1 : Shape := ⟨4, ![128, 4, 128, 1]⟩
abbrev S128x4x1x128 : Shape := ⟨4, ![128, 4, 1, 128]⟩
abbrev S4x128 : Shape := ⟨2, ![4, 128]⟩
abbrev S128x4 : Shape := ⟨2, ![128, 4]⟩
abbrev S128x4x1 : Shape := ⟨3, ![128, 4, 1]⟩
abbrev S1x4x128 : Shape := ⟨3, ![1, 4, 128]⟩
abbrev S1x128x512 : Shape := ⟨3, ![1, 128, 512]⟩
abbrev S16x128x512 : Shape := ⟨3, ![16, 128, 512]⟩
abbrev S2x128x128 : Shape := ⟨3, ![2, 128, 128]⟩
abbrev S128x128 : Shape := ⟨2, ![128, 128]⟩
abbrev S4x128x128 : Shape := ⟨3, ![4, 128, 128]⟩
abbrev S8x128x128 : Shape := ⟨3, ![8, 128, 128]⟩
abbrev S16x128x128 : Shape := ⟨3, ![16, 128, 128]⟩
abbrev S128 : Shape := ⟨1, ![128]⟩
abbrev S128x1 : Shape := ⟨2, ![128, 1]⟩
abbrev S128x4x2x128 : Shape := ⟨4, ![128, 4, 2, 128]⟩
abbrev S128x2x4x128 : Shape := ⟨4, ![128, 2, 4, 128]⟩
abbrev S128x8x128 : Shape := ⟨3, ![128, 8, 128]⟩

abbrev nBuf : Space → Nat
  | .hbm => 164
  | .vmem => 0
  | .smem => 0
  | _ => 0

abbrev hbmTy0_0 (i : Nat) : BufTy := match i % 128 with
  | 0 => ⟨S8x2048x1024, .f32⟩
  | 1 => ⟨S1x1024, .f32⟩
  | 2 => ⟨S1024x1024, .bf16⟩
  | 3 => ⟨S8x1024x256, .bf16⟩
  | 4 => ⟨S8x256x1024, .bf16⟩
  | 5 => ⟨S1024x1024, .bf16⟩
  | 6 => ⟨S128x3072, .f32⟩
  | 7 => ⟨S128x4x128x128, .f32⟩
  | 8 => ⟨S2816x1024, .f32⟩
  | 9 => ⟨S128x1024, .f32⟩
  | 10 => ⟨S128x3072, .f32⟩
  | 11 => ⟨S15x128x512, .f32⟩
  | 12 => ⟨S1x512, .f32⟩
  | 13 => ⟨S1024x1024, .bf16⟩
  | 14 => ⟨S1024x1024, .f32⟩
  | 15 => ⟨S8x1024x256, .f32⟩
  | 16 => ⟨S8x256x1024, .f32⟩
  | 17 => ⟨S1024x1024, .f32⟩
  | 18 => ⟨S1024x1024, .f32⟩
  | 19 => ⟨S8x256x1024, .f32⟩
  | 20 => ⟨S8x256x4x256, .f32⟩
  | 21 => ⟨S8x256x4x256, .f32⟩
  | 22 => ⟨S8x2048x1024, .f32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S_, .f32⟩
  | 30 => ⟨S8x2048x1, .f32⟩
  | 31 => ⟨S8x2048x1, .f32⟩
  | 32 => ⟨S8x2048x1, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x4x256, .f32⟩
  | 40 => ⟨S8x4x2048x256, .f32⟩
  | 41 => ⟨S_, .f32⟩
  | 42 => ⟨S8x4x2048x256, .f32⟩
  | 43 => ⟨S8x4x2048x256, .f32⟩
  | 44 => ⟨S_, .f32⟩
  | 45 => ⟨S8x4x2048, .f32⟩
  | 46 => ⟨S_, .f32⟩
  | 47 => ⟨S8x4x2048, .f32⟩
  | 48 => ⟨S8x4x2048, .f32⟩
  | 49 => ⟨S8x4x2048x1, .f32⟩
  | 50 => ⟨S8x4x2048x256, .f32⟩
  | 51 => ⟨S8x4x2048x256, .f32⟩
  | 52 => ⟨S8x4x2048x256, .f32⟩
  | 53 => ⟨S_, .f32⟩
  | 54 => ⟨S8x4x2048, .f32⟩
  | 55 => ⟨S8x4x2048x1, .f32⟩
  | 56 => ⟨S8x4x2048x256, .f32⟩
  | 57 => ⟨S8x4x2048x256, .f32⟩
  | 58 => ⟨S8x4x256x2048, .f32⟩
  | 59 => ⟨S8x2048x4x256, .f32⟩
  | 60 => ⟨S8x2048x1024, .f32⟩
  | 61 => ⟨S8x2048x1024, .f32⟩
  | 62 => ⟨S8x2048x1024, .f32⟩
  | 63 => ⟨S128x2048, .f32⟩
  | 64 => ⟨S128x512, .f32⟩
  | 65 => ⟨S128x512, .f32⟩
  | 66 => ⟨S128x512, .f32⟩
  | 67 => ⟨S128x512, .f32⟩
  | 68 => ⟨S128x4x128, .f32⟩
  | 69 => ⟨S128x4x128, .f32⟩
  | 70 => ⟨S128x4x128, .f32⟩
  | 71 => ⟨S128x4x128, .f32⟩
  | 72 => ⟨S128x1024, .f32⟩
  | 73 => ⟨S128x512, .f32⟩
  | 74 => ⟨S128x512, .f32⟩
  | 75 => ⟨S128x4x128x1, .f32⟩
  | 76 => ⟨S128x4x128x128, .f32⟩
  | 77 => ⟨S128x4x128x128, .f32⟩
  | 78 => ⟨S128x4x128x1, .f32⟩
  | 79 => ⟨S128x4x1x128, .f32⟩
  | 80 => ⟨S128x4x128x128, .f32⟩
  | 81 => ⟨S128x4x128x128, .f32⟩
  | 82 => ⟨S128x4x128x128, .f32⟩
  | 83 => ⟨S128x4x128x128, .f32⟩
  | 84 => ⟨S128x4x128, .f32⟩
  | 85 => ⟨S4x128, .f32⟩
  | 86 => ⟨S128x4x128, .f32⟩
  | 87 => ⟨S_, .f32⟩
  | 88 => ⟨S128x4, .f32⟩
  | 89 => ⟨S128x4x1, .f32⟩
  | 90 => ⟨S_, .f32⟩
  | 91 => ⟨S128x4x1, .f32⟩
  | 92 => ⟨S128x4x1, .f32⟩
  | 93 => ⟨S_, .f32⟩
  | 94 => ⟨S128x4x1, .f32⟩
  | 95 => ⟨S128x4x1, .f32⟩
  | 96 => ⟨S128x4x1, .f32⟩
  | 97 => ⟨S128x4x128, .f32⟩
  | 98 => ⟨S128x4x128, .f32⟩
  | 99 => ⟨S1x4x128, .f32⟩
  | 100 => ⟨S128x4x128, .f32⟩
  | 101 => ⟨S128x4x128, .f32⟩
  | 102 => ⟨S128x512, .f32⟩
  | 103 => ⟨S128x512, .f32⟩
  | 104 => ⟨S1x128x512, .f32⟩
  | 105 => ⟨S16x128x512, .f32⟩
  | 106 => ⟨S2x128x128, .f32⟩
  | 107 => ⟨S_, .f32⟩
  | 108 => ⟨S128x128, .f32⟩
  | 109 => ⟨S_, .f32⟩
  | 110 => ⟨S128x128, .f32⟩
  | 111 => ⟨S128x128, .f32⟩
  | 112 => ⟨S4x128x128, .f32⟩
  | 113 => ⟨S_, .f32⟩
  | 114 => ⟨S128x128, .f32⟩
  | 115 => ⟨S_, .f32⟩
  | 116 => ⟨S128x128, .f32⟩
  | 117 => ⟨S128x128, .f32⟩
  | 118 => ⟨S8x128x128, .f32⟩
  | 119 => ⟨S_, .f32⟩
  | 120 => ⟨S128x128, .f32⟩
  | 121 => ⟨S_, .f32⟩
  | 122 => ⟨S128x128, .f32⟩
  | 123 => ⟨S128x128, .f32⟩
  | 124 => ⟨S16x128x128, .f32⟩
  | 125 => ⟨S_, .f32⟩
  | 126 => ⟨S128x128, .f32⟩
  | 127 => ⟨S_, .f32⟩
  | _ => ⟨S8x2048x1024, .f32⟩

abbrev hbmTy0_1 (i : Nat) : BufTy := match i % 128 with
  | 0 => ⟨S128x128, .f32⟩
  | 1 => ⟨S128x128, .f32⟩
  | 2 => ⟨S128x512, .f32⟩
  | 3 => ⟨S128x512, .f32⟩
  | 4 => ⟨S128x1024, .f32⟩
  | 5 => ⟨S128x1024, .f32⟩
  | 6 => ⟨S128x1024, .f32⟩
  | 7 => ⟨S128x1024, .f32⟩
  | 8 => ⟨S_, .f32⟩
  | 9 => ⟨S128, .f32⟩
  | 10 => ⟨S128x1, .f32⟩
  | 11 => ⟨S_, .f32⟩
  | 12 => ⟨S128x1, .f32⟩
  | 13 => ⟨S128x1, .f32⟩
  | 14 => ⟨S_, .f32⟩
  | 15 => ⟨S128x1, .f32⟩
  | 16 => ⟨S128x1, .f32⟩
  | 17 => ⟨S128x1, .f32⟩
  | 18 => ⟨S128x1024, .f32⟩
  | 19 => ⟨S128x1024, .f32⟩
  | 20 => ⟨S128x1024, .f32⟩
  | 21 => ⟨S128x1024, .f32⟩
  | 22 => ⟨S128x1024, .f32⟩
  | 23 => ⟨S_, .f32⟩
  | 24 => ⟨S128x1024, .f32⟩
  | 25 => ⟨S128x1024, .f32⟩
  | 26 => ⟨S_, .f32⟩
  | 27 => ⟨S_, .f32⟩
  | 28 => ⟨S_, .f32⟩
  | 29 => ⟨S128x1024, .f32⟩
  | 30 => ⟨S128x1024, .f32⟩
  | 31 => ⟨S128x4x2x128, .f32⟩
  | 32 => ⟨S128x2x4x128, .f32⟩
  | 33 => ⟨S128x8x128, .f32⟩
  | 34 => ⟨S2816x1024, .bf16⟩
  | 35 => ⟨S15x128x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_cst_7 : Ref sig .tc := ⟨.hbm, 90, rfl⟩
abbrev main_v68 : Ref sig .tc := ⟨.hbm, 91, rfl⟩
abbrev main_v69 : Ref sig .tc := ⟨.hbm, 92, rfl⟩
abbrev main_cst_8 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_9 : Ref sig .tc := ⟨.hbm, 107, rfl⟩
abbrev main_v83 : Ref sig .tc := ⟨.hbm, 108, rfl⟩
abbrev main_cst_10 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_cst_12 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_13 : Ref sig .tc := ⟨.hbm, 119, rfl⟩
abbrev main_v91 : Ref sig .tc := ⟨.hbm, 120, rfl⟩
abbrev main_cst_14 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_15 : Ref sig .tc := ⟨.hbm, 125, rfl⟩
abbrev main_v95 : Ref sig .tc := ⟨.hbm, 126, rfl⟩
abbrev main_cst_16 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_17 : Ref sig .tc := ⟨.hbm, 136, rfl⟩
abbrev main_v104 : Ref sig .tc := ⟨.hbm, 137, rfl⟩
abbrev main_v105 : Ref sig .tc := ⟨.hbm, 138, rfl⟩
abbrev main_cst_18 : Ref sig .tc := ⟨.hbm, 139, rfl⟩
abbrev main_v106 : Ref sig .tc := ⟨.hbm, 140, rfl⟩
abbrev main_v107 : Ref sig .tc := ⟨.hbm, 141, rfl⟩
abbrev main_cst_19 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_20 : Ref sig .tc := ⟨.hbm, 151, rfl⟩
abbrev main_v116 : Ref sig .tc := ⟨.hbm, 152, rfl⟩
abbrev main_v117 : Ref sig .tc := ⟨.hbm, 153, rfl⟩
abbrev main_cst_21 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩

abbrev nD : Nat := 1
abbrev τ : Topo := Topo.v7x

variable {F : FTy → Type} [FloatOps F]
-- ==== Proof.Ideal.Setup.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! What the runs of the kernel's body share: the operands it is called with beside its staged windows. -/

/-- The kernel's own buffers: the attention rows, the sample residual rows, the output weight. -/
abbrev scAtt : Memref sig .tc .vmem S128x8x128 .f32 := Memref.whole cc0_scratch0
abbrev scXs : Memref sig .tc .vmem S128x1024 .f32 := Memref.whole cc0_scratch1
abbrev scWo : Memref sig .tc .vmem S1024x1024 .bf16 := Memref.whole cc0_scratch2
/-- The two operands left in HBM: the sample rows and the output weight. -/
abbrev hbXs : Memref sig .tc .hbm S128x1024 .f32 := Memref.whole main_arg8
abbrev hbWo : Memref sig .tc .hbm S1024x1024 .bf16 := Memref.whole main_arg9
/-- A buffer, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two semaphores the kernel's copies signal. -/
abbrev osem0 : Fin 2 → SemLoc sig := fun j => (![SemLoc.dma 14, SemLoc.dma 15] : Fin 2 → SemLoc sig) j
theorem ownSemFacts0 : Pipeline.OwnSemFacts spec0 osem0 := by decide
abbrev cellA : SemLoc sig := SemLoc.dma 14
abbrev cellB : SemLoc sig := SemLoc.dma 15

end Cert.KernelIdeal.Hand

end
-- ==== Proof.Ideal.Blocks.lean ====
module

public import proofs.«01_k».proof.Proof.Ideal.Setup
public import Idealize.ShloMosaic.Lib.WritesUnit
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! What the body computes at a grid point, as functions of the blocks it is given. -/

/-- 768 columns of the fused gate/up weight, from column `o`. -/
abbrev wcol (w : Vec F S1024x5632 .bf16) (o : ℕ) (h : ∀ a, (![0, o] : Fin 2 → ℕ) a + S1024x768.size a ≤ S1024x5632.size a) : Vec F S1024x768 .bf16 :=
  View.ld (Val := Elt F) (e' := .bf16) w (Rect.unit (s := S1024x5632) ![0, o] S1024x768.size h)
/-- 512 columns of it. -/
abbrev wcol5 (w : Vec F S1024x5632 .bf16) (o : ℕ) (h : ∀ a, (![0, o] : Fin 2 → ℕ) a + S1024x512.size a ≤ S1024x5632.size a) : Vec F S1024x512 .bf16 :=
  View.ld (Val := Elt F) (e' := .bf16) w (Rect.unit (s := S1024x5632) ![0, o] S1024x512.size h)
/-- The down weight's first 2304 rows, -/
abbrev w2a (w : Vec F S2816x1024 .bf16) : Vec F S2304x1024 .bf16 :=
  View.ld (Val := Elt F) (e' := .bf16) w (Rect.unit (s := S2816x1024) ![0, 0] S2304x1024.size inb_S2816x1024_S2304x1024_0_0)
/-- and its last 512. -/
abbrev w2b (w : Vec F S2816x1024 .bf16) : Vec F S512x1024 .bf16 :=
  View.ld (Val := Elt F) (e' := .bf16) w (Rect.unit (s := S2816x1024) ![2304, 0] S512x1024.size inb_S2816x1024_S512x1024_2304_0)

/-- The prompt rows' block: the feed-forward layer and the last norm of 512 rows `x0`. -/
def outBlk (x0 : Vec F S512x1024 .f32) (x1 : Vec F S1x1024 .f32) (x2 : Vec F S1024x5632 .bf16) (x3 : Vec F S2816x1024 .bf16) (x4 : Vec F S1x1024 .f32) : Vec F S512x1024 .f32 :=
  k0_pay1 (k0_pay25 (k0_pay17 (k0_pay3 x0 x1) (wcol5 x2 2304 inb_S1024x5632_S1024x512_0_2304)) (k0_pay18 (k0_pay3 x0 x1) (wcol5 x2 5120 inb_S1024x5632_S1024x512_0_5120)))
    (k0_pay26 x0
      (k0_pay10 (k0_pay4 x0 x1 (wcol x2 0 inb_S1024x5632_S1024x768_0_0)) (k0_pay5 x0 x1 (wcol x2 2816 inb_S1024x5632_S1024x768_0_2816)))
      (k0_pay16 (k0_pay6 x0 x1 (wcol x2 768 inb_S1024x5632_S1024x768_0_768)) (k0_pay7 x0 x1 (wcol x2 3584 inb_S1024x5632_S1024x768_0_3584)) k0_pay14 (k0_pay15 (k0_pay7 x0 x1 (wcol x2 3584 inb_S1024x5632_S1024x768_0_3584))))
      (k0_pay22 (k0_pay11 (k0_pay3 x0 x1) (wcol x2 1536 inb_S1024x5632_S1024x768_0_1536) (constant S512x768 .f32 0x00000000#32)) (k0_pay12 (k0_pay3 x0 x1) (wcol x2 4352 inb_S1024x5632_S1024x768_0_4352)))
      (w2a x3)) (w2b x3) x4

/-- One batch row of the decode attention, from its keys, its query and its values. -/
abbrev attRow (k : Vec F S1x256x8x128 .f32) (q : Vec F S1x8x128 .f32) (v : Vec F S1x256x8x128 .f32) : Vec F S1x8x128 .f32 := k0_pay13 k q v

/-- Row `b` of the queries. -/
def qRow (q : Vec F S128x8x128 .f32) (b : Fin 128) : Vec F S1x8x128 .f32 := fun j => q (Fin.cons b (fun a => j a.succ))
/-- Row `r` of a block of four batch rows of keys or values. -/
def kvRow (k : Vec F S4x256x8x128 .f32) (r : Fin 4) : Vec F S1x256x8x128 .f32 := fun j => k (Fin.cons r (fun a => j a.succ))

/-- The decode rows, once every attention row is there. -/
def sampBlk (x1 : Vec F S1x1024 .f32) (x2 : Vec F S1024x5632 .bf16) (x3 : Vec F S2816x1024 .bf16) (x4 : Vec F S1x1024 .f32) (s : Vec F S128x1024 .f32) : Vec F S128x1x1024 .f32 :=
  k0_pay2
    (k0_pay34 s (k0_pay29 s x1 (wcol x2 768 inb_S1024x5632_S1024x768_0_768)) (k0_pay30 s x1 (wcol x2 3584 inb_S1024x5632_S1024x768_0_3584))
      (k0_pay31 s x1 (wcol x2 0 inb_S1024x5632_S1024x768_0_0) (wcol x2 2816 inb_S1024x5632_S1024x768_0_2816))
      (k0_pay32 s x1 (wcol x2 1536 inb_S1024x5632_S1024x768_0_1536)) (k0_pay33 s x1 (wcol x2 4352 inb_S1024x5632_S1024x768_0_4352))
      (Scalar.ofBits .f32 0x00000000#32) (w2a x3))
    (k0_pay35 (k0_pay28 s x1) (wcol5 x2 2304 inb_S1024x5632_S1024x512_0_2304) (wcol5 x2 5120 inb_S1024x5632_S1024x512_0_5120) (w2b x3)) x4

/-- One of the eight (half, head) planes of the attention rows. -/
abbrev plane (a : Vec F S128x8x128 .f32) (o : ℕ) (h : ∀ x, (![0, o, 0] : Fin 3 → ℕ) x + S128x1x128.size x ≤ S128x8x128.size x) : Vec F S128x1x128 .f32 :=
  View.ld (Val := Elt F) (e' := .f32) a (Rect.unit (s := S128x8x128) ![0, o, 0] S128x1x128.size h)

/-- The decode rows after the output projection, from the attention rows. -/
def sampIn (a : Vec F S128x8x128 .f32) (xs : Vec F S128x1024 .f32) (wo : Vec F S1024x1024 .bf16) : Vec F S128x1024 .f32 :=
  k0_pay27 (plane a 0 inb_S128x8x128_S128x1x128_0_0_0) (plane a 4 inb_S128x8x128_S128x1x128_0_4_0) (plane a 1 inb_S128x8x128_S128x1x128_0_1_0) (plane a 5 inb_S128x8x128_S128x1x128_0_5_0)
    (plane a 2 inb_S128x8x128_S128x1x128_0_2_0) (plane a 6 inb_S128x8x128_S128x1x128_0_6_0) (plane a 3 inb_S128x8x128_S128x1x128_0_3_0) (plane a 7 inb_S128x8x128_S128x1x128_0_7_0) xs wo

/-- The attention rows after a point has stored its four, from the point's blocks and the rows before. -/
def attStep (i : grid0.Coords) (q : Vec F S128x8x128 .f32) (k v : Vec F S4x256x8x128 .f32) (fa : S128x8x128.Idx → F .f32) : S128x8x128.Idx → F .f32 := fun y =>
  if h : 4 * (i 0).val ≤ (y 0).val ∧ (y 0).val < 4 * (i 0).val + 4 then
    attRow (kvRow k ⟨(y 0).val - 4 * (i 0).val, by omega⟩) (qRow q (y 0)) (kvRow v ⟨(y 0).val - 4 * (i 0).val, by omega⟩) (Fin.cons (0 : Fin 1) (fun a => y a.succ))
  else fa y

theorem ld_kvRow (k : Vec F S4x256x8x128 .f32) (r : ℕ) (hr : r < 4) (h : ∀ a, (![r, 0, 0, 0] : Fin 4 → ℕ) a + S1x256x8x128.size a ≤ S4x256x8x128.size a) :
    View.ld (Val := Elt F) (e' := .f32) k (Rect.unit (s := S4x256x8x128) ![r, 0, 0, 0] S1x256x8x128.size h) = kvRow k ⟨r, hr⟩ := by
  funext x
  refine congrArg k (funext fun a => Fin.ext ?_)
  have h0 : (x 0).val = 0 := Nat.lt_one_iff.mp (x 0).isLt
  fin_cases a
  · show r + 1 * (x 0).val = r; omega
  · show 0 + 1 * (x 1).val = (x 1).val; omega
  · show 0 + 1 * (x 2).val = (x 2).val; omega
  · show 0 + 1 * (x 3).val = (x 3).val; omega

theorem ld_qRow (q : Vec F S128x8x128 .f32) (b : Fin 128) (off : Fin 3 → ℕ) (ho : off = ![b.val, 0, 0]) (h : ∀ a, off a + S1x8x128.size a ≤ S128x8x128.size a) :
    View.ld (Val := Elt F) (e' := .f32) q (Rect.unit (s := S128x8x128) off S1x8x128.size h) = qRow q b := by
  subst ho
  funext x
  refine congrArg q (funext fun a => Fin.ext ?_)
  have h0 : (x 0).val = 0 := Nat.lt_one_iff.mp (x 0).isLt
  fin_cases a
  · show b.val + 1 * (x 0).val = b.val; omega
  · show 0 + 1 * (x 1).val = (x 1).val; omega
  · show 0 + 1 * (x 2).val = (x 2).val; omega

/-- The four rows' stores, one after the other, are the step. -/
theorem att_rows (i : grid0.Coords) (q : Vec F S128x8x128 .f32) (k v : Vec F S4x256x8x128 .f32) (fa : scAtt.view.ty.Contents (Elt F))
    (h0 : ∀ a, k0_off1 i 0#32 a + S1x8x128.size a ≤ S128x8x128.size a) (h1 : ∀ a, k0_off1 i 1#32 a + S1x8x128.size a ≤ S128x8x128.size a)
    (h2 : ∀ a, k0_off1 i 2#32 a + S1x8x128.size a ≤ S128x8x128.size a) (h3 : ∀ a, k0_off1 i 3#32 a + S1x8x128.size a ≤ S128x8x128.size a)
    (hi : (i 0).val < 32) (b0 b1 b2 b3 : Fin 128) (e0 : b0.val = 4 * (i 0).val) (e1 : b1.val = 4 * (i 0).val + 1) (e2 : b2.val = 4 * (i 0).val + 2) (e3 : b3.val = 4 * (i 0).val + 3) :
    scAtt.view.writes (Elt F) fa
      [(⟨Rect.unit (s := S128x8x128) (k0_off1 i 3#32) S1x8x128.size h3, attRow (kvRow k 3) (qRow q b3) (kvRow v 3)⟩ : View.Piece (Elt F) S128x8x128 .f32),
       ⟨Rect.unit (s := S128x8x128) (k0_off1 i 2#32) S1x8x128.size h2, attRow (kvRow k 2) (qRow q b2) (kvRow v 2)⟩,
       ⟨Rect.unit (s := S128x8x128) (k0_off1 i 1#32) S1x8x128.size h1, attRow (kvRow k 1) (qRow q b1) (kvRow v 1)⟩,
       ⟨Rect.unit (s := S128x8x128) (k0_off1 i 0#32) S1x8x128.size h0, attRow (kvRow k 0) (qRow q b0) (kvRow v 0)⟩]
      = attStep i q k v fa := by
  funext y
  refine Eq.trans (congrFun (View.read_whole (Val := Elt F) cc0_scratch0 _).symm y) ?_
  unfold attStep
  have key : ∀ (r : Fin 4) (b : Fin 128), b.val = 4 * (i 0).val + r.val → (y 0).val = b.val →
      ∀ (h : ∀ a, k0_off1 i (BitVec.ofNat 32 r.val) a + S1x8x128.size a ≤ S128x8x128.size a) L,
      scAtt.view.read (Elt F) (scAtt.view.writes (Elt F) fa ((⟨Rect.unit (s := S128x8x128) (k0_off1 i (BitVec.ofNat 32 r.val)) S1x8x128.size h, attRow (kvRow k r) (qRow q b) (kvRow v r)⟩ : View.Piece (Elt F) S128x8x128 .f32) :: L)) y
        = if h : 4 * (i 0).val ≤ (y 0).val ∧ (y 0).val < 4 * (i 0).val + 4 then
            attRow (kvRow k ⟨(y 0).val - 4 * (i 0).val, by omega⟩) (qRow q (y 0)) (kvRow v ⟨(y 0).val - 4 * (i 0).val, by omega⟩) (Fin.cons (0 : Fin 1) (fun a => y a.succ))
          else fa y := by
    intro r b hb hy h L
    rw [dif_pos (by omega)]
    refine (View.read_writes_cons_unit_of_mem scAtt.view fa h _ L y (Fin.cons (0 : Fin 1) (fun a => y a.succ)) (k0_off1_eq i r) ?_).trans ?_
    · intro a
      fin_cases a
      · show (y 0).val = 4 * (i 0).val + r.val + 0; omega
      · show (y 1).val = 0 + (y 1).val; omega
      · show (y 2).val = 0 + (y 2).val; omega
    · have : (⟨(y 0).val - 4 * (i 0).val, by omega⟩ : Fin 4) = r := Fin.ext (by show (y 0).val - 4 * (i 0).val = r.val; omega)
      have hby : (y 0 : Fin 128) = b := Fin.ext hy
      rw [this, hby]
  by_cases c3 : (y 0).val = 4 * (i 0).val + 3
  · exact key 3 b3 e3 (by omega) h3 _
  refine (View.read_writes_cons_unit_of_not_mem scAtt.view fa h3 _ _ y (k0_off1_eq i 3) 0 (by show (y 0).val < 4 * (i 0).val + 3 ∨ 4 * (i 0).val + 3 + 1 ≤ (y 0).val; omega)).trans ?_
  by_cases c2 : (y 0).val = 4 * (i 0).val + 2
  · exact key 2 b2 e2 (by omega) h2 _
  refine (View.read_writes_cons_unit_of_not_mem scAtt.view fa h2 _ _ y (k0_off1_eq i 2) 0 (by show (y 0).val < 4 * (i 0).val + 2 ∨ 4 * (i 0).val + 2 + 1 ≤ (y 0).val; omega)).trans ?_
  by_cases c1 : (y 0).val = 4 * (i 0).val + 1
  · exact key 1 b1 e1 (by omega) h1 _
  refine (View.read_writes_cons_unit_of_not_mem scAtt.view fa h1 _ _ y (k0_off1_eq i 1) 0 (by show (y 0).val < 4 * (i 0).val + 1 ∨ 4 * (i 0).val + 1 + 1 ≤ (y 0).val; omega)).trans ?_
  by_cases c0 : (y 0).val = 4 * (i 0).val
  · exact key 0 b0 (by rw [e0]; rfl) (by omega) h0 _
  refine (View.read_writes_cons_unit_of_not_mem scAtt.view fa h0 _ _ y (k0_off1_eq i 0) 0 (by show (y 0).val < 4 * (i 0).val + 0 ∨ 4 * (i 0).val + 0 + 1 ≤ (y 0).val; omega)).trans ?_
  rw [dif_neg (by omega)]
  rfl

end Cert.KernelIdeal.Hand

end
-- ==== Proof.Ideal.Dats.lean ====
module

public import proofs.«01_k».proof.Proof.Ideal.Setup
public import proofs.«01_k».proof.Proof.Ideal.Blocks
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## The grid's points -/

theorem co_val : ∀ t : Fin grid0.N, ((grid0.coords t) 0).val = t.val := by decide +kernel
theorem first_iff : ∀ t : Fin grid0.N, (Scalar.cmpi .ne (Scalar.extui (Scalar.cmpi .eq (BitVec.ofNat 32 ((grid0.coords t) 0).val) 0#32) : BitVec 32) 0#32 = 1#1) ↔ t.val = 0 := by decide +kernel
theorem prompt_iff : ∀ t : Fin grid0.N, (k0_cond2 (grid0.coords t) = 1#1) ↔ t.val < 32 := by decide +kernel
theorem sample_iff : ∀ t : Fin grid0.N, (k0_cond3 (grid0.coords t) = 1#1) ↔ t.val = 32 := by decide +kernel
theorem flush8_iff : ∀ t : Fin grid0.N, win0_8.flush t = true ↔ t.val ≠ 31 := by decide +kernel
theorem flush9_iff : ∀ t : Fin grid0.N, win0_9.flush t = true ↔ t.val = 32 := by decide +kernel
theorem idx6 : ∀ t : Fin grid0.N, t.val < 32 → win0_6.index t 0 = t.val ∧ win0_6.index t 1 = 0 ∧ win0_6.index t 2 = 0 ∧ win0_6.index t 3 = 0 := by decide +kernel
theorem idx7 : ∀ t : Fin grid0.N, t.val < 32 → win0_7.index t 0 = t.val ∧ win0_7.index t 1 = 0 ∧ win0_7.index t 2 = 0 ∧ win0_7.index t 3 = 0 := by decide +kernel
theorem idx5 : ∀ t : Fin grid0.N, win0_5.index t 0 = 0 ∧ win0_5.index t 1 = 0 ∧ win0_5.index t 2 = 0 := by decide +kernel

/-! ## What the blocks and the attention rows hold -/

/-- Batch row `b` of the keys or the values, in the kernel's layout. -/
def bigRow (k : Vec F S128x256x8x128 .f32) (b : Fin 128) : Vec F S1x256x8x128 .f32 := fun j => k (Fin.cons b (fun a => j a.succ))

/-- Every attention row. -/
def attAll (c : Dev nD) : S128x8x128.Idx → F .f32 := fun y =>
  attRow (bigRow (V m c main_v2) (y 0)) (qRow (V m c main_arg5) (y 0)) (bigRow (V m c main_v5) (y 0)) (Fin.cons (0 : Fin 1) (fun a => y a.succ))

abbrev b0 (c : Dev nD) (t : Fin cfg0.N) : Vec F S512x1024 .f32 := iblk m c 0 t
abbrev b1 (c : Dev nD) (t : Fin cfg0.N) : Vec F S1x1024 .f32 := iblk m c 1 t
abbrev b2 (c : Dev nD) (t : Fin cfg0.N) : Vec F S1024x5632 .bf16 := iblk m c 2 t
abbrev b3 (c : Dev nD) (t : Fin cfg0.N) : Vec F S2816x1024 .bf16 := iblk m c 3 t
abbrev b4 (c : Dev nD) (t : Fin cfg0.N) : Vec F S1x1024 .f32 := iblk m c 4 t
abbrev b5 (c : Dev nD) (t : Fin cfg0.N) : Vec F S128x8x128 .f32 := iblk m c 5 t
abbrev b6 (c : Dev nD) (t : Fin cfg0.N) : Vec F S4x256x8x128 .f32 := iblk m c 6 t
abbrev b7 (c : Dev nD) (t : Fin cfg0.N) : Vec F S4x256x8x128 .f32 := iblk m c 7 t

theorem b5_eq (c : Dev nD) (t : Fin cfg0.N) : b5 m c t = V m c main_arg5 := by
  funext y
  have h := idx5 t
  refine congrArg (V m c main_arg5) (funext fun a => Fin.ext ?_)
  blk_simp
  fin_cases a
  · show win0_5.index t 0 * 128 + (y 0).val = (y 0).val; rw [h.1]; omega
  · show win0_5.index t 1 * 8 + (y 1).val = (y 1).val; rw [h.2.1]; omega
  · show win0_5.index t 2 * 128 + (y 2).val = (y 2).val; rw [h.2.2]; omega

theorem b6_row (c : Dev nD) (t : Fin cfg0.N) (ht : t.val < 32) (r : Fin 4) (b : Fin 128) (hb : b.val = 4 * t.val + r.val) :
    kvRow (b6 m c t) r = bigRow (V m c main_v2) b := by
  funext y
  have h := idx6 t ht
  refine congrArg (V m c main_v2) (funext fun a => Fin.ext ?_)
  blk_simp
  fin_cases a
  · show win0_6.index t 0 * 4 + r.val = b.val; rw [h.1]; omega
  · show win0_6.index t 1 * 256 + (y 1).val = (y 1).val; rw [h.2.1]; omega
  · show win0_6.index t 2 * 8 + (y 2).val = (y 2).val; rw [h.2.2.1]; omega
  · show win0_6.index t 3 * 128 + (y 3).val = (y 3).val; rw [h.2.2.2]; omega

theorem b7_row (c : Dev nD) (t : Fin cfg0.N) (ht : t.val < 32) (r : Fin 4) (b : Fin 128) (hb : b.val = 4 * t.val + r.val) :
    kvRow (b7 m c t) r = bigRow (V m c main_v5) b := by
  funext y
  have h := idx7 t ht
  refine congrArg (V m c main_v5) (funext fun a => Fin.ext ?_)
  blk_simp
  fin_cases a
  · show win0_7.index t 0 * 4 + r.val = b.val; rw [h.1]; omega
  · show win0_7.index t 1 * 256 + (y 1).val = (y 1).val; rw [h.2.1]; omega
  · show win0_7.index t 2 * 8 + (y 2).val = (y 2).val; rw [h.2.2.1]; omega
  · show win0_7.index t 3 * 128 + (y 3).val = (y 3).val; rw [h.2.2.2]; omega

/-- The rows below `4 n` are there. -/
def RowsTo (c : Dev nD) (n : ℕ) (d : S128x8x128.Idx → F .f32) : Prop := ∀ y, (y 0).val < 4 * n → d y = attAll m c y

/-- A point adds its four rows to those there. -/
theorem rows_step (c : Dev nD) (t : Fin cfg0.N) (ht : t.val < 32) (d : S128x8x128.Idx → F .f32) (h : RowsTo m c t.val d) :
    RowsTo m c (t.val + 1) (attStep (grid0.coords t) (b5 m c t) (b6 m c t) (b7 m c t) d) := by
  intro y hy
  have e := co_val t
  unfold attStep
  by_cases hc : 4 * ((grid0.coords t) 0).val ≤ (y 0).val ∧ (y 0).val < 4 * ((grid0.coords t) 0).val + 4
  · rw [dif_pos hc, b5_eq, b6_row m c t ht _ (y 0) (by show (y 0).val = 4 * t.val + ((y 0).val - 4 * ((grid0.coords t) 0).val); omega),
      b7_row m c t ht _ (y 0) (by show (y 0).val = 4 * t.val + ((y 0).val - 4 * ((grid0.coords t) 0).val); omega)]
    rfl
  · rw [dif_neg hc]
    exact h y (by omega)

theorem rows_none (c : Dev nD) (d : S128x8x128.Idx → F .f32) : RowsTo m c 0 d := fun y hy => absurd hy (by omega)
theorem rows_all (c : Dev nD) (d : S128x8x128.Idx → F .f32) (h : RowsTo m c 32 d) : d = attAll m c :=
  funext fun y => h y (by have := (y 0).isLt; show (y 0).val < 128; exact this)

/-! ## The own-copies invariant -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl

/-- The operands that the body's copies read. -/
def H0 : Finset (Ref sig .tc) := {main_arg8, main_arg9}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hbXs (V m c main_arg8) ∗ pt c hbWo (V m c main_arg9)) := by
  rw [BI.bigSep_eq_bigSepL_of_eq [main_arg8, main_arg9] (by decide) (by decide)]; rfl

theorem PhiD_eq (c : Dev nD) :
    (Pipeline.ΦD osem0 spec0 H0 (V m) c : sProp 𝕄)
      = iprop(iprop((∃ f, pt c scAtt f) ∗ (∃ f, pt c scXs f) ∗ (∃ f, pt c scWo f)) ∗ (∃ r, prngReg c r)
          ∗ iprop(semVal ((c : Thread nD τ), SemLoc.dma 14) 0 ∗ semVal ((c : Thread nD τ), SemLoc.dma 15) 0)
          ∗ iprop(pt c hbXs (V m c main_arg8) ∗ pt c hbWo (V m c main_arg9))) := by
  rw [Pipeline.ΦD_eq, scopedRest0_eq, ownSems00_eq, hbmPts0_eq]

/-- Between the first point and the last: the attention rows so far, the two copies in flight. -/
def mid (c : Dev nD) (n : ℕ) : sProp 𝕄 :=
  iprop((∃ d, ⌜RowsTo m c n d⌝ ∗ pt c scAtt d)
    ∗ Transfers.Flight countersEmb (c : Thread nD τ) (SemLoc.dma 14) () 16384 iprop((scXs.view.loc (c : Thread nD τ) ↦{fullShare} V m c main_arg8) ∗ (hbXs.view.loc (c : Thread nD τ) ↦[hbXs.view.set]{fullShare} V m c main_arg8))
    ∗ Transfers.Flight countersEmb (c : Thread nD τ) (SemLoc.dma 15) () 65536 iprop((scWo.view.loc (c : Thread nD τ) ↦{fullShare} V m c main_arg9) ∗ (hbWo.view.loc (c : Thread nD τ) ↦[hbWo.view.set]{fullShare} V m c main_arg9))
    ∗ (hbXs.view.loc (c : Thread nD τ) ↦[Finset.univ \ hbXs.view.set]{fullShare} V m c main_arg8)
    ∗ (hbWo.view.loc (c : Thread nD τ) ↦[Finset.univ \ hbWo.view.set]{fullShare} V m c main_arg9)
    ∗ (∃ r, prngReg c r))

/-- The last point whose rows are prompt rows, at or before `t`. -/
def lastPrompt (t : Fin cfg0.N) : Fin cfg0.N := ⟨min t.val 31, lt_of_le_of_lt (Nat.min_le_left _ _) t.isLt⟩
theorem lastPrompt_of_lt (t : Fin cfg0.N) (h : t.val < 32) : lastPrompt t = t := Fin.ext (by show min t.val 31 = t.val; omega)

/-- The prompt rows' block after point `t`. -/
def prompt (c : Dev nD) (t : Fin cfg0.N) : Vec F S512x1024 .f32 :=
  outBlk (b0 m c (lastPrompt t)) (b1 m c (lastPrompt t)) (b2 m c (lastPrompt t)) (b3 m c (lastPrompt t)) (b4 m c (lastPrompt t))

/-- The decode rows. -/
def sample (c : Dev nD) (t : Fin cfg0.N) : Vec F S128x1x1024 .f32 :=
  sampBlk (b1 m c t) (b2 m c t) (b3 m c t) (b4 m c t) (sampIn (attAll m c) (V m c main_arg8) (V m c main_arg9))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => prompt m c t
    | ⟨9, _⟩ => sample m c t
  Φ t := if t.val = 0 ∨ t.val = 33 then Pipeline.ΦD osem0 spec0 H0 (V m) c else mid m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = prompt m c t := by dsimp only [dats]
theorem after9 (c : Dev nD) (t : Fin cfg0.N) : (dats m 0 c).after 9 t = sample m c t := by dsimp only [dats]
theorem Phi_end (c : Dev nD) (t : Fin (cfg0.N + 1)) (h : t.val = 0 ∨ t.val = 33) : (dats m 0 c).Φ t = Pipeline.ΦD osem0 spec0 H0 (V m) c := if_pos h
theorem Phi_mid (c : Dev nD) (t : Fin (cfg0.N + 1)) (h : ¬ (t.val = 0 ∨ t.val = 33)) : (dats m 0 c).Φ t = mid m c t.val := if_neg h

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- At the last point the prompt rows' buffer holds what the point before left. -/
theorem before8 (c : Dev nD) (t : Fin cfg0.N) (ht : t.val = 32) (d) : (dats m 0 c).before 8 t d = prompt m c t := by
  have hlt : t.val - 1 < cfg0.N := lt_of_le_of_lt (Nat.sub_le _ _) t.isLt
  have hfl : (cfg0.win 8).flush ⟨t.val - 1, hlt⟩ = false := by
    refine Bool.eq_false_iff.mpr fun h => ?_
    exact (flush8_iff ⟨t.val - 1, hlt⟩).mp h (by show t.val - 1 = 31; omega)
  have hid : idle0 8 (grid0.coords ⟨t.val - 1, hlt⟩) = false := by
    show (!(k0_cond2 (grid0.coords ⟨t.val - 1, hlt⟩) == 1#1)) = false
    rw [(prompt_iff ⟨t.val - 1, hlt⟩).mpr (by show t.val - 1 < 32; omega)]; rfl
  unfold Dat.before
  rw [if_neg (by rw [(cfg0.win 8).fetch_out rfl]; exact Bool.false_ne_true), if_neg (by omega)]
  simp only [hfl, hid]
  rw [if_neg Bool.false_ne_true]
  split
  · rename_i h; exact absurd (hid.symm.trans h) Bool.false_ne_true
  show (dats m 0 c).after 8 ⟨t.val - 1, hlt⟩ = _
  rw [after8]
  unfold prompt
  rw [show lastPrompt ⟨t.val - 1, hlt⟩ = lastPrompt t from Fin.ext (by show min (t.val - 1) 31 = min t.val 31; omega)]

end Cert.KernelIdeal.Hand

end
-- ==== Proof.Ideal.RunA.lean ====
module

public import proofs.«01_k».proof.Proof.Ideal.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 6000000 in
/-- One run of the body at the first grid point: it starts the two copies, computes the prompt block and four attention rows; its ending holds what each buffer then contains. -/
noncomputable def runA (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x0 : Vec F S512x1024 .f32) (x1 : Vec F S1x1024 .f32) (x2 : Vec F S1024x5632 .bf16) (x3 : Vec F S2816x1024 .bf16) (x4 : Vec F S1x1024 .f32) (x5 : Vec F S128x8x128 .f32) (x6 : Vec F S4x256x8x128 .f32) (x7 : Vec F S4x256x8x128 .f32) (fh8 : Buf (Elt F) (hbXs.view.loc (c : Thread nD τ))) (fh9 : Buf (Elt F) (hbWo.view.loc (c : Thread nD τ))) :
    Σ' (LS : List (View.Piece (Elt F) S128x8x128 .f32)), { L8 : List (View.Piece (Elt F) S512x1024 .f32) //
      ∀ (fa : Buf (Elt F) (scAtt.view.loc (c : Thread nD τ))) (f1 : Buf (Elt F) (scXs.view.loc (c : Thread nD τ))) (f2 : Buf (Elt F) (scWo.view.loc (c : Thread nD τ))) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d)
            ∗ pt c scAtt fa ∗ pt c scXs f1 ∗ pt c scWo f2 ∗ pt c hbXs fh8 ∗ pt c hbWo fh9 ∗ semVal ((c : Thread nD τ), SemLoc.dma 14) 0 ∗ semVal ((c : Thread nD τ), SemLoc.dma 15) 0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8)
                ∗ pt c scAtt (scAtt.view.writes (Elt F) fa LS)
                ∗ Transfers.Flight countersEmb (c : Thread nD τ) (SemLoc.dma 14) () 16384
              iprop((scXs.view.loc (c : Thread nD τ) ↦{fullShare} fh8) ∗ (hbXs.view.loc (c : Thread nD τ) ↦[hbXs.view.set]{fullShare} fh8))
                ∗ Transfers.Flight countersEmb (c : Thread nD τ) (SemLoc.dma 15) () 65536
              iprop((scWo.view.loc (c : Thread nD τ) ↦{fullShare} fh9) ∗ (hbWo.view.loc (c : Thread nD τ) ↦[hbWo.view.set]{fullShare} fh9))
                ∗ (hbXs.view.loc (c : Thread nD τ) ↦[Finset.univ \ hbXs.view.set]{fullShare} fh8) ∗ (hbWo.view.loc (c : Thread nD τ) ↦[Finset.univ \ hbWo.view.set]{fullShare} fh9)) -∗ K ⟨⟩))
          ⊢ wp frame (wpE (defs₀ (F := F)) Variants.none (c : Thread nD τ) none) Set.univ
            (cc0_ffn_prompt_attn_sample i arg1 harg1 arg2 harg2 arg3 harg3 arg4 harg4 arg5 harg5 arg6 harg6 arg7 harg7 arg8 harg8 hbXs (Memref.isWhole_whole _) hbWo (Memref.isWhole_whole _) arg11 harg11 arg12 harg12 scAtt (Memref.isWhole_whole _) scXs (Memref.isWhole_whole _) scWo (Memref.isWhole_whole _) cc0_scratch3) K } := by
  refine ⟨?_, ?_, fun fa f1 f2 K => ?run⟩
  case run =>
    simp only [cc0_ffn_prompt_attn_sample_eq_skeleton]; unfold cc0_ffn_prompt_attn_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Ha, Hx, Hw, Hg, Hh, Hs0, Hs1, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    set_option sl_exec.stopBefore "k0_part1" in sl_exec (disch := first | sl_exact hc0 | sl_exact hc1 | sl_exact hc2)
    istop
    rw [show View.write (Elt F) scXs.view f1 (runA.sl.dma0 c fh8) Finset.univ = fh8 from by
      unfold runA.sl.dma0; rw [ReadAs.apply_same]; exact View.write_whole_univ cc0_scratch1 f1 fh8]
    rw [show View.write (Elt F) scWo.view f2 (runA.sl.dma0_1 c fh9) Finset.univ = fh9 from by
      unfold runA.sl.dma0_1; rw [ReadAs.apply_same]; exact View.write_whole_univ cc0_scratch2 f2 fh9]
    iintro ⟨⟨⟨⟨⟨⟨⟨⟨⟨⟨⟨⟨H0, H1⟩, H2⟩, H3⟩, H4⟩, H5⟩, H6⟩, H7⟩, H8⟩, Ha⟩, Hk⟩, Hs0, Hg⟩, Hs1, Hh⟩
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [Ha]; · iexact Ha
    isplitl [Hs0]; · iexact Hs0
    isplitl [Hs1]; · iexact Hs1
    isplitl [Hg]; · iexact Hg
    iexact Hh

end Cert.KernelIdeal.Hand

end
-- ==== Proof.Ideal.RunB.lean ====
module

public import proofs.«01_k».proof.Proof.Ideal.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 6000000 in
/-- One run of the body at a point between the first and the last: it computes a prompt block and four attention rows while the two copies stay in flight. -/
noncomputable def runB (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x0 : Vec F S512x1024 .f32) (x1 : Vec F S1x1024 .f32) (x2 : Vec F S1024x5632 .bf16) (x3 : Vec F S2816x1024 .bf16) (x4 : Vec F S1x1024 .f32) (x5 : Vec F S128x8x128 .f32) (x6 : Vec F S4x256x8x128 .f32) (x7 : Vec F S4x256x8x128 .f32) :
    Σ' (LS : List (View.Piece (Elt F) S128x8x128 .f32)), { L8 : List (View.Piece (Elt F) S512x1024 .f32) //
      ∀ (fa : Buf (Elt F) (scAtt.view.loc (c : Thread nD τ))) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg11 fullShare d)
            ∗ pt c scAtt fa
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg11.view.loc (c : Thread nD τ) ↦[arg11.view.set]{fullShare} arg11.view.writes (Elt F) f L8)
                ∗ pt c scAtt (scAtt.view.writes (Elt F) fa LS)) -∗ K ⟨⟩))
          ⊢ wp frame (wpE (defs₀ (F := F)) Variants.none (c : Thread nD τ) none) Set.univ
            (cc0_ffn_prompt_attn_sample i arg1 harg1 arg2 harg2 arg3 harg3 arg4 harg4 arg5 harg5 arg6 harg6 arg7 harg7 arg8 harg8 hbXs (Memref.isWhole_whole _) hbWo (Memref.isWhole_whole _) arg11 harg11 arg12 harg12 scAtt (Memref.isWhole_whole _) scXs (Memref.isWhole_whole _) scWo (Memref.isWhole_whole _) cc0_scratch3) K } := by
  refine ⟨?_, ?_, fun fa K => ?run⟩
  case run =>
    simp only [cc0_ffn_prompt_attn_sample_eq_skeleton]; unfold cc0_ffn_prompt_attn_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Ha, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexact Ha

end Cert.KernelIdeal.Hand

end
-- ==== Proof.Ideal.RunC.lean ====
module

public import proofs.«01_k».proof.Proof.Ideal.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 6000000 in
/-- One run of the body at the last grid point: it waits for both copies, projects the attention rows and computes the decode rows. -/
noncomputable def runC (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x1 : Vec F S1x1024 .f32) (x2 : Vec F S1024x5632 .bf16) (x3 : Vec F S2816x1024 .bf16) (x4 : Vec F S1x1024 .f32) (xa : Buf (Elt F) (scAtt.view.loc (c : Thread nD τ))) (g1 : Buf (Elt F) (scXs.view.loc (c : Thread nD τ))) (g2 : Buf (Elt F) (scWo.view.loc (c : Thread nD τ))) :
    { L9 : List (View.Piece (Elt F) S128x1x1024 .f32) //
      ∀ (fh8 : Buf (Elt F) (hbXs.view.loc (c : Thread nD τ))) (fh9 : Buf (Elt F) (hbWo.view.loc (c : Thread nD τ))) (W : Waits sig Unit) (K : PUnit → sProp 𝕄),
        iprop(owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg12 fullShare d)
            ∗ pt c scAtt xa ∗ Transfers.Flight countersEmb (c : Thread nD τ) (SemLoc.dma 14) () 16384
              iprop((scXs.view.loc (c : Thread nD τ) ↦{fullShare} g1) ∗ (hbXs.view.loc (c : Thread nD τ) ↦[hbXs.view.set]{fullShare} fh8)) ∗ Transfers.Flight countersEmb (c : Thread nD τ) (SemLoc.dma 15) () 65536
              iprop((scWo.view.loc (c : Thread nD τ) ↦{fullShare} g2) ∗ (hbWo.view.loc (c : Thread nD τ) ↦[hbWo.view.set]{fullShare} fh9))
            ∗ (hbXs.view.loc (c : Thread nD τ) ↦[Finset.univ \ hbXs.view.set]{fullShare} fh8) ∗ (hbWo.view.loc (c : Thread nD τ) ↦[Finset.univ \ hbWo.view.set]{fullShare} fh9) ∗ owes (c : Thread nD τ) 0 W
            ∗ (iprop(owns (c : Thread nD τ) arg2 fullShare x1 ∗ owns (c : Thread nD τ) arg3 fullShare x2 ∗ owns (c : Thread nD τ) arg4 fullShare x3 ∗ owns (c : Thread nD τ) arg5 fullShare x4 ∗ (∃ f, arg12.view.loc (c : Thread nD τ) ↦[arg12.view.set]{fullShare} arg12.view.writes (Elt F) f L9)
                ∗ pt c scAtt xa ∗ pt c scXs g1 ∗ pt c scWo g2 ∗ pt c hbXs fh8 ∗ pt c hbWo fh9 ∗ semVal ((c : Thread nD τ), SemLoc.dma 14) 0 ∗ semVal ((c : Thread nD τ), SemLoc.dma 15) 0 ∗ (∃ W', owes (c : Thread nD τ) 0 W')) -∗ K ⟨⟩))
          ⊢ wp frame (wpE (defs₀ (F := F)) Variants.none (c : Thread nD τ) none) Set.univ
            (cc0_ffn_prompt_attn_sample i arg1 harg1 arg2 harg2 arg3 harg3 arg4 harg4 arg5 harg5 arg6 harg6 arg7 harg7 arg8 harg8 hbXs (Memref.isWhole_whole _) hbWo (Memref.isWhole_whole _) arg11 harg11 arg12 harg12 scAtt (Memref.isWhole_whole _) scXs (Memref.isWhole_whole _) scWo (Memref.isWhole_whole _) cc0_scratch3) K } := by
  refine ⟨?_, fun fh8 fh9 W K => ?run⟩
  case run =>
    simp only [cc0_ffn_prompt_attn_sample_eq_skeleton]; unfold cc0_ffn_prompt_attn_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f1, %hf1, H1⟩, ⟨%f2, %hf2, H2⟩, ⟨%f3, %hf3, H3⟩, ⟨%f4, %hf4, H4⟩, ⟨%d9, %f9, -, H9⟩, Ha, Hx, Hw, Hg, Hh, HW, Hk⟩
    obtain rfl := harg2.eq_unread hf1; obtain rfl := harg3.eq_unread hf2; obtain rfl := harg4.eq_unread hf3; obtain rfl := harg5.eq_unread hf4
    sl_exec (disch := first | sl_exact hc0 | sl_exact hc1 | sl_exact hc2)
    istop
    rw [show ((View.whole cc0_scratch1).loc (c : Thread nD τ) ↦{fullShare} g1 : sProp 𝕄) = pt c scXs g1 from rfl, show ((View.whole cc0_scratch2).loc (c : Thread nD τ) ↦{fullShare} g2 : sProp 𝕄) = pt c scWo g2 from rfl]
    iintro ⟨⟨⟨⟨⟨⟨⟨⟨H1, H2⟩, H3⟩, H4⟩, H9⟩, Ha⟩, Hk⟩, Hx_dst, Hg, Hx⟩, Hw_dst, Hh, Hw, HW⟩
    sl_exec (disch := first | sl_exact hc0 | sl_exact hc1 | sl_exact hc2)
    sl_step
    iapply Hk
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H9]; · iexists _; iexact H9
    isplitl [Ha]; · iexact Ha
    isplitl [Hx_dst]; · iexact Hx_dst
    isplitl [Hw_dst]; · iexact Hw_dst
    isplitl [Hg]; · iexact Hg
    isplitl [Hh]; · iexact Hh
    isplitl [Hx]; · iexact Hx
    isplitl [Hw]; · iexact Hw
    iexists _; iexact HW

end Cert.KernelIdeal.Hand

end
-- ==== Proof.Ideal.Out.lean ====
module

public import proofs.«01_k».proof.Proof.Ideal.RunA
public import proofs.«01_k».proof.Proof.Ideal.RunB
public import proofs.«01_k».proof.Proof.Ideal.RunC
public import proofs.«01_k».proof.Proof.Ideal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! The runs' stores, as the functions of the blocks they are. -/

/-- Loads of a whole buffer, at the shapes that are loaded whole. -/
theorem ldA (x : Vec F S512x1024 .f32) : View.ld (Val := Elt F) (e' := .f32) x (Rect.unit (s := S512x1024) ![0, 0] ![512, 1024] inb_S512x1024_S512x1024_0_0) = x :=
  View.ld_unit_lit (S := S512x1024) (off := ![0, 0]) _ x (fun a => by fin_cases a <;> rfl)
theorem ldB (x : Vec F S1x1024 .f32) : View.ld (Val := Elt F) (e' := .f32) x (Rect.unit (s := S1x1024) ![0, 0] ![1, 1024] inb_S1x1024_S1x1024_0_0) = x :=
  View.ld_unit_lit (S := S1x1024) (off := ![0, 0]) _ x (fun a => by fin_cases a <;> rfl)
theorem ldC (x : Vec F S128x1024 .f32) : View.ld (Val := Elt F) (e' := .f32) x (Rect.unit (s := S128x1024) ![0, 0] ![128, 1024] inb_S128x1024_S128x1024_0_0) = x :=
  View.ld_unit_lit (S := S128x1024) (off := ![0, 0]) _ x (fun a => by fin_cases a <;> rfl)
theorem ldD (x : Vec F S1024x1024 .bf16) : View.ld (Val := Elt F) (e' := .bf16) x (Rect.unit (s := S1024x1024) ![0, 0] ![1024, 1024] inb_S1024x1024_S1024x1024_0_0) = x :=
  View.ld_unit_lit (S := S1024x1024) (off := ![0, 0]) _ x (fun a => by fin_cases a <;> rfl)

set_option maxHeartbeats 4000000 in
theorem runB_out (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x0 : Vec F S512x1024 .f32) (x1 : Vec F S1x1024 .f32) (x2 : Vec F S1024x5632 .bf16) (x3 : Vec F S2816x1024 .bf16) (x4 : Vec F S1x1024 .f32) (x5 : Vec F S128x8x128 .f32) (x6 : Vec F S4x256x8x128 .f32) (x7 : Vec F S4x256x8x128 .f32) (f : arg11.view.ty.Contents (Elt F)) :
    arg11.view.read (Elt F) (arg11.view.writes (Elt F) f (runB c i hc0 hc1 hc2 arg1 harg1 arg2 harg2 arg3 harg3 arg4 harg4 arg5 harg5 arg6 harg6 arg7 harg7 arg8 harg8 arg11 harg11 arg12 harg12 x0 x1 x2 x3 x4 x5 x6 x7).2.1) = outBlk x0 x1 x2 x3 x4 := by
  unfold runB
  dsimp only
  sl_unfold_words
  funext y
  refine (View.read_writes_cons_unit_of_mem arg11.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, View.read_whole, ldA, ldB, ldC, ldD]
    rfl

set_option maxHeartbeats 4000000 in
theorem runB_att (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x0 : Vec F S512x1024 .f32) (x1 : Vec F S1x1024 .f32) (x2 : Vec F S1024x5632 .bf16) (x3 : Vec F S2816x1024 .bf16) (x4 : Vec F S1x1024 .f32) (x5 : Vec F S128x8x128 .f32) (x6 : Vec F S4x256x8x128 .f32) (x7 : Vec F S4x256x8x128 .f32) (fa : scAtt.view.ty.Contents (Elt F)) (hi : (i 0).val < 32) :
    scAtt.view.writes (Elt F) fa (runB c i hc0 hc1 hc2 arg1 harg1 arg2 harg2 arg3 harg3 arg4 harg4 arg5 harg5 arg6 harg6 arg7 harg7 arg8 harg8 arg11 harg11 arg12 harg12 x0 x1 x2 x3 x4 x5 x6 x7).1 = attStep i x5 x6 x7 fa := by
  unfold runB
  dsimp only
  sl_unfold_words
  simp only [View.readAt_eq_ld, Memref.IsWhole.read_unread]
  rw [ld_kvRow x6 0 (by omega), ld_kvRow x6 1 (by omega), ld_kvRow x6 2 (by omega), ld_kvRow x6 3 (by omega),
    ld_kvRow x7 0 (by omega), ld_kvRow x7 1 (by omega), ld_kvRow x7 2 (by omega), ld_kvRow x7 3 (by omega)]
  have e := att_rows i x5 x6 x7 fa (k0_off1_inb i hc1 0) (k0_off1_inb i hc1 1) (k0_off1_inb i hc1 2) (k0_off1_inb i hc1 3) hi ⟨4 * (i 0).val, by omega⟩ ⟨4 * (i 0).val + 1, by omega⟩ ⟨4 * (i 0).val + 2, by omega⟩ ⟨4 * (i 0).val + 3, by omega⟩ rfl rfl rfl rfl
  rw [← ld_qRow x5 ⟨4 * (i 0).val, by omega⟩ _ (k0_off1_eq i 0) (k0_off1_inb i hc1 0), ← ld_qRow x5 ⟨4 * (i 0).val + 1, by omega⟩ _ (k0_off1_eq i 1) (k0_off1_inb i hc1 1),
    ← ld_qRow x5 ⟨4 * (i 0).val + 2, by omega⟩ _ (k0_off1_eq i 2) (k0_off1_inb i hc1 2), ← ld_qRow x5 ⟨4 * (i 0).val + 3, by omega⟩ _ (k0_off1_eq i 3) (k0_off1_inb i hc1 3)] at e
  exact e

set_option maxHeartbeats 4000000 in
theorem runC_out (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x1 : Vec F S1x1024 .f32) (x2 : Vec F S1024x5632 .bf16) (x3 : Vec F S2816x1024 .bf16) (x4 : Vec F S1x1024 .f32) (xa : Buf (Elt F) (scAtt.view.loc (c : Thread nD τ))) (g1 : Buf (Elt F) (scXs.view.loc (c : Thread nD τ))) (g2 : Buf (Elt F) (scWo.view.loc (c : Thread nD τ))) (f : arg12.view.ty.Contents (Elt F)) :
    arg12.view.read (Elt F) (arg12.view.writes (Elt F) f (runC c i hc0 hc1 hc2 arg1 harg1 arg2 harg2 arg3 harg3 arg4 harg4 arg5 harg5 arg6 harg6 arg7 harg7 arg8 harg8 arg11 harg11 arg12 harg12 x1 x2 x3 x4 xa g1 g2).1) = sampBlk x1 x2 x3 x4 (sampIn xa g1 g2) := by
  unfold runC
  dsimp only
  sl_unfold_words
  funext y
  refine (View.read_writes_cons_unit_of_mem arg12.view f _ _ [] y y (off' := ![0, 0, 0]) rfl ?_).trans ?_
  · intro a
    fin_cases a
    · show (y 0).val = 0 + (y 0).val; omega
    · show (y 1).val = 0 + (y 1).val; omega
    · show (y 2).val = 0 + (y 2).val; omega
  · refine congrFun ?_ y
    simp only [View.readAt_eq_ld, Memref.IsWhole.read_unread, View.read_whole, ldA, ldB, ldC, ldD]
    rfl

set_option maxHeartbeats 4000000 in
theorem runA_out (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x0 : Vec F S512x1024 .f32) (x1 : Vec F S1x1024 .f32) (x2 : Vec F S1024x5632 .bf16) (x3 : Vec F S2816x1024 .bf16) (x4 : Vec F S1x1024 .f32) (x5 : Vec F S128x8x128 .f32) (x6 : Vec F S4x256x8x128 .f32) (x7 : Vec F S4x256x8x128 .f32) (fh8 : Buf (Elt F) (hbXs.view.loc (c : Thread nD τ))) (fh9 : Buf (Elt F) (hbWo.view.loc (c : Thread nD τ))) (f : arg11.view.ty.Contents (Elt F)) :
    arg11.view.read (Elt F) (arg11.view.writes (Elt F) f (runA c i hc0 hc1 hc2 arg1 harg1 arg2 harg2 arg3 harg3 arg4 harg4 arg5 harg5 arg6 harg6 arg7 harg7 arg8 harg8 arg11 harg11 arg12 harg12 x0 x1 x2 x3 x4 x5 x6 x7 fh8 fh9).2.1) = outBlk x0 x1 x2 x3 x4 := by
  unfold runA
  dsimp only
  sl_unfold_words
  funext y
  refine (View.read_writes_cons_unit_of_mem arg11.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, View.read_whole, ldA, ldB, ldC, ldD]
    rfl

set_option maxHeartbeats 4000000 in
theorem runA_att (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S512x1024 .f32) (harg1 : arg1.IsWhole) (arg2 : Memref sig .tc .vmem S1x1024 .f32) (harg2 : arg2.IsWhole) (arg3 : Memref sig .tc .vmem S1024x5632 .bf16) (harg3 : arg3.IsWhole) (arg4 : Memref sig .tc .vmem S2816x1024 .bf16) (harg4 : arg4.IsWhole) (arg5 : Memref sig .tc .vmem S1x1024 .f32) (harg5 : arg5.IsWhole) (arg6 : Memref sig .tc .vmem S128x8x128 .f32) (harg6 : arg6.IsWhole) (arg7 : Memref sig .tc .vmem S4x256x8x128 .f32) (harg7 : arg7.IsWhole) (arg8 : Memref sig .tc .vmem S4x256x8x128 .f32) (harg8 : arg8.IsWhole) (arg11 : Memref sig .tc .vmem S512x1024 .f32) (harg11 : arg11.IsWhole) (arg12 : Memref sig .tc .vmem S128x1x1024 .f32) (harg12 : arg12.IsWhole)
    (x0 : Vec F S512x1024 .f32) (x1 : Vec F S1x1024 .f32) (x2 : Vec F S1024x5632 .bf16) (x3 : Vec F S2816x1024 .bf16) (x4 : Vec F S1x1024 .f32) (x5 : Vec F S128x8x128 .f32) (x6 : Vec F S4x256x8x128 .f32) (x7 : Vec F S4x256x8x128 .f32) (fh8 : Buf (Elt F) (hbXs.view.loc (c : Thread nD τ))) (fh9 : Buf (Elt F) (hbWo.view.loc (c : Thread nD τ))) (fa : scAtt.view.ty.Contents (Elt F)) (hi : (i 0).val < 32) :
    scAtt.view.writes (Elt F) fa (runA c i hc0 hc1 hc2 arg1 harg1 arg2 harg2 arg3 harg3 arg4 harg4 arg5 harg5 arg6 harg6 arg7 harg7 arg8 harg8 arg11 harg11 arg12 harg12 x0 x1 x2 x3 x4 x5 x6 x7 fh8 fh9).1 = attStep i x5 x6 x7 fa := by
  unfold runA
  dsimp only
  sl_unfold_words
  simp only [View.readAt_eq_ld, Memref.IsWhole.read_unread]
  rw [ld_kvRow x6 0 (by omega), ld_kvRow x6 1 (by omega), ld_kvRow x6 2 (by omega), ld_kvRow x6 3 (by omega),
    ld_kvRow x7 0 (by omega), ld_kvRow x7 1 (by omega), ld_kvRow x7 2 (by omega), ld_kvRow x7 3 (by omega)]
  have e := att_rows i x5 x6 x7 fa (k0_off1_inb i hc1 0) (k0_off1_inb i hc1 1) (k0_off1_inb i hc1 2) (k0_off1_inb i hc1 3) hi ⟨4 * (i 0).val, by omega⟩ ⟨4 * (i 0).val + 1, by omega⟩ ⟨4 * (i 0).val + 2, by omega⟩ ⟨4 * (i 0).val + 3, by omega⟩ rfl rfl rfl rfl
  rw [← ld_qRow x5 ⟨4 * (i 0).val, by omega⟩ _ (k0_off1_eq i 0) (k0_off1_inb i hc1 0), ← ld_qRow x5 ⟨4 * (i 0).val + 1, by omega⟩ _ (k0_off1_eq i 1) (k0_off1_inb i hc1 1),
    ← ld_qRow x5 ⟨4 * (i 0).val + 2, by omega⟩ _ (k0_off1_eq i 2) (k0_off1_inb i hc1 2), ← ld_qRow x5 ⟨4 * (i 0).val + 3, by omega⟩ _ (k0_off1_eq i 3) (k0_off1_inb i hc1 3)] at e
  exact e

end Cert.KernelIdeal.Hand

end
-- ==== Proof.Ideal.Body.lean ====
module

public import proofs.«01_k».proof.Proof.Ideal.Dats
public import proofs.«01_k».proof.Proof.Ideal.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-- What window `w`'s buffer is handed back as. -/
abbrev left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem left8 (c : Dev nD) (t : Fin cfg0.N) : owns (c : Thread nD τ) (st0_8 t) fullShare ((dats m 0 c).after 8 t) ⊢ left m c 8 t := by
  unfold left
  split
  · rename_i h
    have h' : (!(k0_cond2 (grid0.coords t) == 1#1)) = true := h
    split
    · rename_i hf
      exfalso
      have h1 : ¬ win0_8.flush t = true := by rw [show win0_8.flush t = false from hf]; exact Bool.false_ne_true
      have h2 : t.val = 31 := by by_contra h3; exact h1 ((flush8_iff t).mpr h3)
      rw [(prompt_iff t).mpr (by omega)] at h'
      exact absurd h' (by decide)
    · exact .rfl
  · exact .rfl

theorem left9_last (c : Dev nD) (t : Fin cfg0.N) (ht : t.val = 32) : owns (c : Thread nD τ) (st0_9 t) fullShare ((dats m 0 c).after 9 t) ⊢ left m c 9 t := by
  unfold left
  split
  · rename_i h
    have h' : (!(k0_cond3 (grid0.coords t) == 1#1)) = true := h
    rw [(sample_iff t).mpr ht] at h'
    exact absurd h' (by decide)
  · exact .rfl

theorem left9 (c : Dev nD) (t : Fin cfg0.N) (ht : t.val ≠ 32) : iprop(∃ d, owns (c : Thread nD τ) (st0_9 t) fullShare ((dats m 0 c).before 9 t d)) ⊢ left m c 9 t := by
  unfold left
  split
  · split
    · exact .rfl
    · rename_i hf; exact absurd ((flush9_iff t).mp hf) ht
  · rename_i h
    have h' : (!(k0_cond3 (grid0.coords t) == 1#1)) = false := h
    refine absurd ((sample_iff t).mp ?_) ht
    simpa using h'

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ left m c 8 t ∗ left m c 9 t)

set_option maxHeartbeats 2000000 in
theorem body_first (c : Dev nD) (t : Fin cfg0.N) (ht : t.val = 0) :
    bodyPre m c t ⊢ wp frame (wpE (defs₀ (F := F)) Variants.none (c : Thread nD τ) none) Set.univ (bodyAt0 t) (fun _ => bodyPost m c t) := by
  unfold bodyPre bodyPost bodyAt0
  simp only [before0 m c t, before1 m c t, before2 m c t, before3 m c t, before4 m c t, before5 m c t, before6 m c t, before7 m c t,
    after0, after1, after2, after3, after4, after5, after6, after7]
  unfold Dat.owesAt Pipeline.owesWithin
  rw [show (dats m 0 c).owed t.castSucc = 0 from rfl, show (dats m 0 c).owed t.succ = 0 from rfl]
  rw [Phi_end m c t.castSucc (Or.inl ht), Phi_mid m c t.succ (by rw [Fin.val_succ]; omega), PhiD_eq]
  unfold mid
  iintro ⟨⟨⟨⟨%fa, Ha⟩, ⟨%f1, Hs1⟩, ⟨%f2, Hs2⟩⟩, Hg, ⟨Hq0, Hq1⟩, ⟨Hx, Hw⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords t) ((first_iff t).mpr ht) ((prompt_iff t).mpr (by omega)) (fun h => absurd ((sample_iff t).mp h) (by omega)) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (V m c main_arg8) (V m c main_arg9)).2.2 fa f1 f2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Ha]; · iexact Ha
  isplitl [Hs1]; · iexact Hs1
  isplitl [Hs2]; · iexact Hs2
  isplitl [Hx]; · iexact Hx
  isplitl [Hw]; · iexact Hw
  isplitl [Hq0]; · iexact Hq0
  isplitl [Hq1]; · iexact Hq1
  iintro ⟨H0, H1, H2, H3, H4, H5, H6, H7, ⟨%e8, H8⟩, Ha, HA, HB, HrA, HrB⟩
  isplitl [Ha HA HB HrA HrB Hg]
  · isplitl [Ha]
    · iexists _; isplitr
      swap; · iexact Ha
      ipureintro
      rw [runA_att _ _ _ _ _ _ _ _ _ _ _ _ _ _ _ _ _ _ _ _ _ _ _ _ _ _ _ _ _ _ _ _ _ _ _ fa (by rw [co_val t]; omega)]
      exact rows_step m c t (by omega) fa (by rw [ht]; exact rows_none m c fa)
    isplitl [HA]; · iexact HA
    isplitl [HB]; · iexact HB
    isplitl [HrA]; · iexact HrA
    isplitl [HrB]; · iexact HrB
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (left8 m c t)
    unfold owns; iexists _; isplitr
    swap; · iexact H8
    ipureintro
    rw [after8]; unfold prompt; rw [lastPrompt_of_lt t (by omega)]
    exact runA_out _ _ _ _ _ _ _ _ _ _ _ _ _ _ _ _ _ _ _ _ _ _ _ _ _ _ _ _ _ _ _ _ _ _ _ e8
  iapply (left9 m c t (by omega))
  iexists _; iexact H9

set_option maxHeartbeats 2000000 in
theorem body_mid (c : Dev nD) (t : Fin cfg0.N) (ht0 : t.val ≠ 0) (ht : t.val < 32) :
    bodyPre m c t ⊢ wp frame (wpE (defs₀ (F := F)) Variants.none (c : Thread nD τ) none) Set.univ (bodyAt0 t) (fun _ => bodyPost m c t) := by
  unfold bodyPre bodyPost bodyAt0
  simp only [before0 m c t, before1 m c t, before2 m c t, before3 m c t, before4 m c t, before5 m c t, before6 m c t, before7 m c t,
    after0, after1, after2, after3, after4, after5, after6, after7]
  unfold Dat.owesAt Pipeline.owesWithin
  rw [show (dats m 0 c).owed t.castSucc = 0 from rfl, show (dats m 0 c).owed t.succ = 0 from rfl]
  rw [Phi_mid m c t.castSucc (by show ¬ (t.val = 0 ∨ t.val = 33); omega), Phi_mid m c t.succ (by rw [Fin.val_succ]; omega)]
  unfold mid
  iintro ⟨⟨⟨%fa, %hfa, Ha⟩, HA, HB, HrA, HrB, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) (fun h => ht0 ((first_iff t).mp h)) ((prompt_iff t).mpr (by omega)) (fun h => absurd ((sample_iff t).mp h) (by omega)) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2.2 fa _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Ha]; · iexact Ha
  iintro ⟨H0, H1, H2, H3, H4, H5, H6, H7, ⟨%e8, H8⟩, Ha⟩
  isplitl [Ha HA HB HrA HrB Hg]
  · isplitl [Ha]
    · iexists _; isplitr
      swap; · iexact Ha
      ipureintro
      rw [runB_att _ _ _ _ _ _ _ _ _ _ _ _ _ _ _ _ _ _ _ _ _ _ _ _ _ _ _ _ _ _ _ _ _ fa (by rw [co_val t]; omega)]
      exact rows_step m c t (by omega) fa (hfa)
    isplitl [HA]; · iexact HA
    isplitl [HB]; · iexact HB
    isplitl [HrA]; · iexact HrA
    isplitl [HrB]; · iexact HrB
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (left8 m c t)
    unfold owns; iexists _; isplitr
    swap; · iexact H8
    ipureintro
    rw [after8]; unfold prompt; rw [lastPrompt_of_lt t (by omega)]
    exact runB_out _ _ _ _ _ _ _ _ _ _ _ _ _ _ _ _ _ _ _ _ _ _ _ _ _ _ _ _ _ _ _ _ _ e8
  iapply (left9 m c t (by omega))
  iexists _; iexact H9

set_option maxHeartbeats 2000000 in
theorem body_last (c : Dev nD) (t : Fin cfg0.N) (ht : t.val = 32) :
    bodyPre m c t ⊢ wp frame (wpE (defs₀ (F := F)) Variants.none (c : Thread nD τ) none) Set.univ (bodyAt0 t) (fun _ => bodyPost m c t) := by
  unfold bodyPre bodyPost bodyAt0
  simp only [before0 m c t, before1 m c t, before2 m c t, before3 m c t, before4 m c t, before5 m c t, before6 m c t, before7 m c t,
    after0, after1, after2, after3, after4, after5, after6, after7]
  unfold Dat.owesAt Pipeline.owesWithin
  rw [show (dats m 0 c).owed t.castSucc = 0 from rfl, show (dats m 0 c).owed t.succ = 0 from rfl]
  simp only [before8 m c t ht]
  rw [Phi_mid m c t.castSucc (by show ¬ (t.val = 0 ∨ t.val = 33); omega), Phi_end m c t.succ (by rw [Fin.val_succ]; omega), PhiD_eq]
  unfold mid
  iintro ⟨⟨⟨%fa, %hfa, Ha⟩, HA, HB, HrA, HrB, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hfa' : fa = attAll m c := rows_all m c fa (by rw [← ht]; exact hfa)
  subst hfa'
  iapply ((runC c (grid0.coords t) (fun h => absurd ((first_iff t).mp h) (by omega)) (fun h => absurd ((prompt_iff t).mp h) (by omega)) ((sample_iff t).mpr ht) _ (hstage0_0 _) _ _ _ _ _ _ _ _ _ (hstage0_5 _) _ (hstage0_6 _) _ (hstage0_7 _) _ (hstage0_8 _) _ _ (iblk m c 1 t) (iblk m c 2 t) (iblk m c 3 t) (iblk m c 4 t) (attAll m c) (V m c main_arg8) (V m c main_arg9)).2 (V m c main_arg8) (V m c main_arg9) W _)
  isplitl [H1]; · iexact H1
  isplitl [H2]; · iexact H2
  isplitl [H3]; · iexact H3
  isplitl [H4]; · iexact H4
  isplitl [H9]; · iexists _; iexact H9
  isplitl [Ha]; · iexact Ha
  isplitl [HA]; · iexact HA
  isplitl [HB]; · iexact HB
  isplitl [HrA]; · iexact HrA
  isplitl [HrB]; · iexact HrB
  isplitl [HW]; · iexact HW
  iintro ⟨H1, H2, H3, H4, ⟨%e9, H9⟩, Ha, Hs1, Hs2, Hx, Hw, Hq0, Hq1, ⟨%W', HW'⟩⟩
  isplitl [Ha Hs1 Hs2 Hx Hw Hq0 Hq1 Hg]
  · isplitl [Ha Hs1 Hs2]
    · isplitl [Ha]; · iexists _; iexact Ha
      isplitl [Hs1]; · iexists _; iexact Hs1
      iexists _; iexact Hs2
    isplitl [Hg]; · iexact Hg
    isplitl [Hq0 Hq1]
    · isplitl [Hq0]; · iexact Hq0
      iexact Hq1
    isplitl [Hx]; · iexact Hx
    iexact Hw
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (left8 m c t)
    rw [after8]
    iexact H8
  iapply (left9_last m c t ht)
  unfold owns; iexists _; isplitr
  swap; · iexact H9
  ipureintro
  rw [after9]; unfold sample
  exact runC_out _ _ _ _ _ _ _ _ _ _ _ _ _ _ _ _ _ _ _ _ _ _ _ _ _ _ _ _ _ _ _ _ e9

theorem defs₀_row (t : Fin cfg0.N) :
    defs₀ (F := F) .tc cfg0.body (cfg0.bodyArgs t (cfg0.slots t)) = bodyAt0 t := by
  unfold defs₀; rw [Defs.onTc_tc]

/-- The body, at every point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  by_cases h0 : t.val = 0
  · exact body_first m c t h0
  by_cases h1 : t.val < 32
  · exact body_mid m c t h0 h1
  · exact body_last m c t (by have := t.isLt; have h : cfg0.N = 33 := N_0; omega)

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.Ideal.Run.lean ====
module

public import proofs.«01_k».proof.Proof.Ideal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- The run of the whole program: every window's array as its blocks were written back, every other array as it was, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [Phi_end m c 0 (Or.inl rfl)])
    (hout := fun c => by rw [Phi_end m c (Fin.last _) (Or.inr (by show cfg0.N = 33; exact N_0))])

/-- After that run the arguments hold what they held before it. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

/-- The program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hs => ⟨args_kept m hs.1, hs.2⟩) (run_main m ρ)

end Cert.KernelIdeal.Hand

end
-- ==== Proof.Value.Spec.lean ====
module

public import Idealize.ShloMosaic.Lib.Pointwise

@[expose] public section

set_option maxRecDepth 16384

noncomputable section

namespace Cert.Layer

open Idealize.ShloMosaic

/-! The layer's mathematics on extended reals, row by row; both programs are shown equal to it. -/

/-- The mean square of a row of 1024 numbers. -/
def meanSq (x : Fin 1024 → EReal) : EReal := Ideal.div (∑ k, x k * x k) (Ideal.ofBits .f32 0x44800000#32)

/-- The row over its root mean square, times the gain. -/
def rms (x g : Fin 1024 → EReal) (j : Fin 1024) : EReal := x j * Ideal.rsqrt (meanSq x + Ideal.ofBits .f32 0x358637BD#32) * g j

/-- `a` times its sigmoid. -/
def silu (a : EReal) : EReal := a * Ideal.div 1 (1 + Ideal.exp (-a))

/-- Hidden unit `c` of the gated layer. -/
def hid (n : Fin 1024 → EReal) (w : Fin 1024 → Fin 5632 → EReal) (c : Fin 2816) : EReal :=
  silu (∑ k, n k * w k ⟨c.val, by omega⟩) * ∑ k, n k * w k ⟨c.val + 2816, by omega⟩

/-- The feed-forward layer on one row, with its residual and the last norm. -/
def mlp (x g : Fin 1024 → EReal) (w1 : Fin 1024 → Fin 5632 → EReal) (w2 : Fin 2816 → Fin 1024 → EReal) (gf : Fin 1024 → EReal) (j : Fin 1024) : EReal :=
  rms (fun i => x i + ∑ c, hid (rms x g) w1 c * w2 c i) gf j

/-- A sum over the hidden units is the sum over the first 2304 and the last 512. -/
theorem sum_hidden (f : Fin 2816 → EReal) :
    ∑ c, f c = (∑ c : Fin 2304, f ⟨c.val, by omega⟩) + ∑ c : Fin 512, f ⟨c.val + 2304, by omega⟩ := by
  refine (Fin.sum_univ_add (a := 2304) (b := 512) f).trans ?_
  refine congrArg₂ (· + ·) rfl (Finset.sum_congr rfl fun c _ => congrArg f (Fin.ext ?_))
  show 2304 + c.val = c.val + 2304
  omega

end Cert.Layer

end
-- ==== Proof.Value.Blocks.lean ====
module

public import proofs.«01_k».proof.Proof.Ideal.Run
public import Idealize.ShloMosaic.Lib.Pointwise
public import Idealize.ShloMosaic.Lib.Claim
public import Idealize.ShloMosaic.Lib.Pipeline.ValueKit
public import proofs.«01_k».proof.Proof.Value.Spec

@[expose] public section

set_option maxRecDepth 16384

noncomputable section

namespace Cert.KernelIdeal.Value

open Cert.KernelIdeal Cert.KernelIdeal.Gen Cert.KernelIdeal.Hand Cert.Layer
open Idealize.ShloMosaic Idealize.ShloMosaic.TcCoe
open Idealize.ShloMosaic.Pipeline (Dat)

variable (m : (ℓ : Loc nD τ sig) → Buf (Elt Ideal) ℓ)

/-! The operands the pipeline stages whole are the arguments themselves. -/

theorem idx1 : ∀ t : Fin grid0.N, win0_1.index t 0 = 0 ∧ win0_1.index t 1 = 0 := by decide +kernel
theorem b1_eq (c : Dev nD) (t : Fin cfg0.N) : b1 m c t = m ((c.tc : Thread nD τ).loc main_arg1) := by
  refine Eq.trans (b := V m c main_arg1) (funext fun y => ?_) (V_main_arg1 m c)
  have h := idx1 t
  refine congrArg (V m c main_arg1) (funext fun a => Fin.ext ?_)
  blk_simp
  fin_cases a
  · show win0_1.index t 0 * 1 + (y 0).val = (y 0).val; rw [h.1]; omega
  · show win0_1.index t 1 * 1024 + (y 1).val = (y 1).val; rw [h.2]; omega

theorem idx2 : ∀ t : Fin grid0.N, win0_2.index t 0 = 0 ∧ win0_2.index t 1 = 0 := by decide +kernel
theorem b2_eq (c : Dev nD) (t : Fin cfg0.N) : b2 m c t = m ((c.tc : Thread nD τ).loc main_arg2) := by
  refine Eq.trans (b := V m c main_arg2) (funext fun y => ?_) (V_main_arg2 m c)
  have h := idx2 t
  refine congrArg (V m c main_arg2) (funext fun a => Fin.ext ?_)
  blk_simp
  fin_cases a
  · show win0_2.index t 0 * 1024 + (y 0).val = (y 0).val; rw [h.1]; omega
  · show win0_2.index t 1 * 5632 + (y 1).val = (y 1).val; rw [h.2]; omega

theorem idx3 : ∀ t : Fin grid0.N, win0_3.index t 0 = 0 ∧ win0_3.index t 1 = 0 := by decide +kernel
theorem b3_eq (c : Dev nD) (t : Fin cfg0.N) : b3 m c t = m ((c.tc : Thread nD τ).loc main_arg3) := by
  refine Eq.trans (b := V m c main_arg3) (funext fun y => ?_) (V_main_arg3 m c)
  have h := idx3 t
  refine congrArg (V m c main_arg3) (funext fun a => Fin.ext ?_)
  blk_simp
  fin_cases a
  · show win0_3.index t 0 * 2816 + (y 0).val = (y 0).val; rw [h.1]; omega
  · show win0_3.index t 1 * 1024 + (y 1).val = (y 1).val; rw [h.2]; omega

theorem idx4 : ∀ t : Fin grid0.N, win0_4.index t 0 = 0 ∧ win0_4.index t 1 = 0 := by decide +kernel
theorem b4_eq (c : Dev nD) (t : Fin cfg0.N) : b4 m c t = m ((c.tc : Thread nD τ).loc main_arg4) := by
  refine Eq.trans (b := V m c main_arg4) (funext fun y => ?_) (V_main_arg4 m c)
  have h := idx4 t
  refine congrArg (V m c main_arg4) (funext fun a => Fin.ext ?_)
  blk_simp
  fin_cases a
  · show win0_4.index t 0 * 1 + (y 0).val = (y 0).val; rw [h.1]; omega
  · show win0_4.index t 1 * 1024 + (y 1).val = (y 1).val; rw [h.2]; omega

/-- The prompt rows a point works on are those its result is written back to. -/
theorem idx08 : ∀ t : Fin grid0.N, win0_0.index (lastPrompt t) 0 = win0_8.index t 0 ∧ win0_0.index (lastPrompt t) 1 = 0 ∧ win0_8.index t 1 = 0 ∧ win0_8.index t 0 < 32 := by decide +kernel
theorem b0_apply (c : Dev nD) (t : Fin cfg0.N) (r : Fin 512) (k : Fin 1024) (R : Fin 16384) (hR : R.val = win0_8.index t 0 * 512 + r.val) :
    b0 m c (lastPrompt t) (ix2 r k) = m ((c.tc : Thread nD τ).loc main_arg0) (ix2 R k) := by
  refine Eq.trans (b := V m c main_arg0 (ix2 R k)) ?_ (congrFun (V_main_arg0 m c) _)
  have h := idx08 t
  refine congrArg (V m c main_arg0) (funext fun a => Fin.ext ?_)
  blk_simp
  fin_cases a
  · show win0_0.index (lastPrompt t) 0 * 512 + r.val = R.val; rw [h.1]; omega
  · show win0_0.index (lastPrompt t) 1 * 1024 + k.val = k.val; rw [h.2.1]; omega

/-- Keys and values in the kernel's layout, from the arguments: row `half * 4 + head`, lane `d % 128` of key dimension `d`. -/
theorem keys_apply (c : Dev nD) (b : Fin 128) (n : Fin 256) (p : Fin 8) (l : Fin 128) :
    V m c main_v2 (ix4 b n p l) = m ((c.tc : Thread nD τ).loc main_arg6) (ix4 b n ⟨p.val % 4, by omega⟩ ⟨p.val / 4 * 128 + l.val, by omega⟩) := by
  entry_read
  pointwise

theorem values_apply (c : Dev nD) (b : Fin 128) (n : Fin 256) (p : Fin 8) (l : Fin 128) :
    V m c main_v5 (ix4 b n p l) = m ((c.tc : Thread nD τ).loc main_arg7) (ix4 b n ⟨p.val % 4, by omega⟩ ⟨p.val / 4 * 128 + l.val, by omega⟩) := by
  entry_read
  pointwise

end Cert.KernelIdeal.Value

end
-- ==== Proof.Value.Prompt.lean ====
module

public import proofs.«01_k».proof.Proof.Value.Spec
public import proofs.«01_k».proof.Proof.Ideal.Blocks
public import Idealize.ShloMosaic.Lib.Pointwise

@[expose] public section

set_option maxRecDepth 16384

noncomputable section

namespace Cert.KernelIdeal.Value

open Cert.KernelIdeal Cert.KernelIdeal.Gen Cert.KernelIdeal.Hand Cert.Layer
open Idealize.ShloMosaic

/-- Taking a block apart at its first tile and putting it together again changes nothing. -/
theorem corner {n : ℕ} (b : (⟨2, ![512, n]⟩ : Shape).Idx → EReal) (r : Fin 512) (c : Fin n) (h1 : ¬ c.val < 128 → 128 + (c.val - 128) < n) (h2 : ¬ r.val < 8 → 8 + (r.val - 8) < 512) :
    (if h : r.val < 8 then if h : c.val < 128 then b (ix2 r c) else b (ix2 r ⟨128 + (c.val - 128), h1 h⟩)
      else b (ix2 ⟨8 + (r.val - 8), h2 h⟩ c)) = b (ix2 r c) := by
  split_ifs with h h'
  · rfl
  · exact congrArg (fun x => b (ix2 r x)) (Fin.ext (by show 128 + (c.val - 128) = c.val; omega))
  · exact congrArg (fun x => b (ix2 x c)) (Fin.ext (by show 8 + (r.val - 8) = r.val; omega))

/-- A window of the fused weight's columns. -/
theorem wcol_apply (w : Vec Ideal S1024x5632 .bf16) (o : ℕ) (h) (k : Fin 1024) (c : Fin 768) (d : Fin 5632) (hd : d.val = o + c.val) : wcol w o h (ix2 k c) = w (ix2 k d) :=
  congrArg w (funext fun a => Fin.ext (by
    fin_cases a
    · show 0 + 1 * k.val = k.val; omega
    · show o + 1 * c.val = d.val; omega))
theorem wcol5_apply (w : Vec Ideal S1024x5632 .bf16) (o : ℕ) (h) (k : Fin 1024) (c : Fin 512) (d : Fin 5632) (hd : d.val = o + c.val) : wcol5 w o h (ix2 k c) = w (ix2 k d) :=
  congrArg w (funext fun a => Fin.ext (by
    fin_cases a
    · show 0 + 1 * k.val = k.val; omega
    · show o + 1 * c.val = d.val; omega))
/-- The down weight's first rows and its last ones. -/
theorem w2a_apply (w : Vec Ideal S2816x1024 .bf16) (c : Fin 2304) (j : Fin 1024) : w2a w (ix2 c j) = w (ix2 ⟨c.val, by omega⟩ j) :=
  congrArg w (funext fun a => Fin.ext (by
    fin_cases a
    · show 0 + 1 * c.val = c.val; omega
    · show 0 + 1 * j.val = j.val; omega))
theorem w2b_apply (w : Vec Ideal S2816x1024 .bf16) (c : Fin 512) (j : Fin 1024) : w2b w (ix2 c j) = w (ix2 ⟨c.val + 2304, by omega⟩ j) :=
  congrArg w (funext fun a => Fin.ext (by
    fin_cases a
    · show 2304 + 1 * c.val = c.val + 2304; omega
    · show 0 + 1 * j.val = j.val; omega))

theorem pay10_apply (a b : FVec Ideal S512x768 .f32) (r : Fin 512) (c : Fin 768) :
    k0_pay10 a b (ix2 r c) = silu (a (ix2 r c)) * b (ix2 r c) := by
  unfold silu
  unfold_payloads
  pointwise
  rw [zero_sub]
  exact congrArg (_ * ·) (corner b r c (fun _ => by omega) (fun _ => by omega))

theorem pay16_apply (a b : FVec Ideal S512x768 .f32) (r : Fin 512) (c : Fin 768) :
    k0_pay16 a b k0_pay14 (k0_pay15 b) (ix2 r c) = silu (a (ix2 r c)) * b (ix2 r c) := pay10_apply a b r c
theorem pay22_apply (a b : FVec Ideal S512x768 .f32) (r : Fin 512) (c : Fin 768) :
    k0_pay22 a b (ix2 r c) = silu (a (ix2 r c)) * b (ix2 r c) := pay10_apply a b r c

theorem pay25_apply (a b : FVec Ideal S512x512 .f32) (r : Fin 512) (c : Fin 512) :
    k0_pay25 a b (ix2 r c) = silu (a (ix2 r c)) * b (ix2 r c) := by
  unfold silu
  unfold_payloads
  pointwise
  rw [zero_sub]
  exact congrArg (_ * ·) (corner b r c (fun _ => by omega) (fun _ => by omega))

/-- The normed rows. -/
theorem pay3_apply (x : Vec Ideal S512x1024 .f32) (g : Vec Ideal S1x1024 .f32) (r : Fin 512) (k : Fin 1024) :
    k0_pay3 x g (ix2 r k) = rms (fun i => x (ix2 r i)) (fun i => g (ix2 0 i)) k := by
  unfold rms meanSq
  unfold_payloads
  pointwise

/-- A chunk of 768 columns of the gate or the up projection, -/
theorem pay4_apply (x : Vec Ideal S512x1024 .f32) (g : Vec Ideal S1x1024 .f32) (w : Vec Ideal S1024x5632 .bf16) (o : ℕ) (h) (r : Fin 512) (c : Fin 768) (d : Fin 5632) (hd : d.val = o + c.val) :
    k0_pay4 x g (wcol w o h) (ix2 r c) = ∑ k, rms (fun i => x (ix2 r i)) (fun i => g (ix2 0 i)) k * w (ix2 k d) := by
  unfold k0_pay4
  simp only [← pay3_apply]
  generalize k0_pay3 x g = n
  pointwise
  refine Finset.sum_congr rfl fun k _ => congrArg (n (ix2 r k) * ·) (wcol_apply w o h k c d hd)

/-- and of 512. -/
theorem pay17_apply (x : Vec Ideal S512x1024 .f32) (g : Vec Ideal S1x1024 .f32) (w : Vec Ideal S1024x5632 .bf16) (o : ℕ) (h) (r : Fin 512) (c : Fin 512) (d : Fin 5632) (hd : d.val = o + c.val) :
    k0_pay17 (k0_pay3 x g) (wcol5 w o h) (ix2 r c) = ∑ k, rms (fun i => x (ix2 r i)) (fun i => g (ix2 0 i)) k * w (ix2 k d) := by
  unfold k0_pay17
  simp only [← pay3_apply]
  generalize k0_pay3 x g = n
  pointwise
  refine Finset.sum_congr rfl fun k _ => congrArg (n (ix2 r k) * ·) (wcol5_apply w o h k c d hd)

theorem pay1_apply (a : FVec Ideal S512x512 .bf16) (y : FVec Ideal S512x1024 .f32) (w : Vec Ideal S512x1024 .bf16) (g : Vec Ideal S1x1024 .f32) (r : Fin 512) (j : Fin 1024) :
    k0_pay1 a y w g (ix2 r j) = rms (fun i => y (ix2 r i) + ∑ c, a (ix2 r c) * w (ix2 c i)) (fun i => g (ix2 0 i)) j := by
  unfold rms meanSq
  unfold_payloads
  pointwise

/-- The first three chunks of hidden units through the down weight's first rows. -/
theorem pay26_apply (x : Vec Ideal S512x1024 .f32) (a b c : FVec Ideal S512x768 .bf16) (w : Vec Ideal S2816x1024 .bf16) (r : Fin 512) (j : Fin 1024) (H : Fin 2816 → EReal)
    (ha : ∀ u : Fin 768, a (ix2 r u) = H ⟨u.val, by omega⟩) (hb : ∀ u : Fin 768, b (ix2 r u) = H ⟨u.val + 768, by omega⟩) (hc : ∀ u : Fin 768, c (ix2 r u) = H ⟨u.val + 1536, by omega⟩) :
    k0_pay26 x a b c (w2a w) (ix2 r j) = x (ix2 r j) + ∑ u : Fin 2304, H ⟨u.val, by omega⟩ * w (ix2 ⟨u.val, by omega⟩ j) := by
  unfold_payloads
  pointwise
  refine congrArg (x (ix2 r j) + ·) (Finset.sum_congr rfl fun u _ => ?_)
  rw [w2a_apply]
  refine congrArg (· * _) ?_
  by_cases h : u.val < 768
  · rw [dif_pos h]
    exact ha ⟨u.val, h⟩
  rw [dif_neg h]
  by_cases h' : u.val - 768 < 768
  · refine (dif_pos h').trans ((hb ⟨u.val - 768, h'⟩).trans (congrArg H (Fin.ext ?_)))
    show u.val - 768 + 768 = u.val
    omega
  · refine (dif_neg h').trans ((hc ⟨u.val - 768 - 768, by omega⟩).trans (congrArg H (Fin.ext ?_)))
    show u.val - 768 - 768 + 1536 = u.val
    omega

/-- A row of the prompt block is the feed-forward layer of that row. -/
theorem outBlk_apply (x0 : Vec Ideal S512x1024 .f32) (x1 : Vec Ideal S1x1024 .f32) (x2 : Vec Ideal S1024x5632 .bf16) (x3 : Vec Ideal S2816x1024 .bf16) (x4 : Vec Ideal S1x1024 .f32) (r : Fin 512) (j : Fin 1024) :
    outBlk x0 x1 x2 x3 x4 (ix2 r j) = mlp (fun i => x0 (ix2 r i)) (fun i => x1 (ix2 0 i)) (fun k c => x2 (ix2 k c)) (fun c i => x3 (ix2 c i)) (fun i => x4 (ix2 0 i)) j := by
  unfold outBlk mlp
  rw [pay1_apply]
  refine congrArg (fun y => rms y (fun i => x4 (ix2 0 i)) j) (funext fun i => ?_)
  rw [sum_hidden, ← add_assoc]
  refine congrArg₂ (· + ·) (pay26_apply x0 _ _ _ x3 r i (hid (rms (fun i => x0 (ix2 r i)) fun i => x1 (ix2 0 i)) fun k c => x2 (ix2 k c)) ?_ ?_ ?_) (Finset.sum_congr rfl fun u _ => ?_)
  · intro u
    rw [pay10_apply]
    exact congrArg₂ (fun p q => silu p * q) (pay4_apply x0 x1 x2 0 _ r u ⟨u.val, by omega⟩ (Nat.zero_add _).symm)
      (pay4_apply x0 x1 x2 2816 _ r u ⟨u.val + 2816, by omega⟩ (Nat.add_comm _ _))
  · intro u
    rw [pay16_apply]
    exact congrArg₂ (fun p q => silu p * q) (pay4_apply x0 x1 x2 768 _ r u ⟨u.val + 768, by omega⟩ (Nat.add_comm _ _))
      (pay4_apply x0 x1 x2 3584 _ r u ⟨u.val + 768 + 2816, by omega⟩ (by show u.val + 768 + 2816 = 3584 + u.val; omega))
  · intro u
    rw [pay22_apply]
    exact congrArg₂ (fun p q => silu p * q) (pay4_apply x0 x1 x2 1536 _ r u ⟨u.val + 1536, by omega⟩ (Nat.add_comm _ _))
      (pay4_apply x0 x1 x2 4352 _ r u ⟨u.val + 1536 + 2816, by omega⟩ (by show u.val + 1536 + 2816 = 4352 + u.val; omega))
  · rw [w2b_apply, pay25_apply]
    refine congrArg (· * _) ?_
    exact congrArg₂ (fun p q => silu p * q) (pay17_apply x0 x1 x2 2304 _ r u ⟨u.val + 2304, by omega⟩ (Nat.add_comm _ _))
      (pay17_apply x0 x1 x2 5120 _ r u ⟨u.val + 2304 + 2816, by omega⟩ (by show u.val + 2304 + 2816 = 5120 + u.val; omega))

end Cert.KernelIdeal.Value

end
-- ==== Proof.Value.Sample.lean ====
module

public import proofs.«01_k».proof.Proof.Value.Prompt

@[expose] public section

set_option maxRecDepth 16384

noncomputable section

namespace Cert.KernelIdeal.Value

open Cert.KernelIdeal Cert.KernelIdeal.Gen Cert.KernelIdeal.Hand Cert.Layer
open Idealize.ShloMosaic

/-- The decode rows before the projections: normed and scaled. -/
theorem pay28_apply (x : Vec Ideal S128x1024 .f32) (g : Vec Ideal S1x1024 .f32) (r : Fin 128) (k : Fin 1024) :
    k0_pay28 x g (ix2 r k) = rms (fun i => x (ix2 r i)) (fun i => g (ix2 0 i)) k := by
  unfold rms meanSq
  unfold_payloads
  pointwise

theorem pay29_apply (x : Vec Ideal S128x1024 .f32) (g : Vec Ideal S1x1024 .f32) (w : Vec Ideal S1024x5632 .bf16) (o : ℕ) (h) (r : Fin 128) (c : Fin 768) (d : Fin 5632) (hd : d.val = o + c.val) :
    k0_pay29 x g (wcol w o h) (ix2 r c) = ∑ k, rms (fun i => x (ix2 r i)) (fun i => g (ix2 0 i)) k * w (ix2 k d) := by
  unfold k0_pay29
  simp only [← pay28_apply]
  generalize k0_pay28 x g = n
  pointwise
  refine Finset.sum_congr rfl fun k _ => congrArg (n (ix2 r k) * ·) (wcol_apply w o h k c d hd)

/-- The first chunk of hidden units. -/
theorem pay31_apply (x : Vec Ideal S128x1024 .f32) (g : Vec Ideal S1x1024 .f32) (u v : Vec Ideal S1024x768 .bf16) (r : Fin 128) (c : Fin 768) :
    k0_pay31 x g u v (ix2 r c) = silu (k0_pay29 x g u (ix2 r c)) * k0_pay29 x g v (ix2 r c) := by
  unfold silu k0_pay31 k0_pay29
  generalize k0_pay28 x g = n
  pointwise
  rw [zero_sub]

/-- The three first chunks of hidden units through the down weight's first rows. -/
theorem pay34_apply (s : Vec Ideal S128x1024 .f32) (a1 b1 a2 b2 : FVec Ideal S128x768 .f32) (h0 : FVec Ideal S128x768 .bf16) (w : Vec Ideal S2816x1024 .bf16) (r : Fin 128) (j : Fin 1024) (H : Fin 2816 → EReal)
    (ha : ∀ u : Fin 768, h0 (ix2 r u) = H ⟨u.val, by omega⟩) (hb : ∀ u : Fin 768, silu (a1 (ix2 r u)) * b1 (ix2 r u) = H ⟨u.val + 768, by omega⟩) (hc : ∀ u : Fin 768, silu (a2 (ix2 r u)) * b2 (ix2 r u) = H ⟨u.val + 1536, by omega⟩) :
    k0_pay34 s a1 b1 h0 a2 b2 (Scalar.ofBits .f32 0x00000000#32) (w2a w) (ix2 r j) = s (ix2 r j) + ∑ u : Fin 2304, H ⟨u.val, by omega⟩ * w (ix2 ⟨u.val, by omega⟩ j) := by
  simp only [silu, ← zero_sub] at hb hc
  unfold_payloads
  pointwise
  refine congrArg (s (ix2 r j) + ·) (Finset.sum_congr rfl fun u _ => ?_)
  rw [w2a_apply]
  refine congrArg (· * _) ?_
  by_cases h : u.val < 768
  · rw [dif_pos h]
    exact ha ⟨u.val, h⟩
  rw [dif_neg h]
  by_cases h' : u.val - 768 < 768
  · refine (dif_pos h').trans ((hb ⟨u.val - 768, h'⟩).trans (congrArg H (Fin.ext ?_)))
    show u.val - 768 + 768 = u.val
    omega
  · refine (dif_neg h').trans ((hc ⟨u.val - 768 - 768, by omega⟩).trans (congrArg H (Fin.ext ?_)))
    show u.val - 768 - 768 + 1536 = u.val
    omega

/-- The last chunk through the down weight's last rows. -/
theorem pay35_apply (x : Vec Ideal S128x1024 .f32) (g : Vec Ideal S1x1024 .f32) (w : Vec Ideal S1024x5632 .bf16) (w2 : Vec Ideal S2816x1024 .bf16) (h h') (r : Fin 128) (j : Fin 1024) :
    k0_pay35 (k0_pay28 x g) (wcol5 w 2304 h) (wcol5 w 5120 h') (w2b w2) (ix2 r j)
      = ∑ u : Fin 512, hid (rms (fun i => x (ix2 r i)) fun i => g (ix2 0 i)) (fun k c => w (ix2 k c)) ⟨u.val + 2304, by omega⟩ * w2 (ix2 ⟨u.val + 2304, by omega⟩ j) := by
  have e : rms (fun i => x (ix2 r i)) (fun i => g (ix2 0 i)) = fun k => k0_pay28 x g (ix2 r k) := funext fun k => (pay28_apply x g r k).symm
  rw [e]
  unfold hid silu k0_pay35
  generalize k0_pay28 x g = n
  pointwise
  refine Finset.sum_congr rfl fun u _ => ?_
  rw [w2b_apply, zero_sub]
  refine congrArg (· * _) ?_
  exact congrArg₂ (fun p q => silu p * q)
    (Finset.sum_congr rfl fun k _ => congrArg (n (ix2 r k) * ·) (wcol5_apply w 2304 h k u ⟨u.val + 2304, by omega⟩ (Nat.add_comm _ _)))
    (Finset.sum_congr rfl fun k _ => congrArg (n (ix2 r k) * ·) (wcol5_apply w 5120 h' k u ⟨u.val + 2304 + 2816, by omega⟩ (by show u.val + 2304 + 2816 = 5120 + u.val; omega)))

theorem pay2_apply (p q : FVec Ideal S128x1024 .f32) (g : Vec Ideal S1x1024 .f32) (r : Fin 128) (o : Fin 1) (j : Fin 1024) :
    k0_pay2 p q g (ix3 r o j) = rms (fun i => p (ix2 r i) + q (ix2 r i)) (fun i => g (ix2 0 i)) j := by
  unfold rms meanSq
  unfold_payloads
  pointwise

/-- A decode row is the feed-forward layer of that row. -/
theorem sampBlk_apply (x1 : Vec Ideal S1x1024 .f32) (x2 : Vec Ideal S1024x5632 .bf16) (x3 : Vec Ideal S2816x1024 .bf16) (x4 : Vec Ideal S1x1024 .f32) (s : Vec Ideal S128x1024 .f32) (r : Fin 128) (o : Fin 1) (j : Fin 1024) :
    sampBlk x1 x2 x3 x4 s (ix3 r o j) = mlp (fun i => s (ix2 r i)) (fun i => x1 (ix2 0 i)) (fun k c => x2 (ix2 k c)) (fun c i => x3 (ix2 c i)) (fun i => x4 (ix2 0 i)) j := by
  unfold sampBlk mlp
  rw [pay2_apply]
  refine congrArg (fun y => rms y (fun i => x4 (ix2 0 i)) j) (funext fun i => ?_)
  rw [sum_hidden, ← add_assoc]
  refine congrArg₂ (· + ·) (pay34_apply s _ _ _ _ _ x3 r i (hid (rms (fun i => s (ix2 r i)) fun i => x1 (ix2 0 i)) fun k c => x2 (ix2 k c)) ?_ ?_ ?_) (pay35_apply s x1 x2 x3 _ _ r i)
  · intro u
    rw [pay31_apply]
    exact congrArg₂ (fun p q => silu p * q) (pay29_apply s x1 x2 0 _ r u ⟨u.val, by omega⟩ (Nat.zero_add _).symm)
      (pay29_apply s x1 x2 2816 _ r u ⟨u.val + 2816, by omega⟩ (Nat.add_comm _ _))
  · intro u
    exact congrArg₂ (fun p q => silu p * q) (pay29_apply s x1 x2 768 _ r u ⟨u.val + 768, by omega⟩ (Nat.add_comm _ _))
      (pay29_apply s x1 x2 3584 _ r u ⟨u.val + 768 + 2816, by omega⟩ (by show u.val + 768 + 2816 = 3584 + u.val; omega))
  · intro u
    exact congrArg₂ (fun p q => silu p * q) (pay29_apply s x1 x2 1536 _ r u ⟨u.val + 1536, by omega⟩ (Nat.add_comm _ _))
      (pay29_apply s x1 x2 4352 _ r u ⟨u.val + 1536 + 2816, by omega⟩ (by show u.val + 1536 + 2816 = 4352 + u.val; omega))

end Cert.KernelIdeal.Value

end
-- ==== Proof.Value.Out.lean ====
module

public import proofs.«01_k».proof.Proof.Value.Sample

@[expose] public section

set_option maxRecDepth 16384

noncomputable section

namespace Cert.KernelIdeal.Value

open Cert.KernelIdeal Cert.KernelIdeal.Gen Cert.KernelIdeal.Hand Cert.Layer
open Idealize.ShloMosaic

/-- The plane of the attention rows that holds column `c` of the joined heads. -/
abbrev pl (c : Fin 1024) : Fin 8 := ⟨c.val / 128 % 2 * 4 + c.val / 256, by omega⟩
abbrev lane (c : Fin 1024) : Fin 128 := ⟨c.val % 128, by omega⟩

theorem plane_apply (a : Vec Ideal S128x8x128 .f32) (o : ℕ) (h) (r : Fin 128) (z : Fin 1) (l : Fin 128) (p : Fin 8) (hp : p.val = o) : plane a o h (ix3 r z l) = a (ix3 r p l) :=
  congrArg a (funext fun x => Fin.ext (by
    fin_cases x
    · show 0 + 1 * r.val = r.val; omega
    · show o + 1 * z.val = p.val; omega
    · show 0 + 1 * l.val = l.val; omega))

/-- A value chosen by a test is `x` if both choices are. -/
theorem dite_all {p : Prop} [Decidable p] {f : p → EReal} {g : ¬p → EReal} {x : EReal} (hf : ∀ h, f h = x) (hg : ∀ h, g h = x) : dite p f g = x := by
  by_cases h : p
  · exact (dif_pos h).trans (hf h)
  · exact (dif_neg h).trans (hg h)

/-- Column `c` of the joined heads, read out of the plane that holds it. -/
theorem plane_col (a : Vec Ideal S128x8x128 .f32) (o : ℕ) (h) (r : Fin 128) (l : Fin 128) (c : Fin 1024) (e : ℕ) (hc : c.val = 128 * e + l.val) (ho : e % 2 * 4 + e / 2 = o) :
    plane a o h (ix3 r 0 l) = a (ix3 r (pl c) (lane c)) := by
  refine (plane_apply a o h r 0 l (pl c) ?_).trans (congrArg (fun x => a (ix3 r (pl c) x)) (Fin.ext ?_))
  · show c.val / 128 % 2 * 4 + c.val / 256 = o
    omega
  · show l.val = c.val % 128
    omega

/-- The decode rows before the feed-forward layer: the residual and the projected attention. -/
theorem sampIn_apply (a : Vec Ideal S128x8x128 .f32) (xs : Vec Ideal S128x1024 .f32) (wo : Vec Ideal S1024x1024 .bf16) (r : Fin 128) (j : Fin 1024) :
    sampIn a xs wo (ix2 r j) = xs (ix2 r j) + ∑ c, a (ix3 r (pl c) (lane c)) * wo (ix2 c j) := by
  unfold sampIn
  unfold_payloads
  pointwise
  refine congrArg (xs (ix2 r j) + ·) (Finset.sum_congr rfl fun c _ => ?_)
  refine congrArg (· * _) ?_
  refine dite_all (fun h => plane_col a 0 _ r _ c 0 (by show c.val = 128 * 0 + c.val; omega) rfl) fun h0 => ?_
  refine dite_all (fun h => plane_col a 4 _ r _ c 1 (by show c.val = 128 * 1 + (c.val - 128); omega) rfl) fun h1 => ?_
  refine dite_all (fun h => plane_col a 1 _ r _ c 2 (by show c.val = 128 * 2 + (c.val - 128 - 128); omega) rfl) fun h2 => ?_
  refine dite_all (fun h => plane_col a 5 _ r _ c 3 (by show c.val = 128 * 3 + (c.val - 128 - 128 - 128); omega) rfl) fun h3 => ?_
  refine dite_all (fun h => plane_col a 2 _ r _ c 4 (by show c.val = 128 * 4 + (c.val - 128 - 128 - 128 - 128); omega) rfl) fun h4 => ?_
  refine dite_all (fun h => plane_col a 6 _ r _ c 5 (by show c.val = 128 * 5 + (c.val - 128 - 128 - 128 - 128 - 128); omega) rfl) fun h5 => ?_
  refine dite_all (fun h => plane_col a 3 _ r _ c 6 (by show c.val = 128 * 6 + (c.val - 128 - 128 - 128 - 128 - 128 - 128); omega) rfl) fun h6 => ?_
  exact plane_col a 7 _ r _ c 7 (by show c.val = 128 * 7 + (c.val - 128 - 128 - 128 - 128 - 128 - 128 - 128); omega) rfl

end Cert.KernelIdeal.Value

end
-- ==== Proof.Value.Softmax.lean ====
module

public import proofs.«01_k».proof.Proof.Value.Spec

@[expose] public section

set_option maxRecDepth 16384

noncomputable section

namespace Cert.Layer

open Idealize.ShloMosaic

/-! Two ways of writing softmax attention agree on finite scores: powers of two, divided once at the end, and powers
of e of the scores times `log 2`, each divided before it weighs its value. -/

theorem bits_bot : Ideal.ofBits .f32 0xFF800000#32 = ⊥ := by simp [Ideal.ofBits, Ideal.ieee]
theorem bits_two : Ideal.ofBits .f32 0x40000000#32 = ((2 : ℝ) : EReal) := by
  simp [Ideal.ofBits, Ideal.ieee, -EReal.coe_mul]
  norm_num
theorem log_two : Ideal.log (Ideal.ofBits .f32 0x40000000#32) = ((Real.log 2 : ℝ) : EReal) := by
  rw [bits_two, Ideal.log_coe, if_neg (by norm_num)]

/-- The largest of a row of scores. -/
def top (s : Fin 256 → EReal) : EReal := Finset.fold max (Ideal.ofBits .f32 0xFF800000#32) s Finset.univ

/-- The kernel's attention, -/
def attTwo (s v : Fin 256 → EReal) : EReal :=
  Ideal.div (∑ m, Ideal.exp2 (s m - top s) * v m) (∑ m, Ideal.exp2 (s m - top s))
/-- and the reference's. -/
def attExp (s v : Fin 256 → EReal) : EReal :=
  ∑ m, Ideal.div (Ideal.exp (s m - max (Ideal.ofBits .f32 0xFF800000#32) (top s))) (∑ n, Ideal.exp (s n - max (Ideal.ofBits .f32 0xFF800000#32) (top s))) * v m

theorem top_coe (t : Fin 256 → ℝ) : ∃ M : ℝ, top (fun m => (t m : EReal)) = M := by
  have h1 : (t 0 : EReal) ≤ top (fun m => (t m : EReal)) := (Finset.le_fold_max _).2 (Or.inr ⟨0, Finset.mem_univ _, le_rfl⟩)
  have h2 : top (fun m => (t m : EReal)) < ⊤ := (Finset.fold_max_lt _).2 ⟨by rw [bits_bot]; exact bot_lt_top, fun m _ => EReal.coe_lt_top _⟩
  have h3 : top (fun m => (t m : EReal)) ≠ ⊥ := fun h => absurd (h ▸ h1) (not_le.2 (EReal.bot_lt_coe _))
  exact ⟨_, (EReal.coe_toReal h2.ne h3).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top _) _ _

theorem attTwo_eq (t : Fin 256 → ℝ) (v : Fin 256 → EReal) :
    attTwo (fun m => (t m : EReal)) v = attExp (fun m => (t m : EReal) * ((Real.log 2 : ℝ) : EReal)) v := by
  obtain ⟨M, hM⟩ := top_coe t
  obtain ⟨M', hM'⟩ := top_coe fun m => t m * Real.log 2
  have hs : (fun m => (t m : EReal) * ((Real.log 2 : ℝ) : EReal)) = fun m => ((t m * Real.log 2 : ℝ) : EReal) := funext fun m => (EReal.coe_mul _ _).symm
  rw [hs]
  unfold attTwo attExp
  rw [hM, hM', bits_bot, max_eq_right bot_le]
  simp only [← EReal.coe_sub, Ideal.exp_coe, Ideal.exp2_coe, coe_sum]
  have k : ∀ m, Real.rpow 2 (t m - M) = Real.exp (t m * Real.log 2 - M') * Real.exp (M' - M * Real.log 2) := fun m => by
    rw [← Real.exp_add]
    refine (Real.rpow_def_of_pos (by norm_num) _).trans (congrArg Real.exp ?_)
    ring
  have pos : 0 < ∑ m, Real.exp (t m * Real.log 2 - M') := Finset.sum_pos (fun m _ => Real.exp_pos _) Finset.univ_nonempty
  have kp := Real.exp_pos (M' - M * Real.log 2)
  simp only [k, ← Finset.sum_mul]
  rw [Ideal.div_coe (mul_pos pos kp).ne', sum_mul_coe _ _ _ (one_div_nonneg.2 (mul_pos pos kp).le)]
  refine Finset.sum_congr rfl fun m _ => ?_
  rw [Ideal.div_coe pos.ne', mul_right_comm, ← EReal.coe_mul, ← EReal.coe_mul]
  refine congrArg (fun c : ℝ => (c : EReal) * v m) ?_
  field_simp

end Cert.Layer

end
-- ==== Proof.Value.Row.lean ====
module

public import proofs.«01_k».proof.Proof.Value.Out
public import proofs.«01_k».proof.Proof.Value.Softmax

@[expose] public section

set_option maxRecDepth 16384

noncomputable section

namespace Cert.KernelIdeal.Value

open Cert.KernelIdeal Cert.KernelIdeal.Gen Cert.KernelIdeal.Hand Cert.Layer
open Idealize.ShloMosaic

/-- One attention row: the scores of a plane and its partner plane together, and their softmax over the values. -/
theorem attRow_apply (k : Vec Ideal S1x256x8x128 .f32) (q : Vec Ideal S1x8x128 .f32) (v : Vec Ideal S1x256x8x128 .f32) (r : Fin 8) (d : Fin 128) :
    attRow k q v (ix3 0 r d) = attTwo (fun m => ∑ l : Fin 128, (k (ix4 0 m r l) * q (ix3 0 r l) + k (ix4 0 m ⟨(r.val + 8 - 4) % 8, by omega⟩ l) * q (ix3 0 ⟨(r.val + 8 - 4) % 8, by omega⟩ l))) fun m => v (ix4 0 m r d) := by
  unfold attRow attTwo top
  unfold_payloads
  pointwise
  rfl

end Cert.KernelIdeal.Value

end
-- ==== Proof.Value.Ref.lean ====
module

public import proofs.«01_k».proof.Proof.Value.Softmax
public import proofs.«01_k».proof.Proof.Gen.ReferenceIdeal.Read

@[expose] public section

set_option maxRecDepth 16384

noncomputable section

namespace Cert.ReferenceIdeal.Rows

open Cert.ReferenceIdeal Cert.ReferenceIdeal.Gen Cert.ReferenceIdeal.Read Cert.Layer
open Idealize.ShloMosaic

/-- The reference's normed rows. -/
theorem v35_apply (x0 x1) (r : Fin 16384) (k : Fin 1024) :
    val_main_v35 (F := Ideal) x0 x1 (ix2 r k) = rms (fun i => x0 (ix2 r i)) (fun i => x1 (ix2 0 i)) k := by
  unfold rms meanSq
  unfold val_main_v35 val_main_v34 val_main_v33 val_main_v32 val_main_v31 val_main_v30 val_main_v29 val_main_v28 val_main_v27 val_main_v26 val_main_v25 val_main_v24 val_main_cst_3 val_main_cst_4 val_main_cst_5
  pointwise
theorem v36_apply (x0 x1 x2) (r : Fin 16384) (c : Fin 5632) :
    val_main_v36 (F := Ideal) x0 x1 x2 (ix2 r c) = ∑ k, val_main_v35 (F := Ideal) x0 x1 (ix2 r k) * x2 (ix2 k c) := by
  unfold val_main_v36
  generalize val_main_v35 (F := Ideal) x0 x1 = n
  unfold val_main_v0
  pointwise
theorem v40_apply (x0 x1 x2) (r : Fin 16384) (c : Fin 2816) :
    val_main_v40 (F := Ideal) x0 x1 x2 (ix2 r c) = silu (val_main_v36 (F := Ideal) x0 x1 x2 (ix2 r ⟨c.val, by omega⟩)) * val_main_v36 (F := Ideal) x0 x1 x2 (ix2 r ⟨c.val + 2816, by omega⟩) := by
  unfold silu
  unfold val_main_v40 val_main_v39 val_main_v38 val_main_v37 val_main_call0_v5 val_main_call0_v4 val_main_call0_v3 val_main_call0_v2 val_main_call0_v1 val_main_call0_v0 val_main_v37 val_main_call0_cst val_main_call0_cst_0
  generalize val_main_v36 (F := Ideal) x0 x1 x2 = n
  pointwise
  exact congrArg (fun d => _ * n (ix2 r d)) (Fin.ext (Nat.add_comm _ _))
theorem v42_apply (x0 x1 x2 x3) (r : Fin 16384) (j : Fin 1024) :
    val_main_v42 (F := Ideal) x0 x1 x2 x3 (ix2 r j) = x0 (ix2 r j) + ∑ c, val_main_v40 (F := Ideal) x0 x1 x2 (ix2 r c) * x3 (ix2 c j) := by
  unfold val_main_v42 val_main_v41
  generalize val_main_v40 (F := Ideal) x0 x1 x2 = n
  unfold val_main_v1
  pointwise
theorem v54_apply (x0 x1 x2 x3 x4) (r : Fin 16384) (k : Fin 1024) :
    val_main_v54 (F := Ideal) x0 x1 x2 x3 x4 (ix2 r k) = rms (fun i => val_main_v42 (F := Ideal) x0 x1 x2 x3 (ix2 r i)) (fun i => x4 (ix2 0 i)) k := by
  unfold rms meanSq
  unfold val_main_v54 val_main_v53 val_main_v52 val_main_v51 val_main_v50 val_main_v49 val_main_v48 val_main_v47 val_main_v46 val_main_v45 val_main_v44 val_main_v43 val_main_cst_6 val_main_cst_7 val_main_cst_8
  generalize val_main_v42 (F := Ideal) x0 x1 x2 x3 = n
  pointwise

/-- The reference's prompt row is the feed-forward layer of that row. -/
theorem prompt_row (x0 x1 x2 x3 x4) (r : Fin 16384) (j : Fin 1024) :
    val_main_v54 (F := Ideal) x0 x1 x2 x3 x4 (ix2 r j) = mlp (fun i => x0 (ix2 r i)) (fun i => x1 (ix2 0 i)) (fun k c => x2 (ix2 k c)) (fun c i => x3 (ix2 c i)) (fun i => x4 (ix2 0 i)) j := by
  rw [v54_apply]
  unfold mlp hid
  refine congrArg (fun y => rms y (fun i => x4 (ix2 0 i)) j) (funext fun i => ?_)
  simp only [v42_apply, v40_apply, v36_apply, v35_apply]

/-! The same operations on the decode rows, from their rows `s` before the feed-forward layer. -/

theorem v68_apply (x1 x5 x6 x7 x8 x9) (r : Fin 128) (k : Fin 1024) :
    val_main_v68 (F := Ideal) x1 x5 x6 x7 x8 x9 (ix2 r k) = rms (fun i => val_main_v56 (F := Ideal) x5 x6 x7 x8 x9 (ix2 r i)) (fun i => x1 (ix2 0 i)) k := by
  unfold rms meanSq
  unfold val_main_v68 val_main_v67 val_main_v66 val_main_v65 val_main_v64 val_main_v63 val_main_v62 val_main_v61 val_main_v60 val_main_v59 val_main_v58 val_main_v57 val_main_cst_9 val_main_cst_10 val_main_cst_11
  generalize val_main_v56 (F := Ideal) x5 x6 x7 x8 x9 = n
  pointwise
theorem v69_apply (x1 x2 x5 x6 x7 x8 x9) (r : Fin 128) (c : Fin 5632) :
    val_main_v69 (F := Ideal) x1 x2 x5 x6 x7 x8 x9 (ix2 r c) = ∑ k, val_main_v68 (F := Ideal) x1 x5 x6 x7 x8 x9 (ix2 r k) * x2 (ix2 k c) := by
  unfold val_main_v69
  generalize val_main_v68 (F := Ideal) x1 x5 x6 x7 x8 x9 = n
  unfold val_main_v0
  pointwise
theorem v73_apply (x1 x2 x5 x6 x7 x8 x9) (r : Fin 128) (c : Fin 2816) :
    val_main_v73 (F := Ideal) x1 x2 x5 x6 x7 x8 x9 (ix2 r c) = silu (val_main_v69 (F := Ideal) x1 x2 x5 x6 x7 x8 x9 (ix2 r ⟨c.val, by omega⟩)) * val_main_v69 (F := Ideal) x1 x2 x5 x6 x7 x8 x9 (ix2 r ⟨c.val + 2816, by omega⟩) := by
  unfold silu
  unfold val_main_v73 val_main_v72 val_main_v71 val_main_v70 val_main_call1_v5 val_main_call1_v4 val_main_call1_v3 val_main_call1_v2 val_main_call1_v1 val_main_call1_v0 val_main_v70 val_main_call1_cst val_main_call1_cst_0
  generalize val_main_v69 (F := Ideal) x1 x2 x5 x6 x7 x8 x9 = n
  pointwise
  exact congrArg (fun d => _ * n (ix2 r d)) (Fin.ext (Nat.add_comm _ _))
theorem v75_apply (x1 x2 x3 x5 x6 x7 x8 x9) (r : Fin 128) (j : Fin 1024) :
    val_main_v75 (F := Ideal) x1 x2 x3 x5 x6 x7 x8 x9 (ix2 r j) = val_main_v56 (F := Ideal) x5 x6 x7 x8 x9 (ix2 r j) + ∑ c, val_main_v73 (F := Ideal) x1 x2 x5 x6 x7 x8 x9 (ix2 r c) * x3 (ix2 c j) := by
  unfold val_main_v75 val_main_v74
  generalize val_main_v73 (F := Ideal) x1 x2 x5 x6 x7 x8 x9 = n
  generalize val_main_v56 (F := Ideal) x5 x6 x7 x8 x9 = n'
  unfold val_main_v1
  pointwise
theorem v87_apply (x1 x2 x3 x4 x5 x6 x7 x8 x9) (r : Fin 128) (k : Fin 1024) :
    val_main_v87 (F := Ideal) x1 x2 x3 x4 x5 x6 x7 x8 x9 (ix2 r k) = rms (fun i => val_main_v75 (F := Ideal) x1 x2 x3 x5 x6 x7 x8 x9 (ix2 r i)) (fun i => x4 (ix2 0 i)) k := by
  unfold rms meanSq
  unfold val_main_v87 val_main_v86 val_main_v85 val_main_v84 val_main_v83 val_main_v82 val_main_v81 val_main_v80 val_main_v79 val_main_v78 val_main_v77 val_main_v76 val_main_cst_12 val_main_cst_13 val_main_cst_14
  generalize val_main_v75 (F := Ideal) x1 x2 x3 x5 x6 x7 x8 x9 = n
  pointwise

/-- The reference's decode row is the feed-forward layer of that row. -/
theorem sample_row (x1 x2 x3 x4 x5 x6 x7 x8 x9) (r : Fin 128) (o : Fin 1) (j : Fin 1024) :
    val_main_v88 (F := Ideal) x1 x2 x3 x4 x5 x6 x7 x8 x9 (ix3 r o j) = mlp (fun i => val_main_v56 (F := Ideal) x5 x6 x7 x8 x9 (ix2 r i)) (fun i => x1 (ix2 0 i)) (fun k c => x2 (ix2 k c)) (fun c i => x3 (ix2 c i)) (fun i => x4 (ix2 0 i)) j := by
  have e : val_main_v88 (F := Ideal) x1 x2 x3 x4 x5 x6 x7 x8 x9 (ix3 r o j) = val_main_v87 (F := Ideal) x1 x2 x3 x4 x5 x6 x7 x8 x9 (ix2 r j) := by
    unfold val_main_v88
    generalize val_main_v87 (F := Ideal) x1 x2 x3 x4 x5 x6 x7 x8 x9 = n
    pointwise
  rw [e, v87_apply]
  unfold mlp hid
  refine congrArg (fun y => rms y (fun i => x4 (ix2 0 i)) j) (funext fun i => ?_)
  simp only [v75_apply, v73_apply, v69_apply, v68_apply]

/-! The attention of the decode rows. -/

/-- Their projection and residual, -/
theorem v56_apply (x5 x6 x7 x8 x9) (r : Fin 128) (j : Fin 1024) :
    val_main_v56 (F := Ideal) x5 x6 x7 x8 x9 (ix2 r j) = x8 (ix2 r j) + ∑ c : Fin 1024, val_main_v22 (F := Ideal) x5 x6 x7 (ix3 r ⟨c.val / 256, by omega⟩ ⟨c.val % 256, by omega⟩) * x9 (ix2 c j) := by
  unfold val_main_v56 val_main_v55 val_main_v23
  generalize val_main_v22 (F := Ideal) x5 x6 x7 = n
  unfold val_main_v2
  pointwise
/-- the weighted values, -/
theorem v22_apply (x5 x6 x7) (b : Fin 128) (h : Fin 4) (d : Fin 256) :
    val_main_v22 (F := Ideal) x5 x6 x7 (ix3 b h d) = ∑ m, val_main_v21 (F := Ideal) x5 x6 (ix3 b h m) * x7 (ix4 b m h d) := by
  unfold val_main_v22
  generalize val_main_v21 (F := Ideal) x5 x6 = n
  pointwise
/-- the softmax weights, -/
theorem v21_apply (x5 x6) (b : Fin 128) (h : Fin 4) (m : Fin 256) (s : Fin 256 → EReal) (hs : ∀ m, val_main_v10 (F := Ideal) x5 x6 (ix3 b h m) = s m) :
    val_main_v21 (F := Ideal) x5 x6 (ix3 b h m)
      = Ideal.div (Ideal.exp (s m - max (Ideal.ofBits .f32 0xFF800000#32) (top s))) (∑ n, Ideal.exp (s n - max (Ideal.ofBits .f32 0xFF800000#32) (top s))) := by
  obtain rfl : (fun m => val_main_v10 (F := Ideal) x5 x6 (ix3 b h m)) = s := funext hs
  unfold top
  unfold val_main_v21 val_main_v20 val_main_v19 val_main_v18 val_main_v17 val_main_v16 val_main_v15 val_main_v14 val_main_v13 val_main_v12 val_main_v11 val_main_cst_0 val_main_cst_1 val_main_cst_2
  generalize val_main_v10 (F := Ideal) x5 x6 = n
  pointwise

/-- The score of query `(b, h)` against key `m`, before the change of base. -/
def score (q : Vec Ideal S128x8x128 .f32) (k : Vec Ideal S128x256x4x256 .f32) (b : Fin 128) (h : Fin 4) (m : Fin 256) : EReal :=
  ∑ d : Fin 256, q (ix3 b ⟨d.val / 128 * 4 + h.val, by omega⟩ ⟨d.val % 128, by omega⟩) * k (ix4 b m h d)

/-- and the scores. -/
theorem v10_apply (x5 x6) (b : Fin 128) (h : Fin 4) (m : Fin 256) :
    val_main_v10 (F := Ideal) x5 x6 (ix3 b h m) = score x5 x6 b h m * ((Real.log 2 : ℝ) : EReal) := by
  unfold score
  rw [← log_two]
  unfold val_main_v10 val_main_v9 val_main_v8 val_main_v7 val_main_v6 val_main_v5 val_main_v4 val_main_v3 val_main_cst
  pointwise
  rfl

/-- The reference's attention. -/
theorem att_apply (x5 x6 x7) (b : Fin 128) (h : Fin 4) (d : Fin 256) :
    val_main_v22 (F := Ideal) x5 x6 x7 (ix3 b h d) = attExp (fun m => score x5 x6 b h m * ((Real.log 2 : ℝ) : EReal)) fun m => x7 (ix4 b m h d) := by
  rw [v22_apply]
  unfold attExp
  exact Finset.sum_congr rfl fun m _ => congrArg (· * _) (v21_apply x5 x6 b h m _ fun m => v10_apply x5 x6 b h m)

end Cert.ReferenceIdeal.Rows

end
-- ==== Proof.Value.Scores.lean ====
module

public import proofs.«01_k».proof.Defs
public import proofs.«01_k».proof.Proof.Gen.Pre_finite_scores
public import proofs.«01_k».proof.Proof.Value.Blocks
public import proofs.«01_k».proof.Proof.Value.Row
public import proofs.«01_k».proof.Proof.Value.Softmax
public import proofs.«01_k».proof.Proof.Value.Ref

@[expose] public section

set_option maxRecDepth 16384

noncomputable section

namespace Cert.KernelIdeal.Value

open Cert.KernelIdeal Cert.KernelIdeal.Gen Cert.KernelIdeal.Hand Cert.Layer
open Cert.ReferenceIdeal.Read (val_main_v22 val_main_v54 val_main_v56 val_main_v88)
open Cert.ReferenceIdeal.Rows (score att_apply v56_apply prompt_row sample_row)
open Idealize.ShloMosaic Idealize.ShloMosaic.TcCoe

variable (m : (ℓ : Loc nD τ sig) → Buf (Elt Ideal) ℓ)

/-- A sum over 256 columns is one over their two halves. -/
theorem sum_halves (f : Fin 256 → EReal) : ∑ d, f d = ∑ l : Fin 128, f ⟨l.val, by omega⟩ + ∑ l : Fin 128, f ⟨l.val + 128, by omega⟩ := by
  have h := Fin.sum_univ_add (a := 128) (b := 128) (fun d => f (d : Fin (128 + 128)))
  refine h.trans (congrArg₂ (· + ·) rfl (Finset.sum_congr rfl fun l _ => congrArg f (Fin.ext ?_)))
  show 128 + l.val = l.val + 128
  omega

/-- The score the kernel adds up from a half and its partner is the reference's. -/
theorem score_eq (q : Vec Ideal S128x8x128 .f32) (k : Vec Ideal S128x256x4x256 .f32) (b : Fin 128) (n : Fin 256) (p : Fin 8) :
    (∑ l : Fin 128, (k (ix4 b n ⟨p.val % 4, by omega⟩ ⟨p.val / 4 * 128 + l.val, by omega⟩) * q (ix3 b p l)
        + k (ix4 b n ⟨(p.val + 8 - 4) % 8 % 4, by omega⟩ ⟨(p.val + 8 - 4) % 8 / 4 * 128 + l.val, by omega⟩) * q (ix3 b ⟨(p.val + 8 - 4) % 8, by omega⟩ l)))
      = score q k b ⟨p.val % 4, by omega⟩ n := by
  unfold score
  rw [sum_halves, Finset.sum_add_distrib]
  have key (p' : Fin 8) (d : ℕ) (hd : d < 256) (l : Fin 128) (h4 : p'.val % 4 = p.val % 4) (e : d = p'.val / 4 * 128 + l.val) :
      k (ix4 b n ⟨p'.val % 4, by omega⟩ ⟨p'.val / 4 * 128 + l.val, by omega⟩) * q (ix3 b p' l)
        = q (ix3 b ⟨d / 128 * 4 + p.val % 4, by omega⟩ ⟨d % 128, by omega⟩) * k (ix4 b n ⟨p.val % 4, by omega⟩ ⟨d, hd⟩) := by
    subst e
    rw [mul_comm]
    congr 3
    · exact Fin.ext (by show p'.val = (p'.val / 4 * 128 + l.val) / 128 * 4 + p.val % 4; omega)
    · exact Fin.ext (by show l.val = (p'.val / 4 * 128 + l.val) % 128; omega)
    · exact Fin.ext h4
  by_cases hp : p.val < 4
  · refine congrArg₂ (· + ·) (Finset.sum_congr rfl fun l _ => key p _ _ l rfl (by show l.val = p.val / 4 * 128 + l.val; omega)) (Finset.sum_congr rfl fun l _ => key ⟨(p.val + 8 - 4) % 8, by omega⟩ _ _ l (by show (p.val + 8 - 4) % 8 % 4 = p.val % 4; omega) (by show l.val + 128 = (p.val + 8 - 4) % 8 / 4 * 128 + l.val; omega))
  · rw [add_comm]
    refine congrArg₂ (· + ·) (Finset.sum_congr rfl fun l _ => key ⟨(p.val + 8 - 4) % 8, by omega⟩ _ _ l (by show (p.val + 8 - 4) % 8 % 4 = p.val % 4; omega) (by show l.val = (p.val + 8 - 4) % 8 / 4 * 128 + l.val; omega)) (Finset.sum_congr rfl fun l _ => key p _ _ l rfl (by show l.val + 128 = p.val / 4 * 128 + l.val; omega))

/-- A score of finite entries is finite. -/
theorem score_coe (q : Vec Ideal S128x8x128 .f32) (k : Vec Ideal S128x256x4x256 .f32) (hq : ∀ i, ∃ x : ℝ, q i = (x : EReal)) (hk : ∀ i, ∃ x : ℝ, k i = (x : EReal))
    (b : Fin 128) (h : Fin 4) : ∃ t : Fin 256 → ℝ, ∀ n, score q k b h n = (t n : EReal) := by
  choose qr hq using hq
  choose kr hk using hk
  refine ⟨fun n => ∑ d : Fin 256, qr (ix3 b ⟨d.val / 128 * 4 + h.val, by omega⟩ ⟨d.val % 128, by omega⟩) * kr (ix4 b n h d), fun n => ?_⟩
  unfold score
  rw [← coe_sum]
  refine Finset.sum_congr rfl fun d _ => ?_
  rw [hq, hk, EReal.coe_mul]

/-- What the precondition says of one array: every entry is below infinity in absolute value, hence real. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hl : max x (-x) < ⊤ := by
    by_contra hn
    simp [Ideal.cmp, hn] at h
    try exact hn (by simpa using h)
  rw [max_lt_iff] at hl
  refine ⟨x.toReal, (EReal.coe_toReal hl.1.ne fun hb => ?_).symm⟩
  rw [hb] at hl
  exact absurd hl.2 (by simp)

theorem finite_q (hp : Pre_KernelIdeal_finite_scores (hPre_finite_scores := Cert.Pre_finite_scores.Gen.facts) m) (c : Dev nD) (i) : ∃ x : ℝ, m ((c.tc : Thread nD τ).loc main_arg5) i = (x : EReal) :=
  real_of_abs_lt _ (congrFun (hp c).1 i)
theorem finite_k (hp : Pre_KernelIdeal_finite_scores (hPre_finite_scores := Cert.Pre_finite_scores.Gen.facts) m) (c : Dev nD) (i) : ∃ x : ℝ, m ((c.tc : Thread nD τ).loc main_arg6) i = (x : EReal) :=
  real_of_abs_lt _ (congrFun (hp c).2 i)

/-- The attention rows in the scratch are the reference's, whenever the queries and the keys are finite. -/
theorem attAll_apply (hp : Pre_KernelIdeal_finite_scores (hPre_finite_scores := Cert.Pre_finite_scores.Gen.facts) m) (c : Dev nD) (b : Fin 128) (p : Fin 8) (l : Fin 128) :
    attAll m c (ix3 b p l) = val_main_v22 (F := Ideal) (m ((c.tc : Thread nD τ).loc main_arg5)) (m ((c.tc : Thread nD τ).loc main_arg6)) (m ((c.tc : Thread nD τ).loc main_arg7))
      (ix3 b ⟨p.val % 4, by omega⟩ ⟨p.val / 4 * 128 + l.val, by omega⟩) := by
  rw [att_apply]
  obtain ⟨t, ht⟩ := score_coe _ _ (finite_q m hp c) (finite_k m hp c) b ⟨p.val % 4, by omega⟩
  have hK (n : Fin 256) (p : Fin 8) (l : Fin 128) : bigRow (V m c main_v2) b (ix4 0 n p l) = m ((c.tc : Thread nD τ).loc main_arg6) (ix4 b n ⟨p.val % 4, by omega⟩ ⟨p.val / 4 * 128 + l.val, by omega⟩) := by
    refine Eq.trans (congrArg (V m c main_v2) ?_) (keys_apply m c b n p l)
    funext a; fin_cases a <;> rfl
  have hV (n : Fin 256) (p : Fin 8) (l : Fin 128) : bigRow (V m c main_v5) b (ix4 0 n p l) = m ((c.tc : Thread nD τ).loc main_arg7) (ix4 b n ⟨p.val % 4, by omega⟩ ⟨p.val / 4 * 128 + l.val, by omega⟩) := by
    refine Eq.trans (congrArg (V m c main_v5) ?_) (values_apply m c b n p l)
    funext a; fin_cases a <;> rfl
  have hQ (p : Fin 8) (l : Fin 128) : qRow (V m c main_arg5) b (ix3 0 p l) = m ((c.tc : Thread nD τ).loc main_arg5) (ix3 b p l) := by
    refine Eq.trans (congrArg (V m c main_arg5) ?_) (congrFun (V_main_arg5 m c) _)
    funext a; fin_cases a <;> rfl
  have e : attAll m c (ix3 b p l) = attRow (bigRow (V m c main_v2) b) (qRow (V m c main_arg5) b) (bigRow (V m c main_v5) b) (ix3 0 p l) := by
    unfold attAll
    refine congrArg (attRow _ _ _) ?_
    funext a; fin_cases a <;> rfl
  rw [e, attRow_apply]
  simp only [hK, hV, hQ]
  rw [show (fun n : Fin 256 => ∑ l : Fin 128, _) = fun n => (t n : EReal) from funext fun n => (score_eq _ _ b n p).trans (ht n), attTwo_eq]
  simp only [ht]

end Cert.KernelIdeal.Value

end
-- ==== Proof.Value.Arrays.lean ====
module

public import proofs.«01_k».proof.Proof.Value.Scores
public import proofs.«01_k».proof.Proof.Value.Prompt
public import proofs.«01_k».proof.Proof.Value.Sample
public import proofs.«01_k».proof.Proof.Value.Out

@[expose] public section

set_option maxRecDepth 16384

noncomputable section

namespace Cert.KernelIdeal.Value

open Cert.KernelIdeal Cert.KernelIdeal.Gen Cert.KernelIdeal.Hand Cert.Layer
open Cert.ReferenceIdeal.Read (val_main_v22 val_main_v54 val_main_v56 val_main_v88)
open Cert.ReferenceIdeal.Rows (score att_apply v56_apply prompt_row sample_row)
open Idealize.ShloMosaic Idealize.ShloMosaic.TcCoe

variable (m : (ℓ : Loc nD τ sig) → Buf (Elt Ideal) ℓ)

/-! The two result arrays after the pipeline. -/

/-- The prompt rows. -/
theorem final8 (c : Dev nD) : (dats m 0 c).arrAt 8 cfg0.N = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 8 _ (by decide +kernel) fun t hf y => ?_
  obtain ⟨r, j, rfl⟩ : ∃ r j, y = ix2 r j := ⟨y 0, y 1, funext fun a => by fin_cases a <;> rfl⟩
  have h := idx08 t
  have e : ((cfg0.win 8).blk t).view.emb (ix2 r j) = ix2 (⟨win0_8.index t 0 * 512 + r.val, by omega⟩ : Fin 16384) j := by
    funext a
    refine Fin.ext ?_
    blk_simp
    fin_cases a
    · rfl
    · show win0_8.index t 1 * 1024 + j.val = j.val; rw [h.2.2.1]; omega
  refine Eq.trans (b := prompt m c t (ix2 r j)) ?_ (Eq.trans ?_ (congrArg _ e.symm))
  · blk_simp
    rw [after8]
  unfold prompt
  refine (outBlk_apply _ _ _ _ _ r j).trans (Eq.trans ?_ (prompt_row _ _ _ _ _ _ j).symm)
  rw [b1_eq, b2_eq, b3_eq, b4_eq]
  refine congrArg (fun x => mlp x _ _ _ _ j) (funext fun k => b0_apply m c t r k _ rfl)

theorem idx9 : ∀ t : Fin grid0.N, win0_9.index t 0 = 0 ∧ win0_9.index t 1 = 0 ∧ win0_9.index t 2 = 0 := by decide +kernel

/-- The decode rows. -/
theorem final9 (hp : Pre_KernelIdeal_finite_scores (hPre_finite_scores := Cert.Pre_finite_scores.Gen.facts) m) (c : Dev nD) : (dats m 0 c).arrAt 9 cfg0.N = val_main_v88 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 9 _ (by decide +kernel) fun t hf y => ?_
  obtain ⟨r, o, j, rfl⟩ : ∃ r o j, y = ix3 r o j := ⟨y 0, y 1, y 2, funext fun a => by fin_cases a <;> rfl⟩
  have h := idx9 t
  have e : ((cfg0.win 9).blk t).view.emb (ix3 r o j) = (ix3 r o j : S128x1x1024.Idx) := by
    funext a
    refine Fin.ext ?_
    blk_simp
    fin_cases a
    · show win0_9.index t 0 * 128 + r.val = r.val; rw [h.1]; omega
    · show win0_9.index t 1 * 1 + o.val = o.val; rw [h.2.1]; omega
    · show win0_9.index t 2 * 1024 + j.val = j.val; rw [h.2.2]; omega
  refine Eq.trans (b := sample m c t (ix3 r o j)) ?_ (Eq.trans ?_ (congrArg _ e.symm))
  · blk_simp
    rw [after9]
  unfold sample
  refine (sampBlk_apply _ _ _ _ _ r o j).trans (Eq.trans ?_ (sample_row _ _ _ _ _ _ _ _ _ r o j).symm)
  rw [b1_eq, b2_eq, b3_eq, b4_eq]
  refine congrArg (fun x => mlp x _ _ _ _ j) (funext fun k => ?_)
  rw [sampIn_apply, v56_apply, V_main_arg8, V_main_arg9]
  refine congrArg₂ (fun a b : EReal => a + b) rfl (Finset.sum_congr rfl fun n _ => congrArg₂ (fun a b : EReal => a * b) ((attAll_apply m hp c r (pl n) (lane n)).trans (congrArg _ ?_)) rfl)
  have e1 : (pl n).val % 4 = n.val / 256 := by show (n.val / 128 % 2 * 4 + n.val / 256) % 4 = _; omega
  have e2 : (pl n).val / 4 * 128 + (lane n).val = n.val % 256 := by show (n.val / 128 % 2 * 4 + n.val / 256) / 4 * 128 + n.val % 128 = _; omega
  funext a
  fin_cases a
  · rfl
  · exact Fin.ext e1
  · exact Fin.ext e2

end Cert.KernelIdeal.Value

end
-- ==== Proof.Value.Claim.lean ====
module

public import proofs.«01_k».proof.Defs
public import proofs.«01_k».proof.Proof.Value.Arrays
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.SL.Sem
open Cert.ReferenceIdeal.Read (val_main_v54 val_main_v88 val_main_v54_eq val_main_v88_eq)

/-- The two programs, read over the extended reals, end with equal results whenever the queries and the keys are finite. -/
theorem algebraic : algebraic_KernelIdeal_ReferenceIdeal_pre_finite_scores (hKernelIdeal := Cert.KernelIdeal.Gen.facts) (hReferenceIdeal := Cert.ReferenceIdeal.Gen.facts) (hPre_finite_scores := Cert.Pre_finite_scores.Gen.facts) := by
  intro m g m' g' hp hag
  refine ⟨fun c => val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => val_main_v88 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun _ hs c => ⟨((hs.1 c).1 8).trans (Cert.KernelIdeal.Value.final8 m c), ((hs.1 c).1 9).trans (Cert.KernelIdeal.Value.final9 m hp c), Cert.KernelIdeal.Hand.args_kept m hs.1 c⟩) (Cert.KernelIdeal.Hand.run_main m g)
  · refine (θ_run Cert.ReferenceIdeal.defs _ _).mono (fun _ hs c => ⟨(hs c).1.trans ((val_main_v54_eq m' c).trans ?_), (hs c).2.1.trans ((val_main_v88_eq m' c).trans ?_), (hs c).2.2⟩) (Cert.ReferenceIdeal.Value.run (F := Ideal) m' g')
    · obtain ⟨h0, h1, h2, h3, h4, -⟩ := hag c
      rw [h0, h1, h2, h3, h4]
    · obtain ⟨-, h1, h2, h3, h4, h5, h6, h7, h8, h9⟩ := hag c
      rw [h1, h2, h3, h4, h5, h6, h7, h8, h9]

end Cert.Proof

end
-- ==== Proof.Kern2.OutB.lean ====
module

public import proofs.«01_k».proof.Proof.Kern2.RunB
public import proofs.«01_k».proof.Proof.Kern2.State
public import proofs.«01_k».proof.Proof.Kern2.Attn

@[expose] public section

set_option maxRecDepth 16384

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Loads of a whole buffer, at the shapes that are loaded whole. -/
theorem ld2 (x : Vec F S1x1024 .f32) : View.ld (Val := Elt F) (e' := .f32) x (Rect.unit (s := S1x1024) ![0, 0] ![1, 1024] inb_S1x1024_S1x1024_0_0) = x :=
  View.ld_unit_lit (S := S1x1024) (off := ![0, 0]) _ x (fun a => by fin_cases a <;> rfl)
theorem ld3 (x : Vec F S1024x1024 .bf16) : View.ld (Val := Elt F) (e' := .bf16) x (Rect.unit (s := S1024x1024) ![0, 0] ![1024, 1024] inb_S1024x1024_S1024x1024_0_0) = x :=
  View.ld_unit_lit (S := S1024x1024) (off := ![0, 0]) _ x (fun a => by fin_cases a <;> rfl)
theorem ld9 (x : Vec F S176x1024 .f32) : View.ld (Val := Elt F) (e' := .f32) x (Rect.unit (s := S176x1024) ![0, 0] ![176, 1024] inb_S176x1024_S176x1024_0_0) = x :=
  View.ld_unit_lit (S := S176x1024) (off := ![0, 0]) _ x (fun a => by fin_cases a <;> rfl)

/-- The first half's attention, as the body's run leaves them: -/
theorem runB_half0 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (x1 : Vec F S1x1024x1024 .f32) (x2 : Vec F S1x1024 .f32) (x3 : Vec F S1024x1024 .bf16) (x4 : Vec F S1x1024x256 .bf16) (x5 : Vec F S1x256x1024 .bf16) : runB.sl.v156 c arg1 harg1 arg2 harg2 arg3 harg3 arg4 harg4 arg5 harg5 x1 x2 x3 x4 x5 = attB x1 x2 x3 x4 x5 0 := by
  sl_unfold_words
  simp only [View.readAt_eq_ld, Memref.IsWhole.read_unread, ld2, ld3, ld9]
  exact att_read x1 x2 x3 x4 x5 0 [] (fun _ h => absurd h List.not_mem_nil) _

/-- and the second's. -/
theorem runB_half1 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (x1 : Vec F S1x1024x1024 .f32) (x2 : Vec F S1x1024 .f32) (x3 : Vec F S1024x1024 .bf16) (x4 : Vec F S1x1024x256 .bf16) (x5 : Vec F S1x256x1024 .bf16) : runB.sl.v233 c arg1 harg1 arg2 harg2 arg3 harg3 arg4 harg4 arg5 harg5 x1 x2 x3 x4 x5 = attB x1 x2 x3 x4 x5 1 := by
  sl_unfold_words
  simp only [View.readAt_eq_ld, Memref.IsWhole.read_unread, ld2, ld3, ld9]
  exact att_read x1 x2 x3 x4 x5 1 (aL x1 x2 x3 x4 x5 0 []) (aL_at x1 x2 x3 x4 x5 0) _

set_option maxHeartbeats 1000000 in
theorem runB_y (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (f : arg15.view.ty.Contents (Elt F)) :
    arg15.view.read (Elt F) (arg15.view.writes (Elt F) f (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.2.1) = yBlk x1 x2 x3 x4 x5 x6 := by
  unfold runB
  dsimp only
  rw [runB_half0, runB_half1]
  simp only [View.readAt_eq_ld, Memref.IsWhole.read_unread, ld3]
  exact y_out arg15.view f x1 x2 x3 x4 x5 x6 _ _ rfl rfl

set_option maxHeartbeats 2000000 in
theorem runB_so (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (f : arg16.view.ty.Contents (Elt F)) :
    arg16.view.read (Elt F) (arg16.view.writes (Elt F) f (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.2.2.1) = stBlk x7 x8 := by
  unfold runB
  dsimp only
  sl_unfold_words
  simp only [View.readAt_eq_ld]
  rw [harg7.read_unread, harg8.read_unread]
  exact st_out arg16.view f x7 x8

set_option maxHeartbeats 1000000 in
theorem runB_w (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (f : arg17.view.ty.Contents (Elt F)) :
    arg17.view.read (Elt F) (arg17.view.writes (Elt F) f (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.2.2.2.1) = k0_pay2 x9 := by
  unfold runB
  dsimp only
  sl_unfold_words
  funext y
  refine (View.read_writes_cons_unit_of_mem arg17.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, ld2, ld3, ld9]

set_option maxHeartbeats 2000000 in
theorem runB_oo (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hi : (i 0).val < 16) (fs : scOo.view.ty.Contents (Elt F)) :
    scOo.view.writes (Elt F) fs (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.1 = ooStep i x7 x8 fs := by
  unfold runB
  dsimp only
  sl_unfold_words
  simp only [View.readAt_eq_ld]
  rw [harg7.read_unread, harg8.read_unread]
  exact oo_rows i x7 x8 fs (oH x7 x8) _ _ _ _ hi (oH_at x7 x8)

end Cert.Kernel2.Hand

end
-- ==== Proof.Kern2.OutA.lean ====
module

public import proofs.«01_k».proof.Proof.Kern2.RunA
public import proofs.«01_k».proof.Proof.Kern2.OutB

@[expose] public section

set_option maxRecDepth 16384

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The first half's attention, as the body's run leaves them: -/
theorem runA_half0 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (x1 : Vec F S1x1024x1024 .f32) (x2 : Vec F S1x1024 .f32) (x3 : Vec F S1024x1024 .bf16) (x4 : Vec F S1x1024x256 .bf16) (x5 : Vec F S1x256x1024 .bf16) : runA.sl.v156 c arg1 harg1 arg2 harg2 arg3 harg3 arg4 harg4 arg5 harg5 x1 x2 x3 x4 x5 = attB x1 x2 x3 x4 x5 0 := by
  sl_unfold_words
  simp only [View.readAt_eq_ld, Memref.IsWhole.read_unread, ld2, ld3, ld9]
  exact att_read x1 x2 x3 x4 x5 0 [] (fun _ h => absurd h List.not_mem_nil) _

/-- and the second's. -/
theorem runA_half1 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (x1 : Vec F S1x1024x1024 .f32) (x2 : Vec F S1x1024 .f32) (x3 : Vec F S1024x1024 .bf16) (x4 : Vec F S1x1024x256 .bf16) (x5 : Vec F S1x256x1024 .bf16) : runA.sl.v233 c arg1 harg1 arg2 harg2 arg3 harg3 arg4 harg4 arg5 harg5 x1 x2 x3 x4 x5 = attB x1 x2 x3 x4 x5 1 := by
  sl_unfold_words
  simp only [View.readAt_eq_ld, Memref.IsWhole.read_unread, ld2, ld3, ld9]
  exact att_read x1 x2 x3 x4 x5 1 (aL x1 x2 x3 x4 x5 0 []) (aL_at x1 x2 x3 x4 x5 0) _

set_option maxHeartbeats 1000000 in
theorem runA_y (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (f : arg15.view.ty.Contents (Elt F)) :
    arg15.view.read (Elt F) (arg15.view.writes (Elt F) f (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.2.1) = yBlk x1 x2 x3 x4 x5 x6 := by
  unfold runA
  dsimp only
  rw [runA_half0, runA_half1]
  simp only [View.readAt_eq_ld, Memref.IsWhole.read_unread, ld3]
  exact y_out arg15.view f x1 x2 x3 x4 x5 x6 _ _ rfl rfl

set_option maxHeartbeats 2000000 in
theorem runA_so (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (f : arg16.view.ty.Contents (Elt F)) :
    arg16.view.read (Elt F) (arg16.view.writes (Elt F) f (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.2.2.1) = stBlk x7 x8 := by
  unfold runA
  dsimp only
  sl_unfold_words
  simp only [View.readAt_eq_ld]
  rw [harg7.read_unread, harg8.read_unread]
  exact st_out arg16.view f x7 x8

set_option maxHeartbeats 1000000 in
theorem runA_w (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (f : arg17.view.ty.Contents (Elt F)) :
    arg17.view.read (Elt F) (arg17.view.writes (Elt F) f (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.2.2.2.1) = k0_pay2 x9 := by
  unfold runA
  dsimp only
  sl_unfold_words
  funext y
  refine (View.read_writes_cons_unit_of_mem arg17.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, ld2, ld3, ld9]

set_option maxHeartbeats 2000000 in
theorem runA_oo (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (hi : (i 0).val < 16) (fs : scOo.view.ty.Contents (Elt F)) :
    scOo.view.writes (Elt F) fs (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.1 = ooStep i x7 x8 fs := by
  unfold runA
  dsimp only
  sl_unfold_words
  simp only [View.readAt_eq_ld]
  rw [harg7.read_unread, harg8.read_unread]
  exact oo_rows i x7 x8 fs (oH x7 x8) _ _ _ _ hi (oH_at x7 x8)

end Cert.Kernel2.Hand

end
-- ==== Proof.Kern2.OutC.lean ====
module

public import proofs.«01_k».proof.Proof.Kern2.RunC
public import proofs.«01_k».proof.Proof.Kern2.OutB
public import proofs.«01_k».proof.Proof.Kern2.Last

@[expose] public section

set_option maxRecDepth 16384

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

theorem ldXs (x : Vec F S128x1024 .f32) : View.ld (Val := Elt F) (e' := .f32) x (Rect.unit (s := S128x1024) ![0, 0] ![128, 1024] inb_S128x1024_S128x1024_0_0) = x :=
  View.ld_unit_lit (S := S128x1024) (off := ![0, 0]) _ x (fun a => by fin_cases a <;> rfl)

/-- The decode rows' column groups, as the body's run reads them back. -/
theorem runC_mrg (c : Dev nD) (arg13 : Memref sig .tc .vmem S1x512 .f32) (harg13 : arg13.IsWhole) (x13 : Vec F S1x512 .f32) (fo : Buf (Elt F) (scOo.view.loc (c : Thread nD τ))) (gGa : Buf (Elt F) (scGa.view.loc (c : Thread nD τ))) (gPa : Buf (Elt F) (scPa.view.loc (c : Thread nD τ))) : runC.sl.v214 c arg13 harg13 x13 fo gGa gPa = mrg x13 fo gGa gPa := by
  sl_unfold_words
  simp only [View.readAt_eq_ld]
  rw [harg13.read_unread]
  exact mrg_read x13 fo gGa gPa _

/-- Their queries. -/
theorem runC_q (c : Dev nD) (arg2 : Memref sig .tc .vmem S1x1024 .f32) (harg2 : arg2.IsWhole) (arg3 : Memref sig .tc .vmem S1024x1024 .bf16) (harg3 : arg3.IsWhole) (arg13 : Memref sig .tc .vmem S1x512 .f32) (harg13 : arg13.IsWhole) (x2 : Vec F S1x1024 .f32) (x3 : Vec F S1024x1024 .bf16) (x13 : Vec F S1x512 .f32) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) : runC.sl.r_11 c arg2 harg2 arg3 harg3 arg13 harg13 x2 x3 x13 fo gXs gGa gPa gWo = qRows x2 x3 x13 fo gXs gGa gPa gWo := by
  unfold runC.sl.r_11
  rw [runC_mrg]
  simp only [View.readAt_eq_ld, Memref.IsWhole.read_unread, ld2, ld3, ldXs]
  rfl
theorem runC_q6 (c : Dev nD) (arg2 : Memref sig .tc .vmem S1x1024 .f32) (harg2 : arg2.IsWhole) (arg3 : Memref sig .tc .vmem S1024x1024 .bf16) (harg3 : arg3.IsWhole) (arg13 : Memref sig .tc .vmem S1x512 .f32) (harg13 : arg13.IsWhole) (x2 : Vec F S1x1024 .f32) (x3 : Vec F S1024x1024 .bf16) (x13 : Vec F S1x512 .f32) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) : runC.sl.r_12 c arg2 harg2 arg3 harg3 arg13 harg13 x2 x3 x13 fo gXs gGa gPa gWo = extractStridedSlice S128x128 ![0, 0] (qRows x2 x3 x13 fo gXs gGa gPa gWo) slices_S128x1024_o0_0_S128x128 := by
  unfold runC.sl.r_12
  rw [runC_mrg]
  simp only [View.readAt_eq_ld, Memref.IsWhole.read_unread, ld2, ld3, ldXs]
  rfl
theorem runC_q7 (c : Dev nD) (arg2 : Memref sig .tc .vmem S1x1024 .f32) (harg2 : arg2.IsWhole) (arg3 : Memref sig .tc .vmem S1024x1024 .bf16) (harg3 : arg3.IsWhole) (arg13 : Memref sig .tc .vmem S1x512 .f32) (harg13 : arg13.IsWhole) (x2 : Vec F S1x1024 .f32) (x3 : Vec F S1024x1024 .bf16) (x13 : Vec F S1x512 .f32) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) : runC.sl.r_13 c arg2 harg2 arg3 harg3 arg13 harg13 x2 x3 x13 fo gXs gGa gPa gWo = k0_pay188 (qRows x2 x3 x13 fo gXs gGa gPa gWo) := by
  unfold runC.sl.r_13
  rw [runC_q]

set_option maxHeartbeats 1000000 in
theorem runC_x1s (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (f : arg18.view.ty.Contents (Elt F)) :
    arg18.view.read (Elt F) (arg18.view.writes (Elt F) f (runC c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x2 x3 x13 fa fo gXs gGa gPa gWo).2.1) = x1sBlk x13 fo gXs gGa gPa gWo := by
  unfold runC
  dsimp only
  rw [runC_mrg]
  funext y
  refine (View.read_writes_cons_unit_of_mem arg18.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, ld2, ld3, ldXs]
    rfl
set_option maxHeartbeats 1000000 in
theorem runC_pool (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (f : arg19.view.ty.Contents (Elt F)) :
    arg19.view.read (Elt F) (arg19.view.writes (Elt F) f (runC c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x2 x3 x13 fa fo gXs gGa gPa gWo).2.2.1) = poolBlk gGa gPa := by
  unfold runC
  dsimp only
  sl_unfold_words
  simp only [View.readAt_eq_ld]
  exact pool_out arg19.view f gGa gPa _ _ _ _
set_option maxHeartbeats 1000000 in
theorem runC_qs (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (f : arg20.view.ty.Contents (Elt F)) :
    arg20.view.read (Elt F) (arg20.view.writes (Elt F) f (runC c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x2 x3 x13 fa fo gXs gGa gPa gWo).2.2.2.1) = qsBlk (qRows x2 x3 x13 fo gXs gGa gPa gWo) := by
  unfold runC
  dsimp only
  rw [runC_q, runC_q6, runC_q7]
  exact qs_out arg20.view f (qRows x2 x3 x13 fo gXs gGa gPa gWo)

end Cert.Kernel2.Hand

end
-- ==== Proof.Ideal2.Setup.lean ====
module

public import proofs.«01_k».proof.Proof.Gen.Kernel2Ideal.Frame
public import proofs.«01_k».proof.Proof.Gen.Kernel2Ideal.Skeleton

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-! What the runs of the kernel's body share: the operands it is called with beside its staged windows. -/

/-- The kernel's own buffers: the merged rows, the recurrence's readouts, and the four that the copies fill. -/
abbrev scAtt : Memref sig .tc .vmem S1024x1024 .bf16 := Memref.whole cc0_scratch0
abbrev scOo : Memref sig .tc .vmem S128x512 .f32 := Memref.whole cc0_scratch1
abbrev scXs : Memref sig .tc .vmem S128x1024 .f32 := Memref.whole cc0_scratch2
abbrev scGa : Memref sig .tc .vmem S128x3072 .f32 := Memref.whole cc0_scratch3
abbrev scPa : Memref sig .tc .vmem S15x128x512 .f32 := Memref.whole cc0_scratch4
abbrev scWo : Memref sig .tc .vmem S1024x1024 .bf16 := Memref.whole cc0_scratch5
/-- The four operands left in HBM: the decode rows, the gates, the pooling state and the output weight. -/
abbrev hbXs : Memref sig .tc .hbm S128x1024 .f32 := Memref.whole main_arg9
abbrev hbGa : Memref sig .tc .hbm S128x3072 .f32 := Memref.whole main_arg10
abbrev hbPa : Memref sig .tc .hbm S15x128x512 .f32 := Memref.whole main_arg11
abbrev hbWo : Memref sig .tc .hbm S1024x1024 .bf16 := Memref.whole main_arg13
/-- A buffer, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The four semaphores the kernel's copies signal. -/
abbrev osem0 : Fin 4 → SemLoc sig := fun j => (![SemLoc.dma 25, SemLoc.dma 26, SemLoc.dma 27, SemLoc.dma 28] : Fin 4 → SemLoc sig) j
theorem ownSemFacts0 : Pipeline.OwnSemFacts spec0 osem0 := by decide

/-- A copy in flight from operand `M` into buffer `S`, which it leaves at `f`. -/
abbrev flight (c : Dev nD) {sh : Shape} {e : EltTy} (M : Memref sig .tc .hbm sh e) (S : Memref sig .tc .vmem sh e) (s : SemLoc sig) (n : ℕ)
    (g : Buf (Elt F) (S.view.loc (c : Thread nD τ))) (f : Buf (Elt F) (M.view.loc (c : Thread nD τ))) : sProp 𝕄 :=
  Transfers.Flight countersEmb (c : Thread nD τ) s () n iprop((S.view.loc (c : Thread nD τ) ↦{fullShare} g) ∗ (M.view.loc (c : Thread nD τ) ↦[M.view.set]{fullShare} f))
/-- The rest of an operand that a copy is reading. -/
abbrev left_over (c : Dev nD) {sh : Shape} {e : EltTy} (M : Memref sig .tc .hbm sh e) (f : Buf (Elt F) (M.view.loc (c : Thread nD τ))) : sProp 𝕄 :=
  M.view.loc (c : Thread nD τ) ↦[Finset.univ \ M.view.set]{fullShare} f

end Cert.Kernel2Ideal.Hand

end
-- ==== Proof.Ideal2.State.lean ====
module

public import proofs.«01_k».proof.Proof.Ideal2.Setup
public import Idealize.ShloMosaic.Lib.WritesUnit
public import Idealize.ShloMosaic.Lib.Pipeline.ValueKit
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

variable {F : FTy → Type} [FloatOps F]

/-! The decode state of one point: each (row, head) square's new contents and what its query reads out of it. -/

/-- The shape of one point's read-outs. -/
abbrev S8x512 : Shape := ⟨2, ![8, 512]⟩
/-- An index of the gates, from its row and its column. -/
abbrev gix (j : Fin 8) (n : ℕ) (h : n < 2048) : S8x2048.Idx := ix2 j ⟨n, h⟩
/-- An index of the state. -/
abbrev six (j : Fin 8) (h : Fin 4) (a b : Fin 128) : S8x4x128x128.Idx := ix4 j h a b

/-- The new state: the forget gate times the old state, plus the outer product of key and value. -/
def stBlk (x7 : Vec F S8x2048 .f32) (x8 : Vec F S8x4x128x128 .f32) : Vec F S8x4x128x128 .f32 := fun y =>
  FloatOps.addf
    (FloatOps.mulf (x7 (gix (y 0) (512 + 128 * (y 1).val + (y 2).val) (by have := (y 1).isLt; have := (y 2).isLt; simp at *; omega))) (x8 y))
    (FloatOps.mulf (x7 (gix (y 0) (1024 + 128 * (y 1).val + (y 2).val) (by have := (y 1).isLt; have := (y 2).isLt; simp at *; omega)))
      (x7 (gix (y 0) (1536 + 128 * (y 1).val + (y 3).val) (by have := (y 1).isLt; have := (y 3).isLt; simp at *; omega))))

/-- The products of the query with one square of the new state. -/
def qSt (x7 : Vec F S8x2048 .f32) (x8 : Vec F S8x4x128x128 .f32) (j : Fin 8) (h : Fin 4) : FVec F S128x128 .f32 := fun z =>
  FloatOps.mulf (x7 (gix j (128 * h.val + (z 0).val) (by have := h.isLt; have := (z 0).isLt; simp at *; omega))) (stBlk x7 x8 (six j h (z 0) (z 1)))

/-- Their sums over the state's rows: the read-out of one point's eight rows. -/
def ooBlk (x7 : Vec F S8x2048 .f32) (x8 : Vec F S8x4x128x128 .f32) : Vec F S8x512 .f32 := fun y =>
  multiReduction .add [0] S128 (qSt x7 x8 (y 0) ⟨(y 1).val / 128, by have := (y 1).isLt; simp at *; omega⟩) 0x00000000#32 reduces_S128x128_S128 (.inl rfl) rfl
    (ix1 (⟨(y 1).val % 128, Nat.mod_lt _ (by omega)⟩ : Fin 128))

/-- Column `j < 8` of the transposed gates is row `j` of the gates. -/
theorem gT (g : Vec F S8x128 .f32) (a : Fin 128) (j : Fin 128) (hj : j.val < 8) : k0_pay35 g (ix2 a j) = g (ix2 ⟨j.val, hj⟩ a) := by
  unfold k0_pay35
  refine (transpose_apply [1, 0] _ _ (ix2 a j) (ix2 j a) ?_).trans ?_
  · intro b; fin_cases b <;> rfl
  · exact concatenate_pair_apply_left (s₁ := S8x128) (s₂ := S120x128) 0 _ _ _ (ix2 j a) rfl (ix2 ⟨j.val, hj⟩ a) (fun b => by fin_cases b <;> rfl)

/-- One column of the transposed gates. -/
abbrev gcol (g : FVec F S128x128 .f32) (jn : ℕ) (h : S128x128.Slices ![0, jn] S128x1) : FVec F S128x128 .f32 :=
  broadcastTo S128x128 (extractStridedSlice S128x1 ![0, jn] g h) broadcasts_S128x1_S128x128

theorem gcol_at (g : Vec F S8x128 .f32) (jn : ℕ) (hs : S128x128.Slices ![0, jn] S128x1) (j : Fin 8) (hj : jn = j.val) (a b : Fin 128) :
    gcol (k0_pay35 g) jn hs (ix2 a b) = g (ix2 j a) := by
  subst hj
  have e : gcol (k0_pay35 g) j.val hs (ix2 a b) = k0_pay35 g (ix2 a ⟨j.val, by omega⟩) := by
    refine (broadcastTo_apply _ _ (ix2 a b) (ix2 a (0 : Fin 1)) (fun d => by fin_cases d <;> rfl)).trans ?_
    exact (extractStridedSlice_apply ![0, j.val] (k0_pay35 g) hs (ix2 a (0 : Fin 1)) (ix2 a ⟨j.val, by omega⟩) (fun d => by fin_cases d <;> simp))
  exact e.trans (gT g a ⟨j.val, by omega⟩ j.isLt)

/-- One square's new contents, as the body computes them. -/
abbrev stNew (gf gk : FVec F S128x128 .f32) (v : Vec F S1x128 .f32) (s : Vec F S1x1x128x128 .f32) (jn : ℕ) (h : S128x128.Slices ![0, jn] S128x1) : FVec F S128x128 .f32 :=
  addf (mulf (gcol gf jn h) (shapeCast S128x128 s shapeCasts_S1x1x128x128_S128x128)) (mulf (gcol gk jn h) (broadcastTo S128x128 v broadcasts_S1x128_S128x128))

/-- 128 columns of the gates. -/
abbrev gsl (x7 : Vec F S8x2048 .f32) (o : ℕ) (h : ∀ a, (![0, o] : Fin 2 → ℕ) a + S8x128.size a ≤ S8x2048.size a) : Vec F S8x128 .f32 :=
  View.ld (Val := Elt F) (e' := .f32) x7 (Rect.unit (s := S8x2048) ![0, o] S8x128.size h)
/-- 128 columns of one of their rows. -/
abbrev grow (x7 : Vec F S8x2048 .f32) (j o : ℕ) (h : ∀ a, (![j, o] : Fin 2 → ℕ) a + S1x128.size a ≤ S8x2048.size a) : Vec F S1x128 .f32 :=
  View.ld (Val := Elt F) (e' := .f32) x7 (Rect.unit (s := S8x2048) ![j, o] S1x128.size h)
/-- One square of the state. -/
abbrev ssl (x8 : Vec F S8x4x128x128 .f32) (j h : ℕ) (hh : ∀ a, (![j, h, 0, 0] : Fin 4 → ℕ) a + S1x1x128x128.size a ≤ S8x4x128x128.size a) : Vec F S1x1x128x128 .f32 :=
  View.ld (Val := Elt F) (e' := .f32) x8 (Rect.unit (s := S8x4x128x128) ![j, h, 0, 0] S1x1x128x128.size hh)

theorem gsl_at (x7 : Vec F S8x2048 .f32) (o : ℕ) (h) (j : Fin 8) (a : Fin 128) (n : ℕ) (hn : n < 2048) (e : n = o + a.val) : gsl x7 o h (ix2 j a) = x7 (gix j n hn) := by
  subst e
  refine congrArg x7 (funext fun d => Fin.ext ?_)
  fin_cases d
  · show 0 + 1 * j.val = j.val; omega
  · show o + 1 * a.val = o + a.val; omega

theorem grow_at (x7 : Vec F S8x2048 .f32) (jn o : ℕ) (h) (j : Fin 8) (hj : jn = j.val) (a : Fin 128) (n : ℕ) (hn : n < 2048) (e : n = o + a.val) : grow x7 jn o h (ix2 0 a) = x7 (gix j n hn) := by
  subst e; subst hj
  refine congrArg x7 (funext fun d => Fin.ext ?_)
  fin_cases d
  · show j.val + 1 * 0 = j.val; omega
  · show o + 1 * a.val = o + a.val; omega

theorem stNew_at (x7 : Vec F S8x2048 .f32) (x8 : Vec F S8x4x128x128 .f32) (j : Fin 8) (h : Fin 4) (jn hn of ok ov : ℕ) (ej : jn = j.val) (eh : hn = h.val)
    (ef : of = 512 + 128 * h.val) (ek : ok = 1024 + 128 * h.val) (ev : ov = 1536 + 128 * h.val) (h1) (h2) (h3) (h4) (h5) (a b : Fin 128) :
    stNew (k0_pay35 (gsl x7 of h1)) (k0_pay35 (gsl x7 ok h2)) (grow x7 jn ov h3) (ssl x8 jn hn h4) jn h5 (ix2 a b) = stBlk x7 x8 (six j h a b) := by
  refine congrArg₂ FloatOps.addf (congrArg₂ FloatOps.mulf ?_ ?_) (congrArg₂ FloatOps.mulf ?_ ?_)
  · exact (gcol_at _ jn h5 j ej a b).trans (gsl_at x7 of h1 j a _ _ (by rw [ef]; rfl))
  · refine (shapeCast_apply _ _ (ix2 a b) (ix4 (0 : Fin 1) (0 : Fin 1) a b) (by rw [Shape.rowMajor_val_two, Shape.rowMajor_val_four]; show ((0 * 1 + 0) * 128 + a.val) * 128 + b.val = a.val * 128 + b.val; omega)).trans ?_
    subst ej; subst eh
    refine congrArg x8 (funext fun d => Fin.ext ?_)
    fin_cases d
    · show j.val + 1 * 0 = j.val; omega
    · show h.val + 1 * 0 = h.val; omega
    · show 0 + 1 * a.val = a.val; omega
    · show 0 + 1 * b.val = b.val; omega
  · exact (gcol_at _ jn h5 j ej a b).trans (gsl_at x7 ok h2 j a _ _ (by rw [ek]; rfl))
  · refine (broadcastTo_apply _ _ (ix2 a b) (ix2 (0 : Fin 1) b) (fun d => by fin_cases d <;> rfl)).trans ?_
    exact grow_at x7 jn ov h3 j ej b _ _ (by rw [ev]; rfl)

/-- A square's store. -/
theorem st_piece (x7 : Vec F S8x2048 .f32) (x8 : Vec F S8x4x128x128 .f32) (j : Fin 8) (h : Fin 4) (jn hn of ok ov : ℕ) (ej : jn = j.val) (eh : hn = h.val)
    (ef : of = 512 + 128 * h.val) (ek : ok = 1024 + 128 * h.val) (ev : ov = 1536 + 128 * h.val) (h1) (h2) (h3) (h4) (h5) (h6) (x : S1x1x128x128.Idx) :
    shapeCast S1x1x128x128 (stNew (k0_pay35 (gsl x7 of h1)) (k0_pay35 (gsl x7 ok h2)) (grow x7 jn ov h3) (ssl x8 jn hn h4) jn h5) shapeCasts_S128x128_S1x1x128x128 x
      = stBlk x7 x8 ((Rect.unit (s := S8x4x128x128) ![jn, hn, 0, 0] S1x1x128x128.size h6).emb x) := by
  refine (shapeCast_apply _ _ x (ix2 (x 2) (x 3)) ?_).trans ((stNew_at x7 x8 j h jn hn of ok ov ej eh ef ek ev h1 h2 h3 h4 h5 (x 2) (x 3)).trans ?_)
  · have e0 : (x 0).val = 0 := Nat.lt_one_iff.mp (x 0).isLt
    have e1 : (x 1).val = 0 := Nat.lt_one_iff.mp (x 1).isLt
    refine (Shape.rowMajor_val_two (d := ![128, 128]) _).trans (Eq.trans ?_ (Shape.rowMajor_val_four (d := ![1, 1, 128, 128]) x).symm)
    show (x 2).val * 128 + (x 3).val = (((x 0).val * 1 + (x 1).val) * 128 + (x 2).val) * 128 + (x 3).val
    omega
  · subst ej; subst eh
    have e0 : (x 0).val = 0 := Nat.lt_one_iff.mp (x 0).isLt
    have e1 : (x 1).val = 0 := Nat.lt_one_iff.mp (x 1).isLt
    refine congrArg (stBlk x7 x8) (funext fun d => Fin.ext ?_)
    fin_cases d
    · show j.val = j.val + 1 * (x 0).val; omega
    · show h.val = h.val + 1 * (x 1).val; omega
    · show (x 2).val = 0 + 1 * (x 2).val; omega
    · show (x 3).val = 0 + 1 * (x 3).val; omega

/-- What a row's query reads out of one square, as the body computes it. -/
abbrev stRead (gq gf gk : FVec F S128x128 .f32) (v : Vec F S1x128 .f32) (s : Vec F S1x1x128x128 .f32) (jn : ℕ) (h : S128x128.Slices ![0, jn] S128x1) : FVec F S1x128 .f32 :=
  shapeCast S1x128 (multiReduction .add [0] S128 (mulf (gcol gq jn h) (stNew gf gk v s jn h)) 0x00000000#32 reduces_S128x128_S128 (.inl rfl) rfl) shapeCasts_S128_S1x128

theorem stRead_at (x7 : Vec F S8x2048 .f32) (x8 : Vec F S8x4x128x128 .f32) (j : Fin 8) (h : Fin 4) (jn hn oq of ok ov : ℕ) (ej : jn = j.val) (eh : hn = h.val)
    (eq : oq = 128 * h.val) (ef : of = 512 + 128 * h.val) (ek : ok = 1024 + 128 * h.val) (ev : ov = 1536 + 128 * h.val) (h0) (h1) (h2) (h3) (h4) (h5) (d : Fin 128) :
    stRead (k0_pay35 (gsl x7 oq h0)) (k0_pay35 (gsl x7 of h1)) (k0_pay35 (gsl x7 ok h2)) (grow x7 jn ov h3) (ssl x8 jn hn h4) jn h5 (ix2 0 d)
      = ooBlk x7 x8 (ix2 j ⟨128 * h.val + d.val, by omega⟩) := by
  refine (shapeCast_apply _ _ (ix2 (0 : Fin 1) d) (ix1 d) (by rw [Shape.rowMajor_val_two, Shape.rowMajor_val_one]; show d.val = 0 * 128 + d.val; omega)).trans ?_
  have e1 : (⟨(128 * h.val + d.val) / 128, by omega⟩ : Fin 4) = h := Fin.ext (by show (128 * h.val + d.val) / 128 = h.val; omega)
  have e2 : (⟨(128 * h.val + d.val) % 128, by omega⟩ : Fin 128) = d := Fin.ext (by show (128 * h.val + d.val) % 128 = d.val; omega)
  have e : (mulf (gcol (k0_pay35 (gsl x7 oq h0)) jn h5) (stNew (k0_pay35 (gsl x7 of h1)) (k0_pay35 (gsl x7 ok h2)) (grow x7 jn ov h3) (ssl x8 jn hn h4) jn h5)) = qSt x7 x8 j h := by
    funext z
    obtain ⟨a, b, rfl⟩ : ∃ a b, z = ix2 a b := ⟨z 0, z 1, by funext d; fin_cases d <;> rfl⟩
    refine congrArg₂ FloatOps.mulf ?_ (stNew_at x7 x8 j h jn hn of ok ov ej eh ef ek ev h1 h2 h3 h4 h5 a b)
    exact (gcol_at _ jn h5 j ej a b).trans (gsl_at x7 oq h0 j a _ _ (by rw [eq]; rfl))
  show multiReduction .add [0] S128 _ 0x00000000#32 reduces_S128x128_S128 (.inl rfl) rfl (ix1 d)
    = multiReduction .add [0] S128 (qSt x7 x8 j ⟨(128 * h.val + d.val) / 128, _⟩) 0x00000000#32 reduces_S128x128_S128 (.inl rfl) rfl (ix1 (⟨(128 * h.val + d.val) % 128, _⟩ : Fin 128))
  rw [e1, e2, e]

/-- The eight rows of one head, gathered. -/
theorem rows8 (r0 r1 r2 r3 r4 r5 r6 r7 : FVec F S1x128 .f32) (h) (h') (x : S8x128.Idx) :
    shapeCast S8x128 (concatenate S8x128 0 [⟨S1x128, r0⟩, ⟨S1x128, r1⟩, ⟨S1x128, r2⟩, ⟨S1x128, r3⟩, ⟨S1x128, r4⟩, ⟨S1x128, r5⟩, ⟨S1x128, r6⟩, ⟨S1x128, r7⟩] h) h' x
      = (![r0, r1, r2, r3, r4, r5, r6, r7] : Fin 8 → FVec F S1x128 .f32) (x 0) (ix2 0 (x 1)) := by
  refine (shapeCast_apply _ _ x x rfl).trans ?_
  exact concatenate_ofFn_unit_apply (s₁ := S1x128) (t := S8x128) 0 (![r0, r1, r2, r3, r4, r5, r6, r7] : Fin 8 → FVec F S1x128 .f32) h rfl rfl x (x 0) rfl (ix2 0 (x 1))
    (fun b hb => by
      fin_cases b
      · exact absurd rfl hb
      · rfl)

/-- The read-outs of all rows, once a point's eight are stored. -/
def ooStep (i : grid0.Coords) (x7 : Vec F S8x2048 .f32) (x8 : Vec F S8x4x128x128 .f32) (fo : S128x512.Idx → F .f32) : S128x512.Idx → F .f32 := fun y =>
  if h : 8 * (i 0).val ≤ (y 0).val ∧ (y 0).val < 8 * (i 0).val + 8 then ooBlk x7 x8 (ix2 ⟨(y 0).val - 8 * (i 0).val, by omega⟩ (y 1)) else fo y

/-- The four heads' stores are the step. -/
theorem oo_rows (i : grid0.Coords) (x7 : Vec F S8x2048 .f32) (x8 : Vec F S8x4x128x128 .f32) (fo : scOo.view.ty.Contents (Elt F)) (w : Fin 4 → FVec F S8x128 .f32)
    (h1 : ∀ a, k0_off1 i a + S8x128.size a ≤ S128x512.size a) (h2 : ∀ a, k0_off2 i a + S8x128.size a ≤ S128x512.size a)
    (h3 : ∀ a, k0_off3 i a + S8x128.size a ≤ S128x512.size a) (h4 : ∀ a, k0_off4 i a + S8x128.size a ≤ S128x512.size a) (hi : (i 0).val < 16)
    (hw : ∀ (h : Fin 4) (j : Fin 8) (d : Fin 128), w h (ix2 j d) = ooBlk x7 x8 (ix2 j ⟨128 * h.val + d.val, by omega⟩)) :
    scOo.view.writes (Elt F) fo
      [(⟨Rect.unit (s := S128x512) (k0_off4 i) S8x128.size h4, w 3⟩ : View.Piece (Elt F) S128x512 .f32), ⟨Rect.unit (s := S128x512) (k0_off3 i) S8x128.size h3, w 2⟩,
       ⟨Rect.unit (s := S128x512) (k0_off2 i) S8x128.size h2, w 1⟩, ⟨Rect.unit (s := S128x512) (k0_off1 i) S8x128.size h1, w 0⟩]
      = ooStep i x7 x8 fo := by
  funext y
  refine Eq.trans (congrFun (View.read_whole (Val := Elt F) cc0_scratch1 _).symm y) ?_
  have y1 : (y 1).val < 512 := (y 1).isLt
  have key : ∀ (h : Fin 4) (off : Fin 2 → ℕ) (ho : off = ![8 * (i 0).val, 128 * h.val]) (inb : ∀ a, off a + S8x128.size a ≤ S128x512.size a) L,
      ((8 * (i 0).val ≤ (y 0).val ∧ (y 0).val < 8 * (i 0).val + 8) ∧ 128 * h.val ≤ (y 1).val ∧ (y 1).val < 128 * h.val + 128 →
        scOo.view.read (Elt F) (scOo.view.writes (Elt F) fo ((⟨Rect.unit (s := S128x512) off S8x128.size inb, w h⟩ : View.Piece (Elt F) S128x512 .f32) :: L)) y = ooStep i x7 x8 fo y) ∧
      (¬ ((8 * (i 0).val ≤ (y 0).val ∧ (y 0).val < 8 * (i 0).val + 8) ∧ 128 * h.val ≤ (y 1).val ∧ (y 1).val < 128 * h.val + 128) →
        scOo.view.read (Elt F) (scOo.view.writes (Elt F) fo ((⟨Rect.unit (s := S128x512) off S8x128.size inb, w h⟩ : View.Piece (Elt F) S128x512 .f32) :: L)) y
          = scOo.view.read (Elt F) (scOo.view.writes (Elt F) fo L) y) := by
    intro h off ho inb L
    constructor
    · rintro ⟨hr, hc⟩
      unfold ooStep
      rw [dif_pos hr]
      refine (View.read_writes_cons_unit_of_mem scOo.view fo inb _ L y (ix2 ⟨(y 0).val - 8 * (i 0).val, by omega⟩ ⟨(y 1).val - 128 * h.val, by omega⟩) ho ?_).trans ?_
      · intro a
        fin_cases a
        · show (y 0).val = 8 * (i 0).val + ((y 0).val - 8 * (i 0).val); omega
        · show (y 1).val = 128 * h.val + ((y 1).val - 128 * h.val); omega
      · refine (hw h _ _).trans (congrArg (fun n : Fin 512 => ooBlk x7 x8 (ix2 ⟨(y 0).val - 8 * (i 0).val, by omega⟩ n)) (Fin.ext ?_))
        show 128 * h.val + ((y 1).val - 128 * h.val) = (y 1).val
        omega
    · intro hn
      by_cases hr : 8 * (i 0).val ≤ (y 0).val ∧ (y 0).val < 8 * (i 0).val + 8
      · refine View.read_writes_cons_unit_of_not_mem scOo.view fo inb _ L y ho 1 ?_
        show (y 1).val < 128 * h.val ∨ 128 * h.val + 128 ≤ (y 1).val
        omega
      · refine View.read_writes_cons_unit_of_not_mem scOo.view fo inb _ L y ho 0 ?_
        show (y 0).val < 8 * (i 0).val ∨ 8 * (i 0).val + 8 ≤ (y 0).val
        omega
  by_cases c3 : (8 * (i 0).val ≤ (y 0).val ∧ (y 0).val < 8 * (i 0).val + 8) ∧ 128 * 3 ≤ (y 1).val ∧ (y 1).val < 128 * 3 + 128
  · exact (key 3 _ (k0_off4_eq i) h4 _).1 c3
  refine ((key 3 _ (k0_off4_eq i) h4 _).2 c3).trans ?_
  by_cases c2 : (8 * (i 0).val ≤ (y 0).val ∧ (y 0).val < 8 * (i 0).val + 8) ∧ 128 * 2 ≤ (y 1).val ∧ (y 1).val < 128 * 2 + 128
  · exact (key 2 _ (k0_off3_eq i) h3 _).1 c2
  refine ((key 2 _ (k0_off3_eq i) h3 _).2 c2).trans ?_
  by_cases c1 : (8 * (i 0).val ≤ (y 0).val ∧ (y 0).val < 8 * (i 0).val + 8) ∧ 128 * 1 ≤ (y 1).val ∧ (y 1).val < 128 * 1 + 128
  · exact (key 1 _ (k0_off2_eq i) h2 _).1 c1
  refine ((key 1 _ (k0_off2_eq i) h2 _).2 c1).trans ?_
  by_cases c0 : (8 * (i 0).val ≤ (y 0).val ∧ (y 0).val < 8 * (i 0).val + 8) ∧ 128 * 0 ≤ (y 1).val ∧ (y 1).val < 128 * 0 + 128
  · exact (key 0 _ (k0_off1_eq i) h1 _).1 c0
  refine ((key 0 _ (k0_off1_eq i) h1 _).2 c0).trans ?_
  unfold ooStep
  rw [dif_neg (by omega)]
  rfl

theorem slice_col (j : Fin 8) : S128x128.Slices ![0, j.val] S128x1 := by fin_cases j <;> decide
theorem inb_gsl (o : ℕ) (h : o + 128 ≤ 2048) : ∀ a, (![0, o] : Fin 2 → ℕ) a + S8x128.size a ≤ S8x2048.size a := by
  intro a; fin_cases a
  · show 0 + 8 ≤ 8; omega
  · exact h
theorem inb_grow (j : Fin 8) (o : ℕ) (h : o + 128 ≤ 2048) : ∀ a, (![j.val, o] : Fin 2 → ℕ) a + S1x128.size a ≤ S8x2048.size a := by
  intro a; fin_cases a
  · show j.val + 1 ≤ 8; omega
  · exact h
theorem inb_ssl (j : Fin 8) (h : Fin 4) : ∀ a, (![j.val, h.val, 0, 0] : Fin 4 → ℕ) a + S1x1x128x128.size a ≤ S8x4x128x128.size a := by
  intro a; fin_cases a
  · show j.val + 1 ≤ 8; omega
  · show h.val + 1 ≤ 4; omega
  · show 0 + 128 ≤ 128; omega
  · show 0 + 128 ≤ 128; omega

/-- One square's store, at its place. -/
abbrev sP (x7 : Vec F S8x2048 .f32) (x8 : Vec F S8x4x128x128 .f32) (j : Fin 8) (h : Fin 4) : View.Piece (Elt F) S8x4x128x128 .f32 :=
  ⟨Rect.unit (s := S8x4x128x128) ![j.val, h.val, 0, 0] S1x1x128x128.size (inb_ssl j h),
    shapeCast S1x1x128x128 (stNew (k0_pay35 (gsl x7 (512 + 128 * h.val) (inb_gsl _ (by omega)))) (k0_pay35 (gsl x7 (1024 + 128 * h.val) (inb_gsl _ (by omega))))
      (grow x7 j.val (1536 + 128 * h.val) (inb_grow j _ (by omega))) (ssl x8 j.val h.val (inb_ssl j h)) j.val (slice_col j)) shapeCasts_S128x128_S1x1x128x128⟩

theorem sP_at (x7 : Vec F S8x2048 .f32) (x8 : Vec F S8x4x128x128 .f32) (j : Fin 8) (h : Fin 4) (x : S1x1x128x128.Idx) :
    (sP x7 x8 j h).2 x = stBlk x7 x8 ((sP x7 x8 j h).1.emb x) :=
  st_piece x7 x8 j h _ _ _ _ _ rfl rfl rfl rfl rfl _ _ _ _ _ (inb_ssl j h) x

/-- One head's read-out of one row, -/
abbrev oP (x7 : Vec F S8x2048 .f32) (x8 : Vec F S8x4x128x128 .f32) (h : Fin 4) (j : Fin 8) : FVec F S1x128 .f32 :=
  stRead (k0_pay35 (gsl x7 (128 * h.val) (inb_gsl _ (by omega)))) (k0_pay35 (gsl x7 (512 + 128 * h.val) (inb_gsl _ (by omega)))) (k0_pay35 (gsl x7 (1024 + 128 * h.val) (inb_gsl _ (by omega))))
    (grow x7 j.val (1536 + 128 * h.val) (inb_grow j _ (by omega))) (ssl x8 j.val h.val (inb_ssl j h)) j.val (slice_col j)
/-- and of eight. -/
abbrev oH (x7 : Vec F S8x2048 .f32) (x8 : Vec F S8x4x128x128 .f32) (h : Fin 4) : FVec F S8x128 .f32 :=
  shapeCast S8x128 (concatenate S8x128 0 [⟨S1x128, oP x7 x8 h 0⟩, ⟨S1x128, oP x7 x8 h 1⟩, ⟨S1x128, oP x7 x8 h 2⟩, ⟨S1x128, oP x7 x8 h 3⟩, ⟨S1x128, oP x7 x8 h 4⟩, ⟨S1x128, oP x7 x8 h 5⟩, ⟨S1x128, oP x7 x8 h 6⟩, ⟨S1x128, oP x7 x8 h 7⟩]
    concatenates_S1x128_S1x128_S1x128_S1x128_S1x128_S1x128_S1x128_S1x128_S8x128_d0) shapeCasts_S8x128_S8x128

theorem oH_at (x7 : Vec F S8x2048 .f32) (x8 : Vec F S8x4x128x128 .f32) (h : Fin 4) (j : Fin 8) (d : Fin 128) :
    oH x7 x8 h (ix2 j d) = ooBlk x7 x8 (ix2 j ⟨128 * h.val + d.val, by omega⟩) := by
  refine (rows8 _ _ _ _ _ _ _ _ _ _ _).trans ?_
  refine Eq.trans (b := oP x7 x8 h j (ix2 0 d)) ?_ (stRead_at x7 x8 j h _ _ _ _ _ _ rfl rfl rfl rfl rfl rfl _ _ _ _ _ _ d)
  show (![oP x7 x8 h 0, oP x7 x8 h 1, oP x7 x8 h 2, oP x7 x8 h 3, oP x7 x8 h 4, oP x7 x8 h 5, oP x7 x8 h 6, oP x7 x8 h 7] : Fin 8 → FVec F S1x128 .f32) j (ix2 0 d) = _
  fin_cases j <;> rfl

/-- The thirty-two squares' stores are the point's new state. -/
theorem st_out (v : View sig .tc .vmem S8x4x128x128 .f32) (f : v.ty.Contents (Elt F)) (x7 : Vec F S8x2048 .f32) (x8 : Vec F S8x4x128x128 .f32) :
    v.read (Elt F) (v.writes (Elt F) f
      [sP x7 x8 7 3,
       sP x7 x8 6 3,
       sP x7 x8 5 3,
       sP x7 x8 4 3,
       sP x7 x8 3 3,
       sP x7 x8 2 3,
       sP x7 x8 1 3,
       sP x7 x8 0 3,
       sP x7 x8 7 2,
       sP x7 x8 6 2,
       sP x7 x8 5 2,
       sP x7 x8 4 2,
       sP x7 x8 3 2,
       sP x7 x8 2 2,
       sP x7 x8 1 2,
       sP x7 x8 0 2,
       sP x7 x8 7 1,
       sP x7 x8 6 1,
       sP x7 x8 5 1,
       sP x7 x8 4 1,
       sP x7 x8 3 1,
       sP x7 x8 2 1,
       sP x7 x8 1 1,
       sP x7 x8 0 1,
       sP x7 x8 7 0,
       sP x7 x8 6 0,
       sP x7 x8 5 0,
       sP x7 x8 4 0,
       sP x7 x8 3 0,
       sP x7 x8 2 0,
       sP x7 x8 1 0,
       sP x7 x8 0 0]) = stBlk x7 x8 := by
  funext y
  refine View.read_writes_apply_of_pieces v f _ _ ?_ y (View.cover_of_tiled _ ![1, 1, 128, 128] rfl y)
  repeat' (refine List.forall_mem_cons.2 ⟨fun x => sP_at x7 x8 _ _ x, ?_⟩)
  exact fun _ h => absurd h List.not_mem_nil

end Cert.Kernel2Ideal.Hand

end
-- ==== Proof.Ideal2.Attn.lean ====
module

public import proofs.«01_k».proof.Proof.Ideal2.Setup
public import Idealize.ShloMosaic.Lib.WritesUnit
public import Idealize.ShloMosaic.Lib.Pipeline.ValueKit
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

variable {F : FTy → Type} [FloatOps F] [Named F]

/-! The prompt rows of one point: two halves of 512 rows, four heads each. -/

/-- 512 of a point's 1024 rows. -/
abbrev xHalf (x1 : Vec F S1x1024x1024 .f32) (hf : Fin 2) : Vec F S1x512x1024 .f32 :=
  View.ld (Val := Elt F) (e' := .f32) x1 (Rect.unit (s := S1x1024x1024) ![0, 512 * hf.val, 0] S1x512x1024.size (fun a => by
    have := hf.isLt
    fin_cases a
    · show 0 + 1 ≤ 1; omega
    · show 512 * hf.val + 512 ≤ 1024; omega
    · show 0 + 1024 ≤ 1024; omega))
/-- A head's keys, -/
abbrev kHead (x4 : Vec F S1x1024x256 .bf16) (h : Fin 4) : Vec F S1x256x256 .bf16 :=
  View.ld (Val := Elt F) (e' := .bf16) x4 (Rect.unit (s := S1x1024x256) ![0, 256 * h.val, 0] S1x256x256.size (fun a => by
    have := h.isLt
    fin_cases a
    · show 0 + 1 ≤ 1; omega
    · show 256 * h.val + 256 ≤ 1024; omega
    · show 0 + 256 ≤ 256; omega))
/-- and its values. -/
abbrev vHead (x5 : Vec F S1x256x1024 .bf16) (h : Fin 4) : Vec F S1x256x256 .bf16 :=
  View.ld (Val := Elt F) (e' := .bf16) x5 (Rect.unit (s := S1x256x1024) ![0, 0, 256 * h.val] S1x256x256.size (fun a => by
    have := h.isLt
    fin_cases a
    · show 0 + 1 ≤ 1; omega
    · show 0 + 256 ≤ 256; omega
    · show 256 * h.val + 256 ≤ 1024; omega))
/-- The scaled queries of 512 rows, -/
abbrev qHalf (x1 : Vec F S1x1024x1024 .f32) (x2 : Vec F S1x1024 .f32) (x3 : Vec F S1024x1024 .bf16) (hf : Fin 2) : FVec F S512x1024 .bf16 := k0_pay3 (xHalf x1 hf) x2 x3
theorem slice_head (h : Fin 4) : S512x1024.Slices ![0, 256 * h.val] S512x256 := by fin_cases h <;> decide
/-- and one head's columns of them. -/
abbrev qHead (q : FVec F S512x1024 .bf16) (h : Fin 4) : FVec F S512x256 .bf16 := extractStridedSlice S512x256 ![0, 256 * h.val] q (slice_head h)

/-- One head's attention output over 512 rows. -/
abbrev headOut (x1 : Vec F S1x1024x1024 .f32) (x2 : Vec F S1x1024 .f32) (x3 : Vec F S1024x1024 .bf16) (x4 : Vec F S1x1024x256 .bf16) (x5 : Vec F S1x256x1024 .bf16) (hf : Fin 2) (h : Fin 4) : FVec F S512x256 .bf16 :=
  k0_pay14 (k0_pay7 (qHead (qHalf x1 x2 x3 hf) h) (kHead x4 h)) (vHead x5 h)

/-- The four heads side by side. -/
def attB (x1 : Vec F S1x1024x1024 .f32) (x2 : Vec F S1x1024 .f32) (x3 : Vec F S1024x1024 .bf16) (x4 : Vec F S1x1024x256 .bf16) (x5 : Vec F S1x256x1024 .bf16) (hf : Fin 2) : Vec F S512x1024 .bf16 := fun y =>
  headOut x1 x2 x3 x4 x5 hf ⟨(y 1).val / 256, by have : (y 1).val < 1024 := (y 1).isLt; omega⟩ (ix2 (y 0) (⟨(y 1).val % 256, by omega⟩ : Fin 256))
/-- The two halves one above the other. -/
def attG (x1 : Vec F S1x1024x1024 .f32) (x2 : Vec F S1x1024 .f32) (x3 : Vec F S1024x1024 .bf16) (x4 : Vec F S1x1024x256 .bf16) (x5 : Vec F S1x256x1024 .bf16) : Vec F S1024x1024 .bf16 := fun y =>
  attB x1 x2 x3 x4 x5 ⟨(y 0).val / 512, by have : (y 0).val < 1024 := (y 0).isLt; omega⟩ (ix2 (⟨(y 0).val % 512, by omega⟩ : Fin 512) (y 1))
/-- A point's prompt rows: the residual plus the heads through the output weight. -/
def yBlk (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) : Vec F S1x1024x1024 .f32 := fun y =>
  k0_pay24 (xHalf x1 ⟨(y 1).val / 512, by have : (y 1).val < 1024 := (y 1).isLt; omega⟩) (attB x1 x2 x3 x4 x5 ⟨(y 1).val / 512, by have : (y 1).val < 1024 := (y 1).isLt; omega⟩) x6
    (ix3 (0 : Fin 1) (⟨(y 1).val % 512, by omega⟩ : Fin 512) (y 2))

/-- One head's store. -/
abbrev aP (x1 : Vec F S1x1024x1024 .f32) (x2 : Vec F S1x1024 .f32) (x3 : Vec F S1024x1024 .bf16) (x4 : Vec F S1x1024x256 .bf16) (x5 : Vec F S1x256x1024 .bf16) (hf : Fin 2) (h : Fin 4) : View.Piece (Elt F) S1024x1024 .bf16 :=
  ⟨Rect.unit (s := S1024x1024) ![512 * hf.val, 256 * h.val] S512x256.size (fun a => by
    have := hf.isLt; have := h.isLt
    fin_cases a
    · show 512 * hf.val + 512 ≤ 1024; omega
    · show 256 * h.val + 256 ≤ 1024; omega), headOut x1 x2 x3 x4 x5 hf h⟩

theorem aP_at (x1 : Vec F S1x1024x1024 .f32) (x2 : Vec F S1x1024 .f32) (x3 : Vec F S1024x1024 .bf16) (x4 : Vec F S1x1024x256 .bf16) (x5 : Vec F S1x256x1024 .bf16) (hf : Fin 2) (h : Fin 4) (x : S512x256.Idx) :
    headOut x1 x2 x3 x4 x5 hf h x = attG x1 x2 x3 x4 x5 ((aP x1 x2 x3 x4 x5 hf h).1.emb x) := by
  have x0 : (x 0).val < 512 := (x 0).isLt
  have x1' : (x 1).val < 256 := (x 1).isLt
  unfold attG attB
  have e1 : (⟨(512 * hf.val + 1 * (x 0).val) / 512, by omega⟩ : Fin 2) = hf := Fin.ext (by show (512 * hf.val + 1 * (x 0).val) / 512 = hf.val; omega)
  have e2 : (⟨(256 * h.val + 1 * (x 1).val) / 256, by omega⟩ : Fin 4) = h := Fin.ext (by show (256 * h.val + 1 * (x 1).val) / 256 = h.val; omega)
  have e3 : (⟨(512 * hf.val + 1 * (x 0).val) % 512, by omega⟩ : Fin 512) = x 0 := Fin.ext (by show (512 * hf.val + 1 * (x 0).val) % 512 = (x 0).val; omega)
  have e4 : (⟨(256 * h.val + 1 * (x 1).val) % 256, by omega⟩ : Fin 256) = x 1 := Fin.ext (by show (256 * h.val + 1 * (x 1).val) % 256 = (x 1).val; omega)
  show _ = headOut x1 x2 x3 x4 x5 ⟨(512 * hf.val + 1 * (x 0).val) / 512, _⟩ ⟨(256 * h.val + 1 * (x 1).val) / 256, _⟩ (ix2 (⟨(512 * hf.val + 1 * (x 0).val) % 512, _⟩ : Fin 512) (⟨(256 * h.val + 1 * (x 1).val) % 256, _⟩ : Fin 256))
  rw [e1, e2, e3, e4]
  exact congrArg _ (by funext d; fin_cases d <;> rfl)

/-- One half's four stores, newest first. -/
abbrev aL (x1 : Vec F S1x1024x1024 .f32) (x2 : Vec F S1x1024 .f32) (x3 : Vec F S1024x1024 .bf16) (x4 : Vec F S1x1024x256 .bf16) (x5 : Vec F S1x256x1024 .bf16) (hf : Fin 2) (L : List (View.Piece (Elt F) S1024x1024 .bf16)) : List (View.Piece (Elt F) S1024x1024 .bf16) :=
  aP x1 x2 x3 x4 x5 hf 3 :: aP x1 x2 x3 x4 x5 hf 2 :: aP x1 x2 x3 x4 x5 hf 1 :: aP x1 x2 x3 x4 x5 hf 0 :: L

theorem aL_at (x1 : Vec F S1x1024x1024 .f32) (x2 : Vec F S1x1024 .f32) (x3 : Vec F S1024x1024 .bf16) (x4 : Vec F S1x1024x256 .bf16) (x5 : Vec F S1x256x1024 .bf16) (hf : Fin 2) :
    ∀ p ∈ aL x1 x2 x3 x4 x5 hf [], ∀ x : p.1.shape.Idx, p.2 x = attG x1 x2 x3 x4 x5 (p.1.emb x) :=
  List.forall_mem_cons.2 ⟨fun x => aP_at x1 x2 x3 x4 x5 hf 3 x, List.forall_mem_cons.2 ⟨fun x => aP_at x1 x2 x3 x4 x5 hf 2 x,
    List.forall_mem_cons.2 ⟨fun x => aP_at x1 x2 x3 x4 x5 hf 1 x, List.forall_mem_cons.2 ⟨fun x => aP_at x1 x2 x3 x4 x5 hf 0 x, fun _ h => absurd h List.not_mem_nil⟩⟩⟩⟩

/-- Reading a half back after its four stores is the four heads. -/
theorem att_read (x1 : Vec F S1x1024x1024 .f32) (x2 : Vec F S1x1024 .f32) (x3 : Vec F S1024x1024 .bf16) (x4 : Vec F S1x1024x256 .bf16) (x5 : Vec F S1x256x1024 .bf16) (hf : Fin 2) (L : List (View.Piece (Elt F) S1024x1024 .bf16))
    (hL : ∀ p ∈ L, ∀ x : p.1.shape.Idx, p.2 x = attG x1 x2 x3 x4 x5 (p.1.emb x)) (inb : ∀ a, (![512 * hf.val, 0] : Fin 2 → ℕ) a + S512x1024.size a ≤ S1024x1024.size a) :
    (View.whole cc0_scratch0).readCov (Val := Elt F) (aL x1 x2 x3 x4 x5 hf L) (Rect.unit (s := S1024x1024) ![512 * hf.val, 0] S512x1024.size inb).toLoadRect = attB x1 x2 x3 x4 x5 hf := by
  refine (View.readCov_eq_canon' _ _ _).trans (funext fun x => ?_)
  have x0 : (x 0).val < 512 := (x 0).isLt
  have x1' : (x 1).val < 1024 := (x 1).isLt
  refine (View.canon_apply_of_pieces (attG x1 x2 x3 x4 x5) _ ?_ _ ?_).trans ?_
  · refine List.forall_mem_cons.2 ⟨fun x => aP_at x1 x2 x3 x4 x5 hf 3 x, List.forall_mem_cons.2 ⟨fun x => aP_at x1 x2 x3 x4 x5 hf 2 x,
      List.forall_mem_cons.2 ⟨fun x => aP_at x1 x2 x3 x4 x5 hf 1 x, List.forall_mem_cons.2 ⟨fun x => aP_at x1 x2 x3 x4 x5 hf 0 x, hL⟩⟩⟩⟩
  · have key : ∀ h : Fin 4, 256 * h.val ≤ (x 1).val → (x 1).val < 256 * h.val + 256 →
        (Rect.unit (s := S1024x1024) ![512 * hf.val, 0] S512x1024.size inb).toLoadRect.idx x ∈ (aP x1 x2 x3 x4 x5 hf h).1.set := by
      intro h h1 h2
      refine (aP x1 x2 x3 x4 x5 hf h).1.mem_set.mpr fun a => ?_
      fin_cases a
      · exact ⟨(x 0).val, x0, by show 512 * hf.val + 1 * (x 0).val = 512 * hf.val + 1 * (x 0).val; omega⟩
      · exact ⟨(x 1).val - 256 * h.val, by show (x 1).val - 256 * h.val < 256; omega, by show 0 + 1 * (x 1).val = 256 * h.val + 1 * ((x 1).val - 256 * h.val); omega⟩
    by_cases c3 : 768 ≤ (x 1).val
    · exact ⟨_, List.mem_cons_self, key 3 (by show 256 * 3 ≤ _; omega) (by show _ < 256 * 3 + 256; omega)⟩
    by_cases c2 : 512 ≤ (x 1).val
    · exact ⟨_, List.mem_cons_of_mem _ List.mem_cons_self, key 2 (by show 256 * 2 ≤ _; omega) (by show _ < 256 * 2 + 256; omega)⟩
    by_cases c1 : 256 ≤ (x 1).val
    · exact ⟨_, List.mem_cons_of_mem _ (List.mem_cons_of_mem _ List.mem_cons_self), key 1 (by show 256 * 1 ≤ _; omega) (by show _ < 256 * 1 + 256; omega)⟩
    · exact ⟨_, List.mem_cons_of_mem _ (List.mem_cons_of_mem _ (List.mem_cons_of_mem _ List.mem_cons_self)), key 0 (by show 256 * 0 ≤ _; omega) (by show _ < 256 * 0 + 256; omega)⟩
  · unfold attG
    show attB x1 x2 x3 x4 x5 ⟨(512 * hf.val + 1 * (x 0).val) / 512, _⟩ (ix2 (⟨(512 * hf.val + 1 * (x 0).val) % 512, _⟩ : Fin 512) ⟨0 + 1 * (x 1).val, _⟩) = _
    have e1 : (⟨(512 * hf.val + 1 * (x 0).val) / 512, by omega⟩ : Fin 2) = hf := Fin.ext (by show (512 * hf.val + 1 * (x 0).val) / 512 = hf.val; omega)
    have e3 : (⟨(512 * hf.val + 1 * (x 0).val) % 512, by omega⟩ : Fin 512) = x 0 := Fin.ext (by show (512 * hf.val + 1 * (x 0).val) % 512 = (x 0).val; omega)
    have e4 : (⟨0 + 1 * (x 1).val, by omega⟩ : Fin 1024) = x 1 := Fin.ext (by show 0 + 1 * (x 1).val = (x 1).val; omega)
    rw [e1, e3, e4]
    exact congrArg _ (by funext d; fin_cases d <;> rfl)

/-- One half's rows of the result, as stored. -/
abbrev yP (x1 : Vec F S1x1024x1024 .f32) (x6 : Vec F S1024x1024 .bf16) (a : Vec F S512x1024 .bf16) (hf : Fin 2) : View.Piece (Elt F) S1x1024x1024 .f32 :=
  ⟨Rect.unit (s := S1x1024x1024) ![0, 512 * hf.val, 0] S1x512x1024.size (fun a => by
    have := hf.isLt
    fin_cases a
    · show 0 + 1 ≤ 1; omega
    · show 512 * hf.val + 512 ≤ 1024; omega
    · show 0 + 1024 ≤ 1024; omega), k0_pay24 (xHalf x1 hf) a x6⟩

theorem yP_at (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (hf : Fin 2) (a : Vec F S512x1024 .bf16) (ha : a = attB x1 x2 x3 x4 x5 hf) (x : S1x512x1024.Idx) :
    (yP x1 x6 a hf).2 x = yBlk x1 x2 x3 x4 x5 x6 ((yP x1 x6 a hf).1.emb x) := by
  subst ha
  have x0 : (x 0).val = 0 := Nat.lt_one_iff.mp (x 0).isLt
  have x1' : (x 1).val < 512 := (x 1).isLt
  have x2' : (x 2).val < 1024 := (x 2).isLt
  unfold yBlk
  show k0_pay24 (xHalf x1 hf) (attB x1 x2 x3 x4 x5 hf) x6 x = k0_pay24 (xHalf x1 ⟨(512 * hf.val + 1 * (x 1).val) / 512, _⟩) (attB x1 x2 x3 x4 x5 ⟨(512 * hf.val + 1 * (x 1).val) / 512, _⟩) x6
    (ix3 (0 : Fin 1) (⟨(512 * hf.val + 1 * (x 1).val) % 512, _⟩ : Fin 512) ⟨0 + 1 * (x 2).val, _⟩)
  have e1 : (⟨(512 * hf.val + 1 * (x 1).val) / 512, by omega⟩ : Fin 2) = hf := Fin.ext (by show (512 * hf.val + 1 * (x 1).val) / 512 = hf.val; omega)
  have e3 : (⟨(512 * hf.val + 1 * (x 1).val) % 512, by omega⟩ : Fin 512) = x 1 := Fin.ext (by show (512 * hf.val + 1 * (x 1).val) % 512 = (x 1).val; omega)
  have e4 : (⟨0 + 1 * (x 2).val, by omega⟩ : Fin 1024) = x 2 := Fin.ext (by show 0 + 1 * (x 2).val = (x 2).val; omega)
  rw [e1, e3, e4]
  refine congrArg _ (funext fun d => ?_)
  fin_cases d
  · exact Fin.ext x0
  · rfl
  · rfl

/-- The two halves' stores are the point's rows. -/
theorem y_out (v : View sig .tc .vmem S1x1024x1024 .f32) (f : v.ty.Contents (Elt F)) (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16)
    (a0 a1 : Vec F S512x1024 .bf16) (h0 : a0 = attB x1 x2 x3 x4 x5 0) (h1 : a1 = attB x1 x2 x3 x4 x5 1) :
    v.read (Elt F) (v.writes (Elt F) f [yP x1 x6 a1 1, yP x1 x6 a0 0]) = yBlk x1 x2 x3 x4 x5 x6 := by
  funext y
  exact View.read_writes_apply_of_pieces v f _ _ (List.forall_mem_cons.2 ⟨fun x => yP_at x1 x2 x3 x4 x5 x6 1 a1 h1 x, List.forall_mem_cons.2 ⟨fun x => yP_at x1 x2 x3 x4 x5 x6 0 a0 h0 x, fun _ h => absurd h List.not_mem_nil⟩⟩) y
    (View.cover_of_tiled _ ![1, 512, 1024] rfl y)

end Cert.Kernel2Ideal.Hand

end
-- ==== Proof.Ideal2.Last.lean ====
module

public import proofs.«01_k».proof.Proof.Ideal2.State
public import proofs.«01_k».proof.Proof.Ideal2.Attn

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- A head's read-outs, -/
abbrev ooHead (oo : Vec F S128x512 .f32) (h : Fin 4) : Vec F S128x128 .f32 :=
  View.ld (Val := Elt F) (e' := .f32) oo (Rect.unit (s := S128x512) ![0, 128 * h.val] S128x128.size (fun a => by
    have := h.isLt
    fin_cases a
    · show 0 + 128 ≤ 128; omega
    · show 128 * h.val + 128 ≤ 512; omega))
/-- its norm's scales, -/
abbrev hnHead (hn : Vec F S1x512 .f32) (h : Fin 4) : Vec F S1x128 .f32 :=
  View.ld (Val := Elt F) (e' := .f32) hn (Rect.unit (s := S1x512) ![0, 128 * h.val] S1x128.size (fun a => by
    have := h.isLt
    fin_cases a
    · show 0 + 1 ≤ 1; omega
    · show 128 * h.val + 128 ≤ 512; omega))
/-- its output gates, -/
abbrev gHead (ga : Vec F S128x3072 .f32) (h : Fin 4) : Vec F S128x128 .f32 :=
  View.ld (Val := Elt F) (e' := .f32) ga (Rect.unit (s := S128x3072) ![0, 2048 + 128 * h.val] S128x128.size (fun a => by
    have := h.isLt
    fin_cases a
    · show 0 + 128 ≤ 128; omega
    · show 2048 + 128 * h.val + 128 ≤ 3072; omega))
/-- a pooling group's new rows, -/
abbrev uGrp (ga : Vec F S128x3072 .f32) (h : Fin 4) : Vec F S128x128 .f32 :=
  View.ld (Val := Elt F) (e' := .f32) ga (Rect.unit (s := S128x3072) ![0, 2560 + 128 * h.val] S128x128.size (fun a => by
    have := h.isLt
    fin_cases a
    · show 0 + 128 ≤ 128; omega
    · show 2560 + 128 * h.val + 128 ≤ 3072; omega))
/-- and its rows of an earlier token. -/
abbrev pGrp (pa : Vec F S15x128x512 .f32) (h : Fin 4) (j : Fin 15) : Vec F S1x128x128 .f32 :=
  View.ld (Val := Elt F) (e' := .f32) pa (Rect.unit (s := S15x128x512) ![j.val, 0, 128 * h.val] S1x128x128.size (fun a => by
    have := h.isLt; have := j.isLt
    fin_cases a
    · show j.val + 1 ≤ 15; omega
    · show 0 + 128 ≤ 128; omega
    · show 128 * h.val + 128 ≤ 512; omega))

/-- The decode rows' eight column groups: four heads, normed and gated, and four pooling groups. -/
def mG (hn : Vec F S1x512 .f32) (oo : Vec F S128x512 .f32) (ga : Vec F S128x3072 .f32) (pa : Vec F S15x128x512 .f32) : Fin 8 → FVec F S128x128 .bf16 :=
  ![k0_pay162 (ooHead oo 0) (hnHead hn 0) (gHead ga 0), k0_pay164 (k0_pay163 (ooHead oo 1)) (hnHead hn 1) (gHead ga 1),
    k0_pay165 (ooHead oo 2) (hnHead hn 2) (gHead ga 2), k0_pay168 (ooHead oo 3) (k0_pay166 (ooHead oo 3)) k0_pay167 (hnHead hn 3) (gHead ga 3),
    k0_pay169 (uGrp ga 0) (pGrp pa 0 14), k0_pay172 (uGrp ga 1) (k0_pay170 (uGrp ga 1) (pGrp pa 1 14) (pGrp pa 1 13)) (k0_pay171 (pGrp pa 1 12)),
    k0_pay174 (uGrp ga 2) (k0_pay173 (uGrp ga 2) (pGrp pa 2 14) (pGrp pa 2 13) (pGrp pa 2 12) (pGrp pa 2 11) (pGrp pa 2 10) (pGrp pa 2 9) (pGrp pa 2 8)),
    k0_pay176 (uGrp ga 3) (k0_pay175 (uGrp ga 3) (pGrp pa 3 14) (pGrp pa 3 13) (pGrp pa 3 12) (pGrp pa 3 11) (pGrp pa 3 10) (pGrp pa 3 9) (pGrp pa 3 8) (pGrp pa 3 7))
      (pGrp pa 3 6) (pGrp pa 3 5) (pGrp pa 3 4) (pGrp pa 3 3) (pGrp pa 3 2) (pGrp pa 3 1) (pGrp pa 3 0)]
/-- The groups side by side. -/
def mrg (hn : Vec F S1x512 .f32) (oo : Vec F S128x512 .f32) (ga : Vec F S128x3072 .f32) (pa : Vec F S15x128x512 .f32) : Vec F S128x1024 .bf16 := fun y =>
  mG hn oo ga pa ⟨(y 1).val / 128, by have : (y 1).val < 1024 := (y 1).isLt; omega⟩ (ix2 (y 0) (⟨(y 1).val % 128, by omega⟩ : Fin 128))
/-- Taken over the scratch's rows. -/
def mrgS (hn : Vec F S1x512 .f32) (oo : Vec F S128x512 .f32) (ga : Vec F S128x3072 .f32) (pa : Vec F S15x128x512 .f32) : Vec F S1024x1024 .bf16 := fun y =>
  mrg hn oo ga pa (ix2 (⟨(y 0).val % 128, by omega⟩ : Fin 128) (y 1))
/-- The decode rows after the residual. -/
abbrev x1sBlk (hn : Vec F S1x512 .f32) (oo : Vec F S128x512 .f32) (xs : Vec F S128x1024 .f32) (ga : Vec F S128x3072 .f32) (pa : Vec F S15x128x512 .f32) (wo : Vec F S1024x1024 .bf16) : Vec F S128x1024 .f32 :=
  k0_pay178 xs (mrg hn oo ga pa) wo
/-- The scaled queries of the decode rows. -/
abbrev qRows (x2 : Vec F S1x1024 .f32) (x3 : Vec F S1024x1024 .bf16) (hn : Vec F S1x512 .f32) (oo : Vec F S128x512 .f32) (xs : Vec F S128x1024 .f32) (ga : Vec F S128x3072 .f32) (pa : Vec F S15x128x512 .f32) (wo : Vec F S1024x1024 .bf16) : FVec F S128x1024 .f32 :=
  k0_pay179 xs (mrg hn oo ga pa) wo x2 x3
/-- Their eight stores. -/
def qG (q : FVec F S128x1024 .f32) : Fin 8 → FVec F S128x1x128 .f32 :=
  ![k0_pay181 (extractStridedSlice S128x128 ![0, 0] q slices_S128x1024_o0_0_S128x128), k0_pay182 q, k0_pay183 q, k0_pay184 q, k0_pay185 q, k0_pay186 q, k0_pay187 q, k0_pay1 (k0_pay188 q)]
/-- Token by half and head. -/
def qsBlk (q : FVec F S128x1024 .f32) : Vec F S128x8x128 .f32 := fun y => qG q (y 1) (ix3 (y 0) (0 : Fin 1) (y 2))
/-- The pooling state moved on by one token. -/
def poolBlk (ga : Vec F S128x3072 .f32) (pa : Vec F S15x128x512 .f32) : Vec F S15x128x512 .f32 := fun y =>
  if h : (y 0).val < 14 then pa (ix3 (⟨(y 0).val + 1, by omega⟩ : Fin 15) (y 1) (y 2))
  else ga (ix2 (y 1) (⟨2560 + (y 2).val, by have : (y 2).val < 512 := (y 2).isLt; omega⟩ : Fin 3072))

/-- A group's store. -/
abbrev mP (hn : Vec F S1x512 .f32) (oo : Vec F S128x512 .f32) (ga : Vec F S128x3072 .f32) (pa : Vec F S15x128x512 .f32) (k : Fin 8) : View.Piece (Elt F) S1024x1024 .bf16 :=
  ⟨Rect.unit (s := S1024x1024) ![0, 128 * k.val] S128x128.size (fun a => by
    have := k.isLt
    fin_cases a
    · show 0 + 128 ≤ 1024; omega
    · show 128 * k.val + 128 ≤ 1024; omega), mG hn oo ga pa k⟩

theorem mP_at (hn : Vec F S1x512 .f32) (oo : Vec F S128x512 .f32) (ga : Vec F S128x3072 .f32) (pa : Vec F S15x128x512 .f32) (k : Fin 8) (x : S128x128.Idx) :
    mG hn oo ga pa k x = mrgS hn oo ga pa ((mP hn oo ga pa k).1.emb x) := by
  have x0 : (x 0).val < 128 := (x 0).isLt
  have x1' : (x 1).val < 128 := (x 1).isLt
  unfold mrgS mrg
  show _ = mG hn oo ga pa ⟨(128 * k.val + 1 * (x 1).val) / 128, _⟩ (ix2 (⟨(0 + 1 * (x 0).val) % 128, _⟩ : Fin 128) (⟨(128 * k.val + 1 * (x 1).val) % 128, _⟩ : Fin 128))
  have e2 : (⟨(128 * k.val + 1 * (x 1).val) / 128, by omega⟩ : Fin 8) = k := Fin.ext (by show (128 * k.val + 1 * (x 1).val) / 128 = k.val; omega)
  have e3 : (⟨(0 + 1 * (x 0).val) % 128, by omega⟩ : Fin 128) = x 0 := Fin.ext (by show (0 + 1 * (x 0).val) % 128 = (x 0).val; omega)
  have e4 : (⟨(128 * k.val + 1 * (x 1).val) % 128, by omega⟩ : Fin 128) = x 1 := Fin.ext (by show (128 * k.val + 1 * (x 1).val) % 128 = (x 1).val; omega)
  rw [e2, e3, e4]
  exact congrArg _ (by funext d; fin_cases d <;> rfl)

/-- The eight stores, newest first. -/
abbrev mL (hn : Vec F S1x512 .f32) (oo : Vec F S128x512 .f32) (ga : Vec F S128x3072 .f32) (pa : Vec F S15x128x512 .f32) : List (View.Piece (Elt F) S1024x1024 .bf16) :=
  List.map (mP hn oo ga pa) [7, 6, 5, 4, 3, 2, 1, 0]
theorem mem8 (k : Fin 8) : k ∈ ([7, 6, 5, 4, 3, 2, 1, 0] : List (Fin 8)) := by revert k; decide

/-- Reading the rows back after the eight stores is the groups side by side. -/
theorem mrg_read (hn : Vec F S1x512 .f32) (oo : Vec F S128x512 .f32) (ga : Vec F S128x3072 .f32) (pa : Vec F S15x128x512 .f32) (inb : ∀ a, (![0, 0] : Fin 2 → ℕ) a + S128x1024.size a ≤ S1024x1024.size a) :
    (View.whole cc0_scratch0).readCov (Val := Elt F) (mL hn oo ga pa) (Rect.unit (s := S1024x1024) ![0, 0] S128x1024.size inb).toLoadRect = mrg hn oo ga pa := by
  refine (View.readCov_eq_canon' _ _ _).trans (funext fun x => ?_)
  have x0 : (x 0).val < 128 := (x 0).isLt
  have x1' : (x 1).val < 1024 := (x 1).isLt
  refine (View.canon_apply_of_pieces (mrgS hn oo ga pa) _ ?_ _ ?_).trans ?_
  · intro p hp
    obtain ⟨k, -, rfl⟩ := List.mem_map.1 hp
    exact fun x => mP_at hn oo ga pa k x
  · refine ⟨_, List.mem_map_of_mem (mem8 ⟨(x 1).val / 128, by omega⟩), (mP hn oo ga pa ⟨(x 1).val / 128, by omega⟩).1.mem_set.mpr fun a => ?_⟩
    fin_cases a
    · exact ⟨(x 0).val, x0, by show 0 + 1 * (x 0).val = 0 + 1 * (x 0).val; rfl⟩
    · exact ⟨(x 1).val % 128, by show (x 1).val % 128 < 128; omega, by show 0 + 1 * (x 1).val = 128 * ((x 1).val / 128) + 1 * ((x 1).val % 128); omega⟩
  · unfold mrgS
    show mrg hn oo ga pa (ix2 (⟨(0 + 1 * (x 0).val) % 128, _⟩ : Fin 128) ⟨0 + 1 * (x 1).val, _⟩) = _
    have e3 : (⟨(0 + 1 * (x 0).val) % 128, by omega⟩ : Fin 128) = x 0 := Fin.ext (by show (0 + 1 * (x 0).val) % 128 = (x 0).val; omega)
    have e4 : (⟨0 + 1 * (x 1).val, by omega⟩ : Fin 1024) = x 1 := Fin.ext (by show 0 + 1 * (x 1).val = (x 1).val; omega)
    rw [e3, e4]
    exact congrArg _ (by funext d; fin_cases d <;> rfl)

/-- One store of the queries. -/
abbrev qP (q : FVec F S128x1024 .f32) (k : Fin 8) : View.Piece (Elt F) S128x8x128 .f32 :=
  ⟨Rect.unit (s := S128x8x128) ![0, k.val, 0] S128x1x128.size (fun a => by
    have := k.isLt
    fin_cases a
    · show 0 + 128 ≤ 128; omega
    · show k.val + 1 ≤ 8; omega
    · show 0 + 128 ≤ 128; omega), qG q k⟩

theorem qP_at (q : FVec F S128x1024 .f32) (k : Fin 8) (x : S128x1x128.Idx) : qG q k x = qsBlk q ((qP q k).1.emb x) := by
  have x1' : (x 1).val = 0 := Nat.lt_one_iff.mp (x 1).isLt
  have x0 : (x 0).val < 128 := (x 0).isLt
  have x2' : (x 2).val < 128 := (x 2).isLt
  unfold qsBlk
  show _ = qG q ⟨k.val + 1 * (x 1).val, _⟩ (ix3 ⟨0 + 1 * (x 0).val, _⟩ (0 : Fin 1) ⟨0 + 1 * (x 2).val, _⟩)
  have e1 : (⟨k.val + 1 * (x 1).val, by have := k.isLt; omega⟩ : Fin 8) = k := Fin.ext (by show k.val + 1 * (x 1).val = k.val; omega)
  have e3 : (⟨0 + 1 * (x 0).val, by omega⟩ : Fin 128) = x 0 := Fin.ext (by show 0 + 1 * (x 0).val = (x 0).val; omega)
  have e4 : (⟨0 + 1 * (x 2).val, by omega⟩ : Fin 128) = x 2 := Fin.ext (by show 0 + 1 * (x 2).val = (x 2).val; omega)
  rw [e1, e3, e4]
  refine congrArg _ (funext fun d => ?_)
  fin_cases d
  · rfl
  · exact Fin.ext x1'
  · rfl

/-- The eight stores are the queries. -/
theorem qs_out (v : View sig .tc .vmem S128x8x128 .f32) (f : v.ty.Contents (Elt F)) (q : FVec F S128x1024 .f32) :
    v.read (Elt F) (v.writes (Elt F) f (List.map (qP q) [7, 6, 5, 4, 3, 2, 1, 0])) = qsBlk q := by
  funext y
  refine View.read_writes_apply_of_pieces v f _ _ ?_ y ?_
  · intro p hp
    obtain ⟨k, -, rfl⟩ := List.mem_map.1 hp
    exact fun x => qP_at q k x
  · exact View.cover_of_tiled _ ![128, 1, 128] rfl y

/-- The two stores are the pooling state. -/
theorem pool_out (v : View sig .tc .vmem S15x128x512 .f32) (f : v.ty.Contents (Elt F)) (ga : Vec F S128x3072 .f32) (pa : Vec F S15x128x512 .f32)
    (i1 : ∀ a, (![14, 0, 0] : Fin 3 → ℕ) a + S1x128x512.size a ≤ S15x128x512.size a) (i2 : ∀ a, (![0, 0, 0] : Fin 3 → ℕ) a + S14x128x512.size a ≤ S15x128x512.size a)
    (i3 : ∀ a, (![1, 0, 0] : Fin 3 → ℕ) a + S14x128x512.size a ≤ S15x128x512.size a) (i4 : ∀ a, (![0, 2560] : Fin 2 → ℕ) a + S128x512.size a ≤ S128x3072.size a) :
    v.read (Elt F) (v.writes (Elt F) f [⟨Rect.unit (s := S15x128x512) ![14, 0, 0] S1x128x512.size i1, k0_pay177 (View.ld (Val := Elt F) (e' := .f32) ga (Rect.unit (s := S128x3072) ![0, 2560] S128x512.size i4))⟩,
      ⟨Rect.unit (s := S15x128x512) ![0, 0, 0] S14x128x512.size i2, View.ld (Val := Elt F) (e' := .f32) pa (Rect.unit (s := S15x128x512) ![1, 0, 0] S14x128x512.size i3)⟩]) = poolBlk ga pa := by
  have A1 : ∀ x : S1x128x512.Idx, k0_pay177 (View.ld (Val := Elt F) (e' := .f32) ga (Rect.unit (s := S128x3072) ![0, 2560] S128x512.size i4)) x
      = poolBlk ga pa ((Rect.unit (s := S15x128x512) ![14, 0, 0] S1x128x512.size i1).emb x) := by
    intro x
    have x0 : (x 0).val = 0 := Nat.lt_one_iff.mp (x 0).isLt
    unfold poolBlk
    refine Eq.trans ?_ (dif_neg (show ¬ (14 + 1 * (x 0).val < 14) by omega)).symm
    have e : k0_pay177 (View.ld (Val := Elt F) (e' := .f32) ga (Rect.unit (s := S128x3072) ![0, 2560] S128x512.size i4)) x
        = View.ld (Val := Elt F) (e' := .f32) ga (Rect.unit (s := S128x3072) ![0, 2560] S128x512.size i4) (ix2 (x 1) (x 2)) := by
      unfold k0_pay177
      exact shapeCast_apply _ _ x (ix2 (x 1) (x 2)) (by rw [Shape.rowMajor_val_three, Shape.rowMajor_val_two, x0]; show (x 1).val * 512 + (x 2).val = (0 * 128 + (x 1).val) * 512 + (x 2).val; omega)
    rw [e]
    refine congrArg ga (funext fun d => Fin.ext ?_)
    fin_cases d
    · show 0 + 1 * (x 1).val = 0 + 1 * (x 1).val; rfl
    · show 2560 + 1 * (x 2).val = 2560 + (0 + 1 * (x 2).val); omega
  have A2 : ∀ x : S14x128x512.Idx, View.ld (Val := Elt F) (e' := .f32) pa (Rect.unit (s := S15x128x512) ![1, 0, 0] S14x128x512.size i3) x
      = poolBlk ga pa ((Rect.unit (s := S15x128x512) ![0, 0, 0] S14x128x512.size i2).emb x) := by
    intro x
    have x0 : (x 0).val < 14 := (x 0).isLt
    unfold poolBlk
    refine Eq.trans ?_ (dif_pos (show 0 + 1 * (x 0).val < 14 by omega)).symm
    refine congrArg pa (funext fun d => Fin.ext ?_)
    fin_cases d
    · show 1 + 1 * (x 0).val = 0 + 1 * (x 0).val + 1; omega
    · show 0 + 1 * (x 1).val = 0 + 1 * (x 1).val; rfl
    · show 0 + 1 * (x 2).val = 0 + 1 * (x 2).val; rfl
  funext y
  have y0 : (y 0).val < 15 := (y 0).isLt
  refine View.read_writes_apply_of_pieces v f _ _ (List.forall_mem_cons.2 ⟨A1, List.forall_mem_cons.2 ⟨A2, fun _ h => absurd h List.not_mem_nil⟩⟩) y ?_
  by_cases hy : (y 0).val < 14
  · refine ⟨_, List.mem_cons_of_mem _ List.mem_cons_self, (Rect.unit (s := S15x128x512) ![0, 0, 0] S14x128x512.size i2).mem_set.mpr fun a => ?_⟩
    fin_cases a
    · exact ⟨(y 0).val, hy, by show (y 0).val = 0 + 1 * (y 0).val; omega⟩
    · exact ⟨(y 1).val, (y 1).isLt, by show (y 1).val = 0 + 1 * (y 1).val; omega⟩
    · exact ⟨(y 2).val, (y 2).isLt, by show (y 2).val = 0 + 1 * (y 2).val; omega⟩
  · refine ⟨_, List.mem_cons_self, (Rect.unit (s := S15x128x512) ![14, 0, 0] S1x128x512.size i1).mem_set.mpr fun a => ?_⟩
    fin_cases a
    · exact ⟨0, by show 0 < 1; omega, by show (y 0).val = 14 + 1 * 0; omega⟩
    · exact ⟨(y 1).val, (y 1).isLt, by show (y 1).val = 0 + 1 * (y 1).val; omega⟩
    · exact ⟨(y 2).val, (y 2).isLt, by show (y 2).val = 0 + 1 * (y 2).val; omega⟩

end Cert.Kernel2Ideal.Hand

end
-- ==== Proof.Ideal2.Dats.lean ====
module

public import proofs.«01_k».proof.Proof.Ideal2.Setup
public import proofs.«01_k».proof.Proof.Ideal2.State
public import proofs.«01_k».proof.Proof.Ideal2.Attn
public import proofs.«01_k».proof.Proof.Ideal2.Last
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## The grid's points -/

theorem co_val : ∀ t : Fin grid0.N, ((grid0.coords t) 0).val = t.val := by decide +kernel
theorem first_iff : ∀ t : Fin grid0.N, ((Scalar.cmpi .ne (Scalar.extui (Scalar.cmpi .eq (BitVec.ofNat 32 ((grid0.coords t) 0).val) 0#32) : BitVec 32) 0#32 = 1#1)) ↔ t.val = 0 := by decide +kernel
theorem prompt_iff : ∀ t : Fin grid0.N, (k0_cond2 (grid0.coords t) = 1#1) ↔ t.val < 16 := by decide +kernel
theorem sample_iff : ∀ t : Fin grid0.N, (k0_cond3 (grid0.coords t) = 1#1) ↔ t.val = 16 := by decide +kernel
theorem flush10_iff : ∀ t : Fin grid0.N, win0_10.flush t = true ↔ t.val ≠ 15 := by decide +kernel
theorem flush11_iff : ∀ t : Fin grid0.N, win0_11.flush t = true ↔ t.val ≠ 15 := by decide +kernel
theorem flush12_iff : ∀ t : Fin grid0.N, win0_12.flush t = true ↔ t.val ≠ 15 := by decide +kernel
theorem flush13_iff : ∀ t : Fin grid0.N, win0_13.flush t = true ↔ t.val = 16 := by decide +kernel
theorem flush14_iff : ∀ t : Fin grid0.N, win0_14.flush t = true ↔ t.val = 16 := by decide +kernel
theorem flush15_iff : ∀ t : Fin grid0.N, win0_15.flush t = true ↔ t.val = 16 := by decide +kernel

/-! ## What the blocks hold -/

abbrev b0 (c : Dev nD) (t : Fin cfg0.N) : Vec F S1x1024x1024 .f32 := iblk m c 0 t
abbrev b1 (c : Dev nD) (t : Fin cfg0.N) : Vec F S1x1024 .f32 := iblk m c 1 t
abbrev b2 (c : Dev nD) (t : Fin cfg0.N) : Vec F S1024x1024 .bf16 := iblk m c 2 t
abbrev b3 (c : Dev nD) (t : Fin cfg0.N) : Vec F S1x1024x256 .bf16 := iblk m c 3 t
abbrev b4 (c : Dev nD) (t : Fin cfg0.N) : Vec F S1x256x1024 .bf16 := iblk m c 4 t
abbrev b5 (c : Dev nD) (t : Fin cfg0.N) : Vec F S1024x1024 .bf16 := iblk m c 5 t
abbrev b6 (c : Dev nD) (t : Fin cfg0.N) : Vec F S8x2048 .f32 := X0_6 m c t
abbrev b7 (c : Dev nD) (t : Fin cfg0.N) : Vec F S8x4x128x128 .f32 := iblk m c 7 t
abbrev b8 (c : Dev nD) (t : Fin cfg0.N) : Vec F S176x1024 .f32 := iblk m c 8 t
abbrev b9 (c : Dev nD) (t : Fin cfg0.N) : Vec F S1x512 .f32 := iblk m c 9 t

/-- Point `b` of the grid. -/
def tp (b : Fin 16) : Fin cfg0.N := ⟨b.val, by have : cfg0.N = 17 := N_0; omega⟩

/-- Every decode row's read-outs. -/
def ooAll (c : Dev nD) : S128x512.Idx → F .f32 := fun y =>
  ooBlk (b6 m c (tp ⟨(y 0).val / 8, by have : (y 0).val < 128 := (y 0).isLt; omega⟩)) (b7 m c (tp ⟨(y 0).val / 8, by have : (y 0).val < 128 := (y 0).isLt; omega⟩)) (ix2 (⟨(y 0).val % 8, by omega⟩ : Fin 8) (y 1))

/-- The rows below `8 n` are there. -/
def RowsTo (c : Dev nD) (n : ℕ) (d : S128x512.Idx → F .f32) : Prop := ∀ y, (y 0).val < 8 * n → d y = ooAll m c y

/-- A point adds its eight rows to those there. -/
theorem rows_step (c : Dev nD) (t : Fin cfg0.N) (ht : t.val < 16) (d : S128x512.Idx → F .f32) (h : RowsTo m c t.val d) :
    RowsTo m c (t.val + 1) (ooStep (grid0.coords t) (b6 m c t) (b7 m c t) d) := by
  intro y hy
  have e := co_val t
  unfold ooStep
  by_cases hc : 8 * ((grid0.coords t) 0).val ≤ (y 0).val ∧ (y 0).val < 8 * ((grid0.coords t) 0).val + 8
  · rw [dif_pos hc]
    unfold ooAll
    have e1 : tp ⟨(y 0).val / 8, by have : (y 0).val < 128 := (y 0).isLt; omega⟩ = t := Fin.ext (by show (y 0).val / 8 = t.val; omega)
    have e2 : (⟨(y 0).val - 8 * ((grid0.coords t) 0).val, by omega⟩ : Fin 8) = ⟨(y 0).val % 8, by omega⟩ := Fin.ext (by show (y 0).val - 8 * ((grid0.coords t) 0).val = (y 0).val % 8; omega)
    rw [e1, e2]
  · rw [dif_neg hc]
    exact h y (by omega)

theorem rows_none (c : Dev nD) (d : S128x512.Idx → F .f32) : RowsTo m c 0 d := fun y hy => absurd hy (by omega)
theorem rows_all (c : Dev nD) (d : S128x512.Idx → F .f32) (h : RowsTo m c 16 d) : d = ooAll m c :=
  funext fun y => h y (by have := (y 0).isLt; show (y 0).val < 128; exact this)

/-! ## The own-copies invariant -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0) := by
  rw [Pipeline.ownSems0_eq_of_list c osem0 [0, 1, 2, 3] (by decide) (by decide)]; rfl

/-- The operands that the body's copies read. -/
def H0 : Finset (Ref sig .tc) := {main_arg9, main_arg10, main_arg11, main_arg13}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c hbXs (V m c main_arg9) ∗ pt c hbGa (V m c main_arg10) ∗ pt c hbPa (V m c main_arg11) ∗ pt c hbWo (V m c main_arg13)) := by
  rw [BI.bigSep_eq_bigSepL_of_eq [main_arg9, main_arg10, main_arg11, main_arg13] (by decide) (by decide)]; rfl

theorem PhiD_eq (c : Dev nD) :
    (Pipeline.ΦD osem0 spec0 H0 (V m) c : sProp 𝕄)
      = iprop(iprop((∃ f, pt c scAtt f) ∗ (∃ f, pt c scOo f) ∗ (∃ f, pt c scXs f) ∗ (∃ f, pt c scGa f) ∗ (∃ f, pt c scPa f) ∗ (∃ f, pt c scWo f)) ∗ (∃ r, prngReg c r)
          ∗ iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0)
          ∗ iprop(pt c hbXs (V m c main_arg9) ∗ pt c hbGa (V m c main_arg10) ∗ pt c hbPa (V m c main_arg11) ∗ pt c hbWo (V m c main_arg13))) := by
  rw [Pipeline.ΦD_eq, scopedRest0_eq, ownSems00_eq, hbmPts0_eq]

/-- Between the first point and the last: the read-outs so far, the four copies in flight. -/
def mid (c : Dev nD) (n : ℕ) : sProp 𝕄 :=
  iprop((∃ a, pt c scAtt a) ∗ (∃ d, ⌜RowsTo m c n d⌝ ∗ pt c scOo d)
    ∗ flight c hbXs scXs (SemLoc.dma 25) 16384 (V m c main_arg9) (V m c main_arg9)
    ∗ flight c hbGa scGa (SemLoc.dma 26) 49152 (V m c main_arg10) (V m c main_arg10)
    ∗ flight c hbPa scPa (SemLoc.dma 27) 122880 (V m c main_arg11) (V m c main_arg11)
    ∗ flight c hbWo scWo (SemLoc.dma 28) 65536 (V m c main_arg13) (V m c main_arg13)
    ∗ left_over c hbXs (V m c main_arg9)
    ∗ left_over c hbGa (V m c main_arg10)
    ∗ left_over c hbPa (V m c main_arg11)
    ∗ left_over c hbWo (V m c main_arg13)
    ∗ (∃ r, prngReg c r))

/-- The last point whose rows are prompt rows, at or before `t`. -/
def lastPrompt (t : Fin cfg0.N) : Fin cfg0.N := ⟨min t.val 15, lt_of_le_of_lt (Nat.min_le_left _ _) t.isLt⟩
theorem lastPrompt_of_lt (t : Fin cfg0.N) (h : t.val < 16) : lastPrompt t = t := Fin.ext (by show min t.val 15 = t.val; omega)

/-- What a point computes: prompt rows, -/
def yAt (c : Dev nD) (t : Fin cfg0.N) : Vec F S1x1024x1024 .f32 := yBlk (b0 m c t) (b1 m c t) (b2 m c t) (b3 m c t) (b4 m c t) (b5 m c t)
/-- eight tokens' states, -/
def stAt (c : Dev nD) (t : Fin cfg0.N) : Vec F S8x4x128x128 .f32 := stBlk (b6 m c t) (b7 m c t)
/-- and rows of a weight. -/
def wAt (c : Dev nD) (t : Fin cfg0.N) : Vec F S176x1024 .bf16 := k0_pay2 (b8 m c t)
/-- What the last point computes: the decode rows, -/
def x1sAt (c : Dev nD) (t : Fin cfg0.N) : Vec F S128x1024 .f32 := x1sBlk (b9 m c t) (ooAll m c) (V m c main_arg9) (V m c main_arg10) (V m c main_arg11) (V m c main_arg13)
/-- the pooling state, -/
def poolAt (c : Dev nD) : Vec F S15x128x512 .f32 := poolBlk (V m c main_arg10) (V m c main_arg11)
/-- and the queries. -/
def qsAt (c : Dev nD) (t : Fin cfg0.N) : Vec F S128x8x128 .f32 :=
  qsBlk (qRows (b1 m c t) (b2 m c t) (b9 m c t) (ooAll m c) (V m c main_arg9) (V m c main_arg10) (V m c main_arg11) (V m c main_arg13))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => yAt m c (lastPrompt t)
    | ⟨11, _⟩ => stAt m c (lastPrompt t)
    | ⟨12, _⟩ => wAt m c (lastPrompt t)
    | ⟨13, _⟩ => x1sAt m c t
    | ⟨14, _⟩ => poolAt m c
    | ⟨15, _⟩ => qsAt m c t
    | ⟨n + 16, h⟩ => absurd h (by show ¬ (n + 16 < 16); omega)
  Φ t := if t.val = 0 ∨ t.val = 17 then Pipeline.ΦD osem0 spec0 H0 (V m) c else mid m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = X0_6 m c t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = yAt m c (lastPrompt t) := by dsimp only [dats]
theorem after11 (c : Dev nD) (t : Fin cfg0.N) : (dats m 0 c).after 11 t = stAt m c (lastPrompt t) := by dsimp only [dats]
theorem after12 (c : Dev nD) (t : Fin cfg0.N) : (dats m 0 c).after 12 t = wAt m c (lastPrompt t) := by dsimp only [dats]
theorem after13 (c : Dev nD) (t : Fin cfg0.N) : (dats m 0 c).after 13 t = x1sAt m c t := by dsimp only [dats]
theorem after14 (c : Dev nD) (t : Fin cfg0.N) : (dats m 0 c).after 14 t = poolAt m c := by dsimp only [dats]
theorem after15 (c : Dev nD) (t : Fin cfg0.N) : (dats m 0 c).after 15 t = qsAt m c t := by dsimp only [dats]
theorem Phi_end (c : Dev nD) (t : Fin (cfg0.N + 1)) (h : t.val = 0 ∨ t.val = 17) : (dats m 0 c).Φ t = Pipeline.ΦD osem0 spec0 H0 (V m) c := if_pos h
theorem Phi_mid (c : Dev nD) (t : Fin (cfg0.N + 1)) (h : ¬ (t.val = 0 ∨ t.val = 17)) : (dats m 0 c).Φ t = mid m c t.val := if_neg h

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = X0_6 m c t :=
  ((dats m 0 c).before_in_eq_fetched 6 rfl (fun _ => rfl)
      (fun t t' h => funext fun a => congrArg (fun n => Pipeline.Clip.of n ((cfg0.win 6).size a) (S128x3072.size a)) (congrFun h a))
      (fun t => by rw [after6]; unfold X0_6; rw [Pipeline.Window.cut_fill]; unfold Dat.blockOf iblk; rw [A_eq]; try rfl) t d).trans
    (by unfold Dat.fetched X0_6; rw [fill0_6 t d dflt0_6]; unfold Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)

/-! At the last point the blocks written at the others hold what the point before left. -/

theorem before10 (c : Dev nD) (t : Fin cfg0.N) (ht : t.val = 16) (d) : (dats m 0 c).before 10 t d = yAt m c (lastPrompt t) := by
  have hlt : t.val - 1 < cfg0.N := lt_of_le_of_lt (Nat.sub_le _ _) t.isLt
  have hfl : (cfg0.win 10).flush ⟨t.val - 1, hlt⟩ = false := by
    refine Bool.eq_false_iff.mpr fun h => ?_
    exact (flush10_iff ⟨t.val - 1, hlt⟩).mp h (by show t.val - 1 = 15; omega)
  have hid : idle0 10 (grid0.coords ⟨t.val - 1, hlt⟩) = false := by
    show (!(k0_cond2 (grid0.coords ⟨t.val - 1, hlt⟩) == 1#1)) = false
    rw [(prompt_iff ⟨t.val - 1, hlt⟩).mpr (by show t.val - 1 < 16; omega)]; rfl
  unfold Dat.before
  rw [if_neg (by rw [(cfg0.win 10).fetch_out rfl]; exact Bool.false_ne_true), if_neg (by omega)]
  simp only [hfl, hid]
  rw [if_neg Bool.false_ne_true]
  split
  · rename_i h; exact absurd (hid.symm.trans h) Bool.false_ne_true
  show (dats m 0 c).after 10 ⟨t.val - 1, hlt⟩ = _
  rw [after10]
  rw [show lastPrompt ⟨t.val - 1, hlt⟩ = lastPrompt t from Fin.ext (by show min (t.val - 1) 15 = min t.val 15; omega)]

theorem before11 (c : Dev nD) (t : Fin cfg0.N) (ht : t.val = 16) (d) : (dats m 0 c).before 11 t d = stAt m c (lastPrompt t) := by
  have hlt : t.val - 1 < cfg0.N := lt_of_le_of_lt (Nat.sub_le _ _) t.isLt
  have hfl : (cfg0.win 11).flush ⟨t.val - 1, hlt⟩ = false := by
    refine Bool.eq_false_iff.mpr fun h => ?_
    exact (flush11_iff ⟨t.val - 1, hlt⟩).mp h (by show t.val - 1 = 15; omega)
  have hid : idle0 11 (grid0.coords ⟨t.val - 1, hlt⟩) = false := by
    show (!(k0_cond2 (grid0.coords ⟨t.val - 1, hlt⟩) == 1#1)) = false
    rw [(prompt_iff ⟨t.val - 1, hlt⟩).mpr (by show t.val - 1 < 16; omega)]; rfl
  unfold Dat.before
  rw [if_neg (by rw [(cfg0.win 11).fetch_out rfl]; exact Bool.false_ne_true), if_neg (by omega)]
  simp only [hfl, hid]
  rw [if_neg Bool.false_ne_true]
  split
  · rename_i h; exact absurd (hid.symm.trans h) Bool.false_ne_true
  show (dats m 0 c).after 11 ⟨t.val - 1, hlt⟩ = _
  rw [after11]
  rw [show lastPrompt ⟨t.val - 1, hlt⟩ = lastPrompt t from Fin.ext (by show min (t.val - 1) 15 = min t.val 15; omega)]

theorem before12 (c : Dev nD) (t : Fin cfg0.N) (ht : t.val = 16) (d) : (dats m 0 c).before 12 t d = wAt m c (lastPrompt t) := by
  have hlt : t.val - 1 < cfg0.N := lt_of_le_of_lt (Nat.sub_le _ _) t.isLt
  have hfl : (cfg0.win 12).flush ⟨t.val - 1, hlt⟩ = false := by
    refine Bool.eq_false_iff.mpr fun h => ?_
    exact (flush12_iff ⟨t.val - 1, hlt⟩).mp h (by show t.val - 1 = 15; omega)
  have hid : idle0 12 (grid0.coords ⟨t.val - 1, hlt⟩) = false := by
    show (!(k0_cond2 (grid0.coords ⟨t.val - 1, hlt⟩) == 1#1)) = false
    rw [(prompt_iff ⟨t.val - 1, hlt⟩).mpr (by show t.val - 1 < 16; omega)]; rfl
  unfold Dat.before
  rw [if_neg (by rw [(cfg0.win 12).fetch_out rfl]; exact Bool.false_ne_true), if_neg (by omega)]
  simp only [hfl, hid]
  rw [if_neg Bool.false_ne_true]
  split
  · rename_i h; exact absurd (hid.symm.trans h) Bool.false_ne_true
  show (dats m 0 c).after 12 ⟨t.val - 1, hlt⟩ = _
  rw [after12]
  rw [show lastPrompt ⟨t.val - 1, hlt⟩ = lastPrompt t from Fin.ext (by show min (t.val - 1) 15 = min t.val 15; omega)]

end Cert.Kernel2Ideal.Hand

end
-- ==== Proof.Ideal2.RunA.lean ====
module

public import proofs.«01_k».proof.Proof.Ideal2.Setup

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

set_option maxHeartbeats 20000000 in
/-- One run of the body at the first grid point: it starts the four copies, and computes a block of prompt rows and eight tokens of the recurrence. -/
noncomputable def runA (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) :
    Σ' (LA : List (View.Piece (Elt F) S1024x1024 .bf16)), Σ' (LO : List (View.Piece (Elt F) S128x512 .f32)), Σ' (L15 : List (View.Piece (Elt F) S1x1024x1024 .f32)), Σ' (L16 : List (View.Piece (Elt F) S8x4x128x128 .f32)), { L17 : List (View.Piece (Elt F) S176x1024 .bf16) //
      ∀ (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg15 fullShare d) ∗ (∃ d, owns (c : Thread nD τ) arg16 fullShare d) ∗ (∃ d, owns (c : Thread nD τ) arg17 fullShare d) ∗ pt c scAtt fa ∗ pt c scOo fo ∗ pt c scXs gXs ∗ pt c scGa gGa ∗ pt c scPa gPa ∗ pt c scWo gWo ∗ pt c hbXs hXs ∗ pt c hbGa hGa ∗ pt c hbPa hPa ∗ pt c hbWo hWo ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ pt c scAtt (scAtt.view.writes (Elt F) fa LA) ∗ pt c scOo (scOo.view.writes (Elt F) fo LO) ∗ flight c hbXs scXs (SemLoc.dma 25) 16384 hXs hXs ∗ flight c hbGa scGa (SemLoc.dma 26) 49152 hGa hGa ∗ flight c hbPa scPa (SemLoc.dma 27) 122880 hPa hPa ∗ flight c hbWo scWo (SemLoc.dma 28) 65536 hWo hWo ∗ left_over c hbXs hXs ∗ left_over c hbGa hGa ∗ left_over c hbPa hPa ∗ left_over c hbWo hWo) -∗ K ⟨⟩))
          ⊢ wp frame (wpE (defs₀ (F := F)) Variants.none (c : Thread nD τ) none) Set.univ
            (cc0_attn_prompt_state_sample i arg1 harg1 arg2 harg2 arg3 harg3 arg4 harg4 arg5 harg5 arg6 harg6 arg7 harg7 arg8 harg8 arg9 harg9 hbXs (Memref.isWhole_whole _) hbGa (Memref.isWhole_whole _) hbPa (Memref.isWhole_whole _) arg13 harg13 hbWo (Memref.isWhole_whole _) arg15 harg15 arg16 harg16 arg17 harg17 arg18 harg18 arg19 harg19 arg20 harg20 scAtt (Memref.isWhole_whole _) scOo (Memref.isWhole_whole _) scXs (Memref.isWhole_whole _) scGa (Memref.isWhole_whole _) scPa (Memref.isWhole_whole _) scWo (Memref.isWhole_whole _) cc0_scratch6) K } := by
  refine ⟨?_, ?_, ?_, ?_, ?_, fun gXs gGa gPa gWo K => ?run⟩
  case run =>
    simp only [cc0_attn_prompt_state_sample_eq_skeleton]; unfold cc0_attn_prompt_state_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d15, %f15, -, H15⟩, ⟨%d16, %f16, -, H16⟩, ⟨%d17, %f17, -, H17⟩, Ha, Ho, HdXs, HdGa, HdPa, HdWo, HhXs, HhGa, HhPa, HhWo, HsXs, HsGa, HsPa, HsWo, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    set_option sl_exec.stopBefore "k0_part25" in sl_exec (disch := first | sl_exact hc0 | sl_exact hc1 | sl_exact hc2)
    istop
    rw [show View.write (Elt F) scXs.view gXs (runA.sl.dma0 c hXs) Finset.univ = hXs from by
      unfold runA.sl.dma0; rw [ReadAs.apply_same]; exact View.write_whole_univ cc0_scratch2 gXs hXs]
    rw [show View.write (Elt F) scGa.view gGa (runA.sl.dma0_1 c hGa) Finset.univ = hGa from by
      unfold runA.sl.dma0_1; rw [ReadAs.apply_same]; exact View.write_whole_univ cc0_scratch3 gGa hGa]
    rw [show View.write (Elt F) scPa.view gPa (runA.sl.dma0_2 c hPa) Finset.univ = hPa from by
      unfold runA.sl.dma0_2; rw [ReadAs.apply_same]; exact View.write_whole_univ cc0_scratch4 gPa hPa]
    rw [show View.write (Elt F) scWo.view gWo (runA.sl.dma0_3 c hWo) Finset.univ = hWo from by
      unfold runA.sl.dma0_3; rw [ReadAs.apply_same]; exact View.write_whole_univ cc0_scratch5 gWo hWo]
    iintro ⟨⟨⟨⟨⟨⟨⟨⟨⟨⟨⟨⟨⟨⟨⟨⟨⟨⟨H1, H2⟩, H3⟩, H4⟩, H5⟩, H6⟩, H7⟩, H8⟩, H9⟩, H15⟩, H16⟩, H17⟩, Ha⟩, Ho⟩, Hk⟩, HsXs, HhXs⟩, HsGa, HhGa⟩, HsPa, HhPa⟩, HsWo, HhWo⟩
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]; · iexists _; iexact H15
    isplitl [H16]; · iexists _; iexact H16
    isplitl [H17]; · iexists _; iexact H17
    isplitl [Ha]; · iexact Ha
    isplitl [Ho]; · iexact Ho
    isplitl [HsXs]; · iexact HsXs
    isplitl [HsGa]; · iexact HsGa
    isplitl [HsPa]; · iexact HsPa
    isplitl [HsWo]; · iexact HsWo
    isplitl [HhXs]; · iexact HhXs
    isplitl [HhGa]; · iexact HhGa
    isplitl [HhPa]; · iexact HhPa
    iexact HhWo

end Cert.Kernel2Ideal.Hand

end
-- ==== Proof.Ideal2.RunB.lean ====
module

public import proofs.«01_k».proof.Proof.Ideal2.Setup

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

set_option maxHeartbeats 20000000 in
/-- One run of the body at a point between the first and the last: a block of prompt rows and eight tokens of the recurrence, while the four copies stay in flight. -/
noncomputable def runB (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) :
    Σ' (LA : List (View.Piece (Elt F) S1024x1024 .bf16)), Σ' (LO : List (View.Piece (Elt F) S128x512 .f32)), Σ' (L15 : List (View.Piece (Elt F) S1x1024x1024 .f32)), Σ' (L16 : List (View.Piece (Elt F) S8x4x128x128 .f32)), { L17 : List (View.Piece (Elt F) S176x1024 .bf16) //
      ∀ (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg15 fullShare d) ∗ (∃ d, owns (c : Thread nD τ) arg16 fullShare d) ∗ (∃ d, owns (c : Thread nD τ) arg17 fullShare d) ∗ pt c scAtt fa ∗ pt c scOo fo
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ pt c scAtt (scAtt.view.writes (Elt F) fa LA) ∗ pt c scOo (scOo.view.writes (Elt F) fo LO)) -∗ K ⟨⟩))
          ⊢ wp frame (wpE (defs₀ (F := F)) Variants.none (c : Thread nD τ) none) Set.univ
            (cc0_attn_prompt_state_sample i arg1 harg1 arg2 harg2 arg3 harg3 arg4 harg4 arg5 harg5 arg6 harg6 arg7 harg7 arg8 harg8 arg9 harg9 hbXs (Memref.isWhole_whole _) hbGa (Memref.isWhole_whole _) hbPa (Memref.isWhole_whole _) arg13 harg13 hbWo (Memref.isWhole_whole _) arg15 harg15 arg16 harg16 arg17 harg17 arg18 harg18 arg19 harg19 arg20 harg20 scAtt (Memref.isWhole_whole _) scOo (Memref.isWhole_whole _) scXs (Memref.isWhole_whole _) scGa (Memref.isWhole_whole _) scPa (Memref.isWhole_whole _) scWo (Memref.isWhole_whole _) cc0_scratch6) K } := by
  refine ⟨?_, ?_, ?_, ?_, ?_, fun K => ?run⟩
  case run =>
    simp only [cc0_attn_prompt_state_sample_eq_skeleton]; unfold cc0_attn_prompt_state_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d15, %f15, -, H15⟩, ⟨%d16, %f16, -, H16⟩, ⟨%d17, %f17, -, H17⟩, Ha, Ho, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hc0 | sl_exact hc1 | sl_exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]; · iexists _; iexact H15
    isplitl [H16]; · iexists _; iexact H16
    isplitl [H17]; · iexists _; iexact H17
    isplitl [Ha]; · iexact Ha
    iexact Ho

end Cert.Kernel2Ideal.Hand

end
-- ==== Proof.Ideal2.OutB.lean ====
module

public import proofs.«01_k».proof.Proof.Ideal2.RunB
public import proofs.«01_k».proof.Proof.Ideal2.State
public import proofs.«01_k».proof.Proof.Ideal2.Attn

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- Loads of a whole buffer, at the shapes that are loaded whole. -/
theorem ld2 (x : Vec F S1x1024 .f32) : View.ld (Val := Elt F) (e' := .f32) x (Rect.unit (s := S1x1024) ![0, 0] ![1, 1024] inb_S1x1024_S1x1024_0_0) = x :=
  View.ld_unit_lit (S := S1x1024) (off := ![0, 0]) _ x (fun a => by fin_cases a <;> rfl)
theorem ld3 (x : Vec F S1024x1024 .bf16) : View.ld (Val := Elt F) (e' := .bf16) x (Rect.unit (s := S1024x1024) ![0, 0] ![1024, 1024] inb_S1024x1024_S1024x1024_0_0) = x :=
  View.ld_unit_lit (S := S1024x1024) (off := ![0, 0]) _ x (fun a => by fin_cases a <;> rfl)
theorem ld9 (x : Vec F S176x1024 .f32) : View.ld (Val := Elt F) (e' := .f32) x (Rect.unit (s := S176x1024) ![0, 0] ![176, 1024] inb_S176x1024_S176x1024_0_0) = x :=
  View.ld_unit_lit (S := S176x1024) (off := ![0, 0]) _ x (fun a => by fin_cases a <;> rfl)

/-- The first half's rows, as the body's run leaves them: -/
theorem runB_half0 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) : runB.sl.v162 c arg1 harg1 arg2 harg2 arg3 harg3 arg4 harg4 arg5 harg5 arg6 harg6 x1 x2 x3 x4 x5 x6 = k0_pay24 (xHalf x1 0) (attB x1 x2 x3 x4 x5 0) x6 := by
  sl_unfold_words
  simp only [View.readAt_eq_ld, Memref.IsWhole.read_unread, ld2, ld3, ld9]
  exact congrArg (fun a => k0_pay24 (xHalf x1 0) a x6) (att_read x1 x2 x3 x4 x5 0 [] (fun _ h => absurd h List.not_mem_nil) _)

/-- and the second's. -/
theorem runB_half1 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) : runB.sl.v239 c arg1 harg1 arg2 harg2 arg3 harg3 arg4 harg4 arg5 harg5 arg6 harg6 x1 x2 x3 x4 x5 x6 = k0_pay24 (xHalf x1 1) (attB x1 x2 x3 x4 x5 1) x6 := by
  sl_unfold_words
  simp only [View.readAt_eq_ld, Memref.IsWhole.read_unread, ld2, ld3, ld9]
  exact congrArg (fun a => k0_pay24 (xHalf x1 1) a x6) (att_read x1 x2 x3 x4 x5 1 (aL x1 x2 x3 x4 x5 0 []) (aL_at x1 x2 x3 x4 x5 0) _)

set_option maxHeartbeats 1000000 in
theorem runB_y (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (f : arg15.view.ty.Contents (Elt F)) :
    arg15.view.read (Elt F) (arg15.view.writes (Elt F) f (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.2.1) = yBlk x1 x2 x3 x4 x5 x6 := by
  unfold runB
  dsimp only
  rw [runB_half0, runB_half1]
  exact y_out arg15.view f x1 x2 x3 x4 x5 x6 _ _ rfl rfl

set_option maxHeartbeats 2000000 in
theorem runB_so (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (f : arg16.view.ty.Contents (Elt F)) :
    arg16.view.read (Elt F) (arg16.view.writes (Elt F) f (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.2.2.1) = stBlk x7 x8 := by
  unfold runB
  dsimp only
  sl_unfold_words
  simp only [View.readAt_eq_ld]
  rw [harg7.read_unread, harg8.read_unread]
  exact st_out arg16.view f x7 x8

set_option maxHeartbeats 1000000 in
theorem runB_w (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (f : arg17.view.ty.Contents (Elt F)) :
    arg17.view.read (Elt F) (arg17.view.writes (Elt F) f (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.2.2.2.1) = k0_pay2 x9 := by
  unfold runB
  dsimp only
  sl_unfold_words
  funext y
  refine (View.read_writes_cons_unit_of_mem arg17.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, ld2, ld3, ld9]

set_option maxHeartbeats 2000000 in
theorem runB_oo (c : Dev nD) (i : grid0.Coords) (hc0 : ¬ (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hi : (i 0).val < 16) (fs : scOo.view.ty.Contents (Elt F)) :
    scOo.view.writes (Elt F) fs (runB c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo).2.1 = ooStep i x7 x8 fs := by
  unfold runB
  dsimp only
  sl_unfold_words
  simp only [View.readAt_eq_ld]
  rw [harg7.read_unread, harg8.read_unread]
  exact oo_rows i x7 x8 fs (oH x7 x8) _ _ _ _ hi (oH_at x7 x8)

end Cert.Kernel2Ideal.Hand

end
-- ==== Proof.Ideal2.OutA.lean ====
module

public import proofs.«01_k».proof.Proof.Ideal2.RunA
public import proofs.«01_k».proof.Proof.Ideal2.OutB

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

/-- The first half's rows, as the body's run leaves them: -/
theorem runA_half0 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) : runA.sl.v162 c arg1 harg1 arg2 harg2 arg3 harg3 arg4 harg4 arg5 harg5 arg6 harg6 x1 x2 x3 x4 x5 x6 = k0_pay24 (xHalf x1 0) (attB x1 x2 x3 x4 x5 0) x6 := by
  sl_unfold_words
  simp only [View.readAt_eq_ld, Memref.IsWhole.read_unread, ld2, ld3, ld9]
  exact congrArg (fun a => k0_pay24 (xHalf x1 0) a x6) (att_read x1 x2 x3 x4 x5 0 [] (fun _ h => absurd h List.not_mem_nil) _)

/-- and the second's. -/
theorem runA_half1 (c : Dev nD) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) : runA.sl.v239 c arg1 harg1 arg2 harg2 arg3 harg3 arg4 harg4 arg5 harg5 arg6 harg6 x1 x2 x3 x4 x5 x6 = k0_pay24 (xHalf x1 1) (attB x1 x2 x3 x4 x5 1) x6 := by
  sl_unfold_words
  simp only [View.readAt_eq_ld, Memref.IsWhole.read_unread, ld2, ld3, ld9]
  exact congrArg (fun a => k0_pay24 (xHalf x1 1) a x6) (att_read x1 x2 x3 x4 x5 1 (aL x1 x2 x3 x4 x5 0 []) (aL_at x1 x2 x3 x4 x5 0) _)

set_option maxHeartbeats 1000000 in
theorem runA_y (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (f : arg15.view.ty.Contents (Elt F)) :
    arg15.view.read (Elt F) (arg15.view.writes (Elt F) f (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.2.1) = yBlk x1 x2 x3 x4 x5 x6 := by
  unfold runA
  dsimp only
  rw [runA_half0, runA_half1]
  exact y_out arg15.view f x1 x2 x3 x4 x5 x6 _ _ rfl rfl

set_option maxHeartbeats 2000000 in
theorem runA_so (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (f : arg16.view.ty.Contents (Elt F)) :
    arg16.view.read (Elt F) (arg16.view.writes (Elt F) f (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.2.2.1) = stBlk x7 x8 := by
  unfold runA
  dsimp only
  sl_unfold_words
  simp only [View.readAt_eq_ld]
  rw [harg7.read_unread, harg8.read_unread]
  exact st_out arg16.view f x7 x8

set_option maxHeartbeats 1000000 in
theorem runA_w (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (f : arg17.view.ty.Contents (Elt F)) :
    arg17.view.read (Elt F) (arg17.view.writes (Elt F) f (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.2.2.2.1) = k0_pay2 x9 := by
  unfold runA
  dsimp only
  sl_unfold_words
  funext y
  refine (View.read_writes_cons_unit_of_mem arg17.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, ld2, ld3, ld9]

set_option maxHeartbeats 2000000 in
theorem runA_oo (c : Dev nD) (i : grid0.Coords) (hc0 : (Scalar.cmpi .ne (Scalar.extui (Scalar.cmpi .eq (BitVec.ofNat 32 (i 0).val) 0#32) : BitVec 32) 0#32 = 1#1)) (hc1 : (k0_cond2 i = 1#1)) (hc2 : ¬ (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x1 : Vec F S1x1024x1024 .f32) (x2 : Vec F S1x1024 .f32) (x3 : Vec F S1024x1024 .bf16) (x4 : Vec F S1x1024x256 .bf16) (x5 : Vec F S1x256x1024 .bf16) (x6 : Vec F S1024x1024 .bf16) (x7 : Vec F S8x2048 .f32) (x8 : Vec F S8x4x128x128 .f32) (x9 : Vec F S176x1024 .f32) (fa : Buf (Elt F) (scAtt.view.loc (c : Thread nD τ))) (fo : Buf (Elt F) (scOo.view.loc (c : Thread nD τ))) (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (hi : (i 0).val < 16) (fs : scOo.view.ty.Contents (Elt F)) :
    scOo.view.writes (Elt F) fs (runA c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x1 x2 x3 x4 x5 x6 x7 x8 x9 fa fo hXs hGa hPa hWo).2.1 = ooStep i x7 x8 fs := by
  unfold runA
  dsimp only
  sl_unfold_words
  simp only [View.readAt_eq_ld]
  rw [harg7.read_unread, harg8.read_unread]
  exact oo_rows i x7 x8 fs (oH x7 x8) _ _ _ _ hi (oH_at x7 x8)

end Cert.Kernel2Ideal.Hand

end
-- ==== Proof.Ideal2.RunC.lean ====
module

public import proofs.«01_k».proof.Proof.Ideal2.Setup

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

set_option maxHeartbeats 20000000 in
/-- One run of the body at the last grid point: it waits for the four copies and computes the decode rows. -/
noncomputable def runC (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) :
    Σ' (LA : List (View.Piece (Elt F) S1024x1024 .bf16)), Σ' (L18 : List (View.Piece (Elt F) S128x1024 .f32)), Σ' (L19 : List (View.Piece (Elt F) S15x128x512 .f32)), { L20 : List (View.Piece (Elt F) S128x8x128 .f32) //
      ∀ (hXs : Buf (Elt F) (hbXs.view.loc (c : Thread nD τ))) (hGa : Buf (Elt F) (hbGa.view.loc (c : Thread nD τ))) (hPa : Buf (Elt F) (hbPa.view.loc (c : Thread nD τ))) (hWo : Buf (Elt F) (hbWo.view.loc (c : Thread nD τ))) (W : Waits sig Unit) (K : PUnit → sProp 𝕄),
        iprop(owns (c : Thread nD τ) arg2 fullShare x2 ∗ owns (c : Thread nD τ) arg3 fullShare x3 ∗ owns (c : Thread nD τ) arg13 fullShare x13 ∗ (∃ d, owns (c : Thread nD τ) arg18 fullShare d) ∗ (∃ d, owns (c : Thread nD τ) arg19 fullShare d) ∗ (∃ d, owns (c : Thread nD τ) arg20 fullShare d) ∗ pt c scAtt fa ∗ pt c scOo fo ∗ flight c hbXs scXs (SemLoc.dma 25) 16384 gXs hXs ∗ flight c hbGa scGa (SemLoc.dma 26) 49152 gGa hGa ∗ flight c hbPa scPa (SemLoc.dma 27) 122880 gPa hPa ∗ flight c hbWo scWo (SemLoc.dma 28) 65536 gWo hWo ∗ left_over c hbXs hXs ∗ left_over c hbGa hGa ∗ left_over c hbPa hPa ∗ left_over c hbWo hWo ∗ owes (c : Thread nD τ) 0 W
            ∗ (iprop(owns (c : Thread nD τ) arg2 fullShare x2 ∗ owns (c : Thread nD τ) arg3 fullShare x3 ∗ owns (c : Thread nD τ) arg13 fullShare x13 ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ pt c scAtt (scAtt.view.writes (Elt F) fa LA) ∗ pt c scOo fo ∗ pt c scXs gXs ∗ pt c scGa gGa ∗ pt c scPa gPa ∗ pt c scWo gWo ∗ pt c hbXs hXs ∗ pt c hbGa hGa ∗ pt c hbPa hPa ∗ pt c hbWo hWo ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ (∃ W', owes (c : Thread nD τ) 0 W')) -∗ K ⟨⟩))
          ⊢ wp frame (wpE (defs₀ (F := F)) Variants.none (c : Thread nD τ) none) Set.univ
            (cc0_attn_prompt_state_sample i arg1 harg1 arg2 harg2 arg3 harg3 arg4 harg4 arg5 harg5 arg6 harg6 arg7 harg7 arg8 harg8 arg9 harg9 hbXs (Memref.isWhole_whole _) hbGa (Memref.isWhole_whole _) hbPa (Memref.isWhole_whole _) arg13 harg13 hbWo (Memref.isWhole_whole _) arg15 harg15 arg16 harg16 arg17 harg17 arg18 harg18 arg19 harg19 arg20 harg20 scAtt (Memref.isWhole_whole _) scOo (Memref.isWhole_whole _) scXs (Memref.isWhole_whole _) scGa (Memref.isWhole_whole _) scPa (Memref.isWhole_whole _) scWo (Memref.isWhole_whole _) cc0_scratch6) K } := by
  refine ⟨?_, ?_, ?_, ?_, fun hXs hGa hPa hWo W K => ?run⟩
  case run =>
    simp only [cc0_attn_prompt_state_sample_eq_skeleton]; unfold cc0_attn_prompt_state_sample_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f2, %hf2, H2⟩, ⟨%f3, %hf3, H3⟩, ⟨%f13, %hf13, H13⟩, ⟨%d18, %f18, -, H18⟩, ⟨%d19, %f19, -, H19⟩, ⟨%d20, %f20, -, H20⟩, Ha, Ho, HsXs, HsGa, HsPa, HsWo, HhXs, HhGa, HhPa, HhWo, HW, Hk⟩
    obtain rfl := harg2.eq_unread hf2; obtain rfl := harg3.eq_unread hf3; obtain rfl := harg13.eq_unread hf13
    sl_exec (disch := first | sl_exact hc0 | sl_exact hc1 | sl_exact hc2)
    istop
    rw [show ((View.whole cc0_scratch2).loc (c : Thread nD τ) ↦{fullShare} gXs : sProp 𝕄) = pt c scXs gXs from rfl, show ((View.whole cc0_scratch3).loc (c : Thread nD τ) ↦{fullShare} gGa : sProp 𝕄) = pt c scGa gGa from rfl, show ((View.whole cc0_scratch4).loc (c : Thread nD τ) ↦{fullShare} gPa : sProp 𝕄) = pt c scPa gPa from rfl, show ((View.whole cc0_scratch5).loc (c : Thread nD τ) ↦{fullShare} gWo : sProp 𝕄) = pt c scWo gWo from rfl]
    iintro ⟨⟨⟨⟨⟨⟨⟨⟨⟨⟨⟨⟨H2, H3⟩, H13⟩, H18⟩, H19⟩, H20⟩, Ha⟩, Ho⟩, Hk⟩, HdXs, HhXs, HsXs⟩, HdGa, HhGa, HsGa⟩, HdPa, HhPa, HsPa⟩, HdWo, HhWo, HsWo, HW⟩
    sl_step
    iapply Hk
    isplitl [H2]
    · iexists _; isplitr; · ipureintro; exact harg2.read_unread _
      iexact H2
    isplitl [H3]
    · iexists _; isplitr; · ipureintro; exact harg3.read_unread _
      iexact H3
    isplitl [H13]
    · iexists _; isplitr; · ipureintro; exact harg13.read_unread _
      iexact H13
    isplitl [H18]; · iexists _; iexact H18
    isplitl [H19]; · iexists _; iexact H19
    isplitl [H20]; · iexists _; iexact H20
    isplitl [Ha]; · iexact Ha
    isplitl [Ho]; · iexact Ho
    isplitl [HdXs]; · iexact HdXs
    isplitl [HdGa]; · iexact HdGa
    isplitl [HdPa]; · iexact HdPa
    isplitl [HdWo]; · iexact HdWo
    isplitl [HhXs]; · iexact HhXs
    isplitl [HhGa]; · iexact HhGa
    isplitl [HhPa]; · iexact HhPa
    isplitl [HhWo]; · iexact HhWo
    isplitl [HsXs]; · iexact HsXs
    isplitl [HsGa]; · iexact HsGa
    isplitl [HsPa]; · iexact HsPa
    isplitl [HsWo]; · iexact HsWo
    iexists _; iexact HW

end Cert.Kernel2Ideal.Hand

end
-- ==== Proof.Ideal2.OutC.lean ====
module

public import proofs.«01_k».proof.Proof.Ideal2.RunC
public import proofs.«01_k».proof.Proof.Ideal2.OutB
public import proofs.«01_k».proof.Proof.Ideal2.Last

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

theorem ldXs (x : Vec F S128x1024 .f32) : View.ld (Val := Elt F) (e' := .f32) x (Rect.unit (s := S128x1024) ![0, 0] ![128, 1024] inb_S128x1024_S128x1024_0_0) = x :=
  View.ld_unit_lit (S := S128x1024) (off := ![0, 0]) _ x (fun a => by fin_cases a <;> rfl)

/-- The decode rows' column groups, as the body's run reads them back. -/
theorem runC_mrg (c : Dev nD) (arg13 : Memref sig .tc .vmem S1x512 .f32) (harg13 : arg13.IsWhole) (x13 : Vec F S1x512 .f32) (fo : Buf (Elt F) (scOo.view.loc (c : Thread nD τ))) (gGa : Buf (Elt F) (scGa.view.loc (c : Thread nD τ))) (gPa : Buf (Elt F) (scPa.view.loc (c : Thread nD τ))) : runC.sl.v214 c arg13 harg13 x13 fo gGa gPa = mrg x13 fo gGa gPa := by
  sl_unfold_words
  simp only [View.readAt_eq_ld]
  rw [harg13.read_unread]
  exact mrg_read x13 fo gGa gPa _

/-- Their queries. -/
theorem runC_q (c : Dev nD) (arg2 : Memref sig .tc .vmem S1x1024 .f32) (harg2 : arg2.IsWhole) (arg3 : Memref sig .tc .vmem S1024x1024 .bf16) (harg3 : arg3.IsWhole) (arg13 : Memref sig .tc .vmem S1x512 .f32) (harg13 : arg13.IsWhole) (x2 : Vec F S1x1024 .f32) (x3 : Vec F S1024x1024 .bf16) (x13 : Vec F S1x512 .f32) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) : runC.sl.r_5 c arg2 harg2 arg3 harg3 arg13 harg13 x2 x3 x13 fo gXs gGa gPa gWo = qRows x2 x3 x13 fo gXs gGa gPa gWo := by
  unfold runC.sl.r_5
  rw [runC_mrg]
  simp only [View.readAt_eq_ld, Memref.IsWhole.read_unread, ld2, ld3, ldXs]
  rfl
theorem runC_q6 (c : Dev nD) (arg2 : Memref sig .tc .vmem S1x1024 .f32) (harg2 : arg2.IsWhole) (arg3 : Memref sig .tc .vmem S1024x1024 .bf16) (harg3 : arg3.IsWhole) (arg13 : Memref sig .tc .vmem S1x512 .f32) (harg13 : arg13.IsWhole) (x2 : Vec F S1x1024 .f32) (x3 : Vec F S1024x1024 .bf16) (x13 : Vec F S1x512 .f32) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) : runC.sl.r_6 c arg2 harg2 arg3 harg3 arg13 harg13 x2 x3 x13 fo gXs gGa gPa gWo = extractStridedSlice S128x128 ![0, 0] (qRows x2 x3 x13 fo gXs gGa gPa gWo) slices_S128x1024_o0_0_S128x128 := by
  unfold runC.sl.r_6
  rw [runC_mrg]
  simp only [View.readAt_eq_ld, Memref.IsWhole.read_unread, ld2, ld3, ldXs]
  rfl
theorem runC_q7 (c : Dev nD) (arg2 : Memref sig .tc .vmem S1x1024 .f32) (harg2 : arg2.IsWhole) (arg3 : Memref sig .tc .vmem S1024x1024 .bf16) (harg3 : arg3.IsWhole) (arg13 : Memref sig .tc .vmem S1x512 .f32) (harg13 : arg13.IsWhole) (x2 : Vec F S1x1024 .f32) (x3 : Vec F S1024x1024 .bf16) (x13 : Vec F S1x512 .f32) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) : runC.sl.r_7 c arg2 harg2 arg3 harg3 arg13 harg13 x2 x3 x13 fo gXs gGa gPa gWo = k0_pay188 (qRows x2 x3 x13 fo gXs gGa gPa gWo) := by
  unfold runC.sl.r_7
  rw [runC_q]

set_option maxHeartbeats 1000000 in
theorem runC_x1s (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (f : arg18.view.ty.Contents (Elt F)) :
    arg18.view.read (Elt F) (arg18.view.writes (Elt F) f (runC c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x2 x3 x13 fa fo gXs gGa gPa gWo).2.1) = x1sBlk x13 fo gXs gGa gPa gWo := by
  unfold runC
  dsimp only
  rw [runC_mrg]
  funext y
  refine (View.read_writes_cons_unit_of_mem arg18.view f _ _ [] y y (off' := ![0, 0]) rfl ?_).trans ?_
  · intro a
    fin_cases a
    · show (y 0).val = 0 + (y 0).val; omega
    · show (y 1).val = 0 + (y 1).val; omega
  · refine congrFun ?_ y
    simp only [View.readAt_eq_ld, Memref.IsWhole.read_unread, ld2, ld3, ldXs]
    rfl
set_option maxHeartbeats 1000000 in
theorem runC_pool (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (f : arg19.view.ty.Contents (Elt F)) :
    arg19.view.read (Elt F) (arg19.view.writes (Elt F) f (runC c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x2 x3 x13 fa fo gXs gGa gPa gWo).2.2.1) = poolBlk gGa gPa := by
  unfold runC
  dsimp only
  sl_unfold_words
  simp only [View.readAt_eq_ld]
  exact pool_out arg19.view f gGa gPa _ _ _ _
set_option maxHeartbeats 1000000 in
theorem runC_qs (c : Dev nD) (i : grid0.Coords) (hc0 : ¬ (Scalar.cmpi .ne (Scalar.extui (Scalar.cmpi .eq (BitVec.ofNat 32 (i 0).val) 0#32) : BitVec 32) 0#32 = 1#1)) (hc1 : ¬ (k0_cond2 i = 1#1)) (hc2 : (k0_cond3 i = 1#1)) (arg1 : Memref sig .tc .vmem S1x1024x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1x1024x256 .bf16) (harg4 : arg4.IsWhole) (arg5 : Memref sig .tc .vmem S1x256x1024 .bf16) (harg5 : arg5.IsWhole) (arg6 : Memref sig .tc .vmem S1024x1024 .bf16) (harg6 : arg6.IsWhole) (arg7 : Memref sig .tc .vmem S8x2048 .f32) (harg7 : arg7.IsWhole) (arg8 : Memref sig .tc .vmem S8x4x128x128 .f32) (harg8 : arg8.IsWhole) (arg9 : Memref sig .tc .vmem S176x1024 .f32) (harg9 : arg9.IsWhole) (arg13 : Memref sig .tc .vmem S1x512 .f32) (harg13 : arg13.IsWhole) (arg15 : Memref sig .tc .vmem S1x1024x1024 .f32) (harg15 : arg15.IsWhole) (arg16 : Memref sig .tc .vmem S8x4x128x128 .f32) (harg16 : arg16.IsWhole) (arg17 : Memref sig .tc .vmem S176x1024 .bf16) (harg17 : arg17.IsWhole) (arg18 : Memref sig .tc .vmem S128x1024 .f32) (harg18 : arg18.IsWhole) (arg19 : Memref sig .tc .vmem S15x128x512 .f32) (harg19 : arg19.IsWhole) (arg20 : Memref sig .tc .vmem S128x8x128 .f32) (harg20 : arg20.IsWhole)
    (x2 : Vec F S1x1024 .f32) (x3 : Vec F S1024x1024 .bf16) (x13 : Vec F S1x512 .f32) (fa : Buf (Elt F) (scAtt.view.loc (c : Thread nD τ))) (fo : Buf (Elt F) (scOo.view.loc (c : Thread nD τ))) (gXs : Buf (Elt F) (scXs.view.loc (c : Thread nD τ))) (gGa : Buf (Elt F) (scGa.view.loc (c : Thread nD τ))) (gPa : Buf (Elt F) (scPa.view.loc (c : Thread nD τ))) (gWo : Buf (Elt F) (scWo.view.loc (c : Thread nD τ))) (f : arg20.view.ty.Contents (Elt F)) :
    arg20.view.read (Elt F) (arg20.view.writes (Elt F) f (runC c i hc0 hc1 hc2 arg1 harg1 arg2 harg2 arg3 harg3 arg4 harg4 arg5 harg5 arg6 harg6 arg7 harg7 arg8 harg8 arg9 harg9 arg13 harg13 arg15 harg15 arg16 harg16 arg17 harg17 arg18 harg18 arg19 harg19 arg20 harg20 x2 x3 x13 fa fo gXs gGa gPa gWo).2.2.2.1) = qsBlk (qRows x2 x3 x13 fo gXs gGa gPa gWo) := by
  unfold runC
  dsimp only
  rw [runC_q, runC_q6, runC_q7]
  exact qs_out arg20.view f (qRows x2 x3 x13 fo gXs gGa gPa gWo)

end Cert.Kernel2Ideal.Hand

end
-- ==== Proof.Ideal2.Body.lean ====
module

public import proofs.«01_k».proof.Proof.Ideal2.Dats
public import proofs.«01_k».proof.Proof.Ideal2.OutA
public import proofs.«01_k».proof.Proof.Ideal2.OutB
public import proofs.«01_k».proof.Proof.Ideal2.OutC

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-- What window `w`'s buffer is handed back as. -/
abbrev left (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem left10 (c : Dev nD) (t : Fin cfg0.N) : owns (c : Thread nD τ) (st0_10 t) fullShare ((dats m 0 c).after 10 t) ⊢ left m c 10 t := by
  unfold left
  split
  · rename_i h
    have h' : (!(k0_cond2 (grid0.coords t) == 1#1)) = true := h
    split
    · rename_i hf
      exfalso
      have h1 : ¬ win0_10.flush t = true := by rw [show win0_10.flush t = false from hf]; exact Bool.false_ne_true
      have h2 : t.val = 15 := by by_contra h3; exact h1 ((flush10_iff t).mpr h3)
      rw [(prompt_iff t).mpr (by omega)] at h'
      exact absurd h' (by decide)
    · exact .rfl
  · exact .rfl

theorem left11 (c : Dev nD) (t : Fin cfg0.N) : owns (c : Thread nD τ) (st0_11 t) fullShare ((dats m 0 c).after 11 t) ⊢ left m c 11 t := by
  unfold left
  split
  · rename_i h
    have h' : (!(k0_cond2 (grid0.coords t) == 1#1)) = true := h
    split
    · rename_i hf
      exfalso
      have h1 : ¬ win0_11.flush t = true := by rw [show win0_11.flush t = false from hf]; exact Bool.false_ne_true
      have h2 : t.val = 15 := by by_contra h3; exact h1 ((flush11_iff t).mpr h3)
      rw [(prompt_iff t).mpr (by omega)] at h'
      exact absurd h' (by decide)
    · exact .rfl
  · exact .rfl

theorem left12 (c : Dev nD) (t : Fin cfg0.N) : owns (c : Thread nD τ) (st0_12 t) fullShare ((dats m 0 c).after 12 t) ⊢ left m c 12 t := by
  unfold left
  split
  · rename_i h
    have h' : (!(k0_cond2 (grid0.coords t) == 1#1)) = true := h
    split
    · rename_i hf
      exfalso
      have h1 : ¬ win0_12.flush t = true := by rw [show win0_12.flush t = false from hf]; exact Bool.false_ne_true
      have h2 : t.val = 15 := by by_contra h3; exact h1 ((flush12_iff t).mpr h3)
      rw [(prompt_iff t).mpr (by omega)] at h'
      exact absurd h' (by decide)
    · exact .rfl
  · exact .rfl

theorem left13_last (c : Dev nD) (t : Fin cfg0.N) (ht : t.val = 16) : owns (c : Thread nD τ) (st0_13 t) fullShare ((dats m 0 c).after 13 t) ⊢ left m c 13 t := by
  unfold left
  split
  · rename_i h
    have h' : (!(k0_cond3 (grid0.coords t) == 1#1)) = true := h
    rw [(sample_iff t).mpr ht] at h'
    exact absurd h' (by decide)
  · exact .rfl

theorem left13 (c : Dev nD) (t : Fin cfg0.N) (ht : t.val ≠ 16) : iprop(∃ d, owns (c : Thread nD τ) (st0_13 t) fullShare ((dats m 0 c).before 13 t d)) ⊢ left m c 13 t := by
  unfold left
  split
  · split
    · exact .rfl
    · rename_i hf; exact absurd ((flush13_iff t).mp hf) ht
  · rename_i h
    have h' : (!(k0_cond3 (grid0.coords t) == 1#1)) = false := h
    refine absurd ((sample_iff t).mp ?_) ht
    simpa using h'

theorem left14_last (c : Dev nD) (t : Fin cfg0.N) (ht : t.val = 16) : owns (c : Thread nD τ) (st0_14 t) fullShare ((dats m 0 c).after 14 t) ⊢ left m c 14 t := by
  unfold left
  split
  · rename_i h
    have h' : (!(k0_cond3 (grid0.coords t) == 1#1)) = true := h
    rw [(sample_iff t).mpr ht] at h'
    exact absurd h' (by decide)
  · exact .rfl

theorem left14 (c : Dev nD) (t : Fin cfg0.N) (ht : t.val ≠ 16) : iprop(∃ d, owns (c : Thread nD τ) (st0_14 t) fullShare ((dats m 0 c).before 14 t d)) ⊢ left m c 14 t := by
  unfold left
  split
  · split
    · exact .rfl
    · rename_i hf; exact absurd ((flush14_iff t).mp hf) ht
  · rename_i h
    have h' : (!(k0_cond3 (grid0.coords t) == 1#1)) = false := h
    refine absurd ((sample_iff t).mp ?_) ht
    simpa using h'

theorem left15_last (c : Dev nD) (t : Fin cfg0.N) (ht : t.val = 16) : owns (c : Thread nD τ) (st0_15 t) fullShare ((dats m 0 c).after 15 t) ⊢ left m c 15 t := by
  unfold left
  split
  · rename_i h
    have h' : (!(k0_cond3 (grid0.coords t) == 1#1)) = true := h
    rw [(sample_iff t).mpr ht] at h'
    exact absurd h' (by decide)
  · exact .rfl

theorem left15 (c : Dev nD) (t : Fin cfg0.N) (ht : t.val ≠ 16) : iprop(∃ d, owns (c : Thread nD τ) (st0_15 t) fullShare ((dats m 0 c).before 15 t d)) ⊢ left m c 15 t := by
  unfold left
  split
  · split
    · exact .rfl
    · rename_i hf; exact absurd ((flush15_iff t).mp hf) ht
  · rename_i h
    have h' : (!(k0_cond3 (grid0.coords t) == 1#1)) = false := h
    refine absurd ((sample_iff t).mp ?_) ht
    simpa using h'

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ left m c 10 t ∗ left m c 11 t ∗ left m c 12 t ∗ left m c 13 t ∗ left m c 14 t ∗ left m c 15 t)

set_option maxHeartbeats 4000000 in
theorem body_first (c : Dev nD) (t : Fin cfg0.N) (ht : t.val = 0) :
    bodyPre m c t ⊢ wp frame (wpE (defs₀ (F := F)) Variants.none (c : Thread nD τ) none) Set.univ (bodyAt0 t) (fun _ => bodyPost m c t) := by
  unfold bodyPre bodyPost bodyAt0
  simp only [before0 m c t, before1 m c t, before2 m c t, before3 m c t, before4 m c t, before5 m c t, before6 m c t, before7 m c t, before8 m c t, before9 m c t,
    after0, after1, after2, after3, after4, after5, after6, after7, after8, after9]
  unfold Dat.owesAt Pipeline.owesWithin
  rw [show (dats m 0 c).owed t.castSucc = 0 from rfl, show (dats m 0 c).owed t.succ = 0 from rfl]
  rw [Phi_end m c t.castSucc (Or.inl ht), Phi_mid m c t.succ (by rw [Fin.val_succ]; omega), PhiD_eq]
  unfold mid
  iintro ⟨⟨⟨⟨%fa, Ha⟩, ⟨%fo, Ho⟩, ⟨%gXs, HsXs⟩, ⟨%gGa, HsGa⟩, ⟨%gPa, HsPa⟩, ⟨%gWo, HsWo⟩⟩, Hg, ⟨HqXs, HqGa, HqPa, HqWo⟩, ⟨HbXs, HbGa, HbPa, HbWo⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA c (grid0.coords t) ((first_iff t).mpr ht) ((prompt_iff t).mpr (by omega)) (fun h => absurd ((sample_iff t).mp h) (by omega)) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (X0_6 m c t) (iblk m c 7 t) (iblk m c 8 t) fa fo (V m c main_arg9) (V m c main_arg10) (V m c main_arg11) (V m c main_arg13)).2.2.2.2.2 gXs gGa gPa gWo _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexists _; iexact H10
  isplitl [H11]; · iexists _; iexact H11
  isplitl [H12]; · iexists _; iexact H12
  isplitl [Ha]; · iexact Ha
  isplitl [Ho]; · iexact Ho
  isplitl [HsXs]; · iexact HsXs
  isplitl [HsGa]; · iexact HsGa
  isplitl [HsPa]; · iexact HsPa
  isplitl [HsWo]; · iexact HsWo
  isplitl [HbXs]; · iexact HbXs
  isplitl [HbGa]; · iexact HbGa
  isplitl [HbPa]; · iexact HbPa
  isplitl [HbWo]; · iexact HbWo
  isplitl [HqXs]; · iexact HqXs
  isplitl [HqGa]; · iexact HqGa
  isplitl [HqPa]; · iexact HqPa
  isplitl [HqWo]; · iexact HqWo
  iintro ⟨H0, H1, H2, H3, H4, H5, H6, H7, H8, ⟨%e10, H10⟩, ⟨%e11, H11⟩, ⟨%e12, H12⟩, Ha, Ho, HFXs, HFGa, HFPa, HFWo, HLXs, HLGa, HLPa, HLWo⟩
  isplitl [Ha Ho HFXs HFGa HFPa HFWo HLXs HLGa HLPa HLWo Hg]
  · isplitl [Ha]; · iexists _; iexact Ha
    isplitl [Ho]
    · iexists _; isplitr
      swap; · iexact Ho
      ipureintro
      rw [runA_oo _ _ _ _ _ _ _ _ _ _ _ _ _ _ _ _ _ _ _ _ _ _ _ _ _ _ _ _ _ _ _ _ _ _ _ _ _ _ _ _ _ _ _ _ _ _ _ _ _ _ _ _ (by rw [co_val t]; omega)]
      exact rows_step m c t (by omega) fo (by rw [ht]; exact rows_none m c fo)
    isplitl [HFXs]; · iexact HFXs
    isplitl [HFGa]; · iexact HFGa
    isplitl [HFPa]; · iexact HFPa
    isplitl [HFWo]; · iexact HFWo
    isplitl [HLXs]; · iexact HLXs
    isplitl [HLGa]; · iexact HLGa
    isplitl [HLPa]; · iexact HLPa
    isplitl [HLWo]; · iexact HLWo
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (left10 m c t)
    unfold owns; iexists _; isplitr
    swap; · iexact H10
    ipureintro
    rw [after10, lastPrompt_of_lt t (by omega)]
    exact runA_y _ _ _ _ _ _ _ _ _ _ _ _ _ _ _ _ _ _ _ _ _ _ _ _ _ _ _ _ _ _ _ _ _ _ _ _ _ _ _ _ _ _ _ _ _ _ _ _ _ _ _ _ e10
  isplitl [H11]
  · iapply (left11 m c t)
    unfold owns; iexists _; isplitr
    swap; · iexact H11
    ipureintro
    rw [after11, lastPrompt_of_lt t (by omega)]
    exact runA_so _ _ _ _ _ _ _ _ _ _ _ _ _ _ _ _ _ _ _ _ _ _ _ _ _ _ _ _ _ _ _ _ _ _ _ _ _ _ _ _ _ _ _ _ _ _ _ _ _ _ _ _ e11
  isplitl [H12]
  · iapply (left12 m c t)
    unfold owns; iexists _; isplitr
    swap; · iexact H12
    ipureintro
    rw [after12, lastPrompt_of_lt t (by omega)]
    exact runA_w _ _ _ _ _ _ _ _ _ _ _ _ _ _ _ _ _ _ _ _ _ _ _ _ _ _ _ _ _ _ _ _ _ _ _ _ _ _ _ _ _ _ _ _ _ _ _ _ _ _ _ _ e12
  isplitl [H13]
  · iapply (left13 m c t (by omega))
    iexists _; iexact H13
  isplitl [H14]
  · iapply (left14 m c t (by omega))
    iexists _; iexact H14
  iapply (left15 m c t (by omega))
  iexists _; iexact H15

set_option maxHeartbeats 4000000 in
theorem body_mid (c : Dev nD) (t : Fin cfg0.N) (ht0 : t.val ≠ 0) (ht : t.val < 16) :
    bodyPre m c t ⊢ wp frame (wpE (defs₀ (F := F)) Variants.none (c : Thread nD τ) none) Set.univ (bodyAt0 t) (fun _ => bodyPost m c t) := by
  unfold bodyPre bodyPost bodyAt0
  simp only [before0 m c t, before1 m c t, before2 m c t, before3 m c t, before4 m c t, before5 m c t, before6 m c t, before7 m c t, before8 m c t, before9 m c t,
    after0, after1, after2, after3, after4, after5, after6, after7, after8, after9]
  unfold Dat.owesAt Pipeline.owesWithin
  rw [show (dats m 0 c).owed t.castSucc = 0 from rfl, show (dats m 0 c).owed t.succ = 0 from rfl]
  rw [Phi_mid m c t.castSucc (by show ¬ (t.val = 0 ∨ t.val = 17); omega), Phi_mid m c t.succ (by rw [Fin.val_succ]; omega)]
  unfold mid
  iintro ⟨⟨⟨%fa, Ha⟩, ⟨%fo, %hfo, Ho⟩, HFXs, HFGa, HFPa, HFWo, HLXs, HLGa, HLPa, HLWo, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB c (grid0.coords t) (fun h => ht0 ((first_iff t).mp h)) ((prompt_iff t).mpr (by omega)) (fun h => absurd ((sample_iff t).mp h) (by omega)) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (X0_6 m c t) (iblk m c 7 t) (iblk m c 8 t) fa fo).2.2.2.2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexists _; iexact H10
  isplitl [H11]; · iexists _; iexact H11
  isplitl [H12]; · iexists _; iexact H12
  isplitl [Ha]; · iexact Ha
  isplitl [Ho]; · iexact Ho
  iintro ⟨H0, H1, H2, H3, H4, H5, H6, H7, H8, ⟨%e10, H10⟩, ⟨%e11, H11⟩, ⟨%e12, H12⟩, Ha, Ho⟩
  isplitl [Ha Ho HFXs HFGa HFPa HFWo HLXs HLGa HLPa HLWo Hg]
  · isplitl [Ha]; · iexists _; iexact Ha
    isplitl [Ho]
    · iexists _; isplitr
      swap; · iexact Ho
      ipureintro
      rw [runB_oo _ _ _ _ _ _ _ _ _ _ _ _ _ _ _ _ _ _ _ _ _ _ _ _ _ _ _ _ _ _ _ _ _ _ _ _ _ _ _ _ _ _ _ _ _ _ _ _ (by rw [co_val t]; omega)]
      exact rows_step m c t (by omega) fo (hfo)
    isplitl [HFXs]; · iexact HFXs
    isplitl [HFGa]; · iexact HFGa
    isplitl [HFPa]; · iexact HFPa
    isplitl [HFWo]; · iexact HFWo
    isplitl [HLXs]; · iexact HLXs
    isplitl [HLGa]; · iexact HLGa
    isplitl [HLPa]; · iexact HLPa
    isplitl [HLWo]; · iexact HLWo
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (left10 m c t)
    unfold owns; iexists _; isplitr
    swap; · iexact H10
    ipureintro
    rw [after10, lastPrompt_of_lt t (by omega)]
    exact runB_y _ _ _ _ _ _ _ _ _ _ _ _ _ _ _ _ _ _ _ _ _ _ _ _ _ _ _ _ _ _ _ _ _ _ _ _ _ _ _ _ _ _ _ _ _ _ _ _ e10
  isplitl [H11]
  · iapply (left11 m c t)
    unfold owns; iexists _; isplitr
    swap; · iexact H11
    ipureintro
    rw [after11, lastPrompt_of_lt t (by omega)]
    exact runB_so _ _ _ _ _ _ _ _ _ _ _ _ _ _ _ _ _ _ _ _ _ _ _ _ _ _ _ _ _ _ _ _ _ _ _ _ _ _ _ _ _ _ _ _ _ _ _ _ e11
  isplitl [H12]
  · iapply (left12 m c t)
    unfold owns; iexists _; isplitr
    swap; · iexact H12
    ipureintro
    rw [after12, lastPrompt_of_lt t (by omega)]
    exact runB_w _ _ _ _ _ _ _ _ _ _ _ _ _ _ _ _ _ _ _ _ _ _ _ _ _ _ _ _ _ _ _ _ _ _ _ _ _ _ _ _ _ _ _ _ _ _ _ _ e12
  isplitl [H13]
  · iapply (left13 m c t (by omega))
    iexists _; iexact H13
  isplitl [H14]
  · iapply (left14 m c t (by omega))
    iexists _; iexact H14
  iapply (left15 m c t (by omega))
  iexists _; iexact H15

set_option maxHeartbeats 4000000 in
theorem body_last (c : Dev nD) (t : Fin cfg0.N) (ht : t.val = 16) :
    bodyPre m c t ⊢ wp frame (wpE (defs₀ (F := F)) Variants.none (c : Thread nD τ) none) Set.univ (bodyAt0 t) (fun _ => bodyPost m c t) := by
  unfold bodyPre bodyPost bodyAt0
  simp only [before0 m c t, before1 m c t, before2 m c t, before3 m c t, before4 m c t, before5 m c t, before6 m c t, before7 m c t, before8 m c t, before9 m c t,
    after0, after1, after2, after3, after4, after5, after6, after7, after8, after9]
  unfold Dat.owesAt Pipeline.owesWithin
  rw [show (dats m 0 c).owed t.castSucc = 0 from rfl, show (dats m 0 c).owed t.succ = 0 from rfl]
  simp only [before10 m c t ht, before11 m c t ht, before12 m c t ht]
  rw [Phi_mid m c t.castSucc (by show ¬ (t.val = 0 ∨ t.val = 17); omega), Phi_end m c t.succ (by rw [Fin.val_succ]; omega), PhiD_eq]
  unfold mid
  iintro ⟨⟨⟨%fa, Ha⟩, ⟨%fo, %hfo, Ho⟩, HFXs, HFGa, HFPa, HFWo, HLXs, HLGa, HLPa, HLWo, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hfo' : fo = ooAll m c := rows_all m c fo (by rw [← ht]; exact hfo)
  subst hfo'
  iapply ((runC c (grid0.coords t) (fun h => absurd ((first_iff t).mp h) (by omega)) (fun h => absurd ((prompt_iff t).mp h) (by omega)) ((sample_iff t).mpr ht) _ (hstage0_0 _) _ _ _ _ _ (hstage0_3 _) _ (hstage0_4 _) _ (hstage0_5 _) _ (hstage0_6 _) _ (hstage0_7 _) _ (hstage0_8 _) _ _ _ (hstage0_10 _) _ (hstage0_11 _) _ (hstage0_12 _) _ _ _ _ _ _ (iblk m c 1 t) (iblk m c 2 t) (iblk m c 9 t) fa (ooAll m c) (V m c main_arg9) (V m c main_arg10) (V m c main_arg11) (V m c main_arg13)).2.2.2.2 (V m c main_arg9) (V m c main_arg10) (V m c main_arg11) (V m c main_arg13) W _)
  isplitl [H1]; · iexact H1
  isplitl [H2]; · iexact H2
  isplitl [H9]; · iexact H9
  isplitl [H13]; · iexists _; iexact H13
  isplitl [H14]; · iexists _; iexact H14
  isplitl [H15]; · iexists _; iexact H15
  isplitl [Ha]; · iexact Ha
  isplitl [Ho]; · iexact Ho
  isplitl [HFXs]; · iexact HFXs
  isplitl [HFGa]; · iexact HFGa
  isplitl [HFPa]; · iexact HFPa
  isplitl [HFWo]; · iexact HFWo
  isplitl [HLXs]; · iexact HLXs
  isplitl [HLGa]; · iexact HLGa
  isplitl [HLPa]; · iexact HLPa
  isplitl [HLWo]; · iexact HLWo
  isplitl [HW]; · iexact HW
  iintro ⟨H1, H2, H9, ⟨%e13, H13⟩, ⟨%e14, H14⟩, ⟨%e15, H15⟩, Ha, Ho, HsXs, HsGa, HsPa, HsWo, HbXs, HbGa, HbPa, HbWo, HqXs, HqGa, HqPa, HqWo, ⟨%W', HW'⟩⟩
  isplitl [Ha Ho HsXs HsGa HsPa HsWo HbXs HbGa HbPa HbWo HqXs HqGa HqPa HqWo Hg]
  · isplitl [Ha Ho HsXs HsGa HsPa HsWo]
    · isplitl [Ha]; · iexists _; iexact Ha
      isplitl [Ho]; · iexists _; iexact Ho
      isplitl [HsXs]; · iexists _; iexact HsXs
      isplitl [HsGa]; · iexists _; iexact HsGa
      isplitl [HsPa]; · iexists _; iexact HsPa
      iexists _; iexact HsWo
    isplitl [Hg]; · iexact Hg
    isplitl [HqXs HqGa HqPa HqWo]
    · isplitl [HqXs]; · iexact HqXs
      isplitl [HqGa]; · iexact HqGa
      isplitl [HqPa]; · iexact HqPa
      iexact HqWo
    isplitl [HbXs]; · iexact HbXs
    isplitl [HbGa]; · iexact HbGa
    isplitl [HbPa]; · iexact HbPa
    iexact HbWo
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (left10 m c t)
    rw [after10]
    iexact H10
  isplitl [H11]
  · iapply (left11 m c t)
    rw [after11]
    iexact H11
  isplitl [H12]
  · iapply (left12 m c t)
    rw [after12]
    iexact H12
  isplitl [H13]
  · iapply (left13_last m c t ht)
    unfold owns; iexists _; isplitr
    swap; · iexact H13
    ipureintro
    rw [after13]
    exact runC_x1s _ _ _ _ _ _ _ _ _ _ _ _ _ _ _ _ _ _ _ _ _ _ _ _ _ _ _ _ _ _ _ _ _ _ _ _ _ _ _ _ _ _ _ _ _ _ e13
  isplitl [H14]
  · iapply (left14_last m c t ht)
    unfold owns; iexists _; isplitr
    swap; · iexact H14
    ipureintro
    rw [after14]
    exact runC_pool _ _ _ _ _ _ _ _ _ _ _ _ _ _ _ _ _ _ _ _ _ _ _ _ _ _ _ _ _ _ _ _ _ _ _ _ _ _ _ _ _ _ _ _ _ _ e14
  iapply (left15_last m c t ht)
  unfold owns; iexists _; isplitr
  swap; · iexact H15
  ipureintro
  rw [after15]
  exact runC_qs _ _ _ _ _ _ _ _ _ _ _ _ _ _ _ _ _ _ _ _ _ _ _ _ _ _ _ _ _ _ _ _ _ _ _ _ _ _ _ _ _ _ _ _ _ _ e15

theorem defs₀_row (t : Fin cfg0.N) :
    defs₀ (F := F) .tc cfg0.body (cfg0.bodyArgs t (cfg0.slots t)) = bodyAt0 t := by
  unfold defs₀; rw [Defs.onTc_tc]

/-- The body, at every point of the grid. -/
theorem sound_body (c : Dev nD) (t : Fin cfg0.N) :
    bodyPre m c t ⊢ wp frame (wpE (defs₀ (F := F)) Variants.none (c : Thread nD τ) none) Set.univ (bodyAt0 t) (fun _ => bodyPost m c t) := by
  by_cases h0 : t.val = 0
  · exact body_first m c t h0
  by_cases h1 : t.val < 16
  · exact body_mid m c t h0 h1
  · exact body_last m c t (by have := t.isLt; have h : cfg0.N = 17 := N_0; omega)

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Kernel2Ideal.Hand

end
-- ==== Proof.Ideal2.Run.lean ====
module

public import proofs.«01_k».proof.Proof.Ideal2.Body

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- The run of the whole program: every window's array as its blocks were written back, every other array as it was, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [Phi_end m c 0 (Or.inl rfl)])
    (hout := fun c => by rw [Phi_end m c (Fin.last _) (Or.inr (by show cfg0.N = 17; exact N_0))])

/-- After that run the arguments hold what they held before it. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).1 9).trans (((dats m 0 c).arrAt_in 9 rfl _).trans ((A_eq m c 9).trans (V_main_arg12 m c))),
    ((h c).2 main_arg13 (Pipeline.mem_restRefs_of main_arg13 (by decide) (by decide))).trans (V_main_arg13 m c)⟩

/-- The program ends without fault, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ hs => ⟨args_kept m hs.1, hs.2⟩) (run_main m ρ)

end Cert.Kernel2Ideal.Hand

end
-- ==== Proof.Value2.Blocks.lean ====
module

public import proofs.«01_k».proof.Proof.Ideal2.Run
public import proofs.«01_k».proof.Proof.Value.Spec
public import Idealize.ShloMosaic.Lib.Pointwise
public import Idealize.ShloMosaic.Lib.Claim
public import Idealize.ShloMosaic.Lib.Pipeline.ValueKit

@[expose] public section

set_option maxRecDepth 16384

noncomputable section

namespace Cert.Kernel2Ideal.Value

open Cert.Kernel2Ideal Cert.Kernel2Ideal.Gen Cert.Kernel2Ideal.Hand Cert.Layer
open Idealize.ShloMosaic.TcCoe
open Idealize.ShloMosaic

open Idealize.ShloMosaic
variable (m : (ℓ : Loc nD τ sig) → Buf (Elt Ideal) ℓ)

/-! The operands that the pipeline stages whole are the arguments themselves. -/

theorem idx1 : ∀ t : Fin grid0.N, win0_1.index t 0 = 0 ∧ win0_1.index t 1 = 0 := by decide +kernel
theorem b1_eq (c : Dev nD) (t : Fin cfg0.N) : b1 m c t = m ((c.tc : Thread nD τ).loc main_arg1) := by
  refine Eq.trans (b := V m c main_arg1) (funext fun y => ?_) (V_main_arg1 m c)
  have h := idx1 t
  refine congrArg (V m c main_arg1) (funext fun a => Fin.ext ?_)
  blk_simp
  fin_cases a
  · show win0_1.index t 0 * 1 + (y 0).val = (y 0).val; rw [h.1]; omega
  · show win0_1.index t 1 * 1024 + (y 1).val = (y 1).val; rw [h.2]; omega

theorem idx2 : ∀ t : Fin grid0.N, win0_2.index t 0 = 0 ∧ win0_2.index t 1 = 0 := by decide +kernel
theorem b2_eq (c : Dev nD) (t : Fin cfg0.N) : b2 m c t = m ((c.tc : Thread nD τ).loc main_arg2) := by
  refine Eq.trans (b := V m c main_arg2) (funext fun y => ?_) (V_main_arg2 m c)
  have h := idx2 t
  refine congrArg (V m c main_arg2) (funext fun a => Fin.ext ?_)
  blk_simp
  fin_cases a
  · show win0_2.index t 0 * 1024 + (y 0).val = (y 0).val; rw [h.1]; omega
  · show win0_2.index t 1 * 1024 + (y 1).val = (y 1).val; rw [h.2]; omega

theorem idx5 : ∀ t : Fin grid0.N, win0_5.index t 0 = 0 ∧ win0_5.index t 1 = 0 := by decide +kernel
theorem b5_eq (c : Dev nD) (t : Fin cfg0.N) : b5 m c t = m ((c.tc : Thread nD τ).loc main_arg5) := by
  refine Eq.trans (b := V m c main_arg5) (funext fun y => ?_) (V_main_arg5 m c)
  have h := idx5 t
  refine congrArg (V m c main_arg5) (funext fun a => Fin.ext ?_)
  blk_simp
  fin_cases a
  · show win0_5.index t 0 * 1024 + (y 0).val = (y 0).val; rw [h.1]; omega
  · show win0_5.index t 1 * 1024 + (y 1).val = (y 1).val; rw [h.2]; omega

theorem idx9 : ∀ t : Fin grid0.N, win0_9.index t 0 = 0 ∧ win0_9.index t 1 = 0 := by decide +kernel
theorem b9_eq (c : Dev nD) (t : Fin cfg0.N) : b9 m c t = m ((c.tc : Thread nD τ).loc main_arg12) := by
  refine Eq.trans (b := V m c main_arg12) (funext fun y => ?_) (V_main_arg12 m c)
  have h := idx9 t
  refine congrArg (V m c main_arg12) (funext fun a => Fin.ext ?_)
  blk_simp
  fin_cases a
  · show win0_9.index t 0 * 1 + (y 0).val = (y 0).val; rw [h.1]; omega
  · show win0_9.index t 1 * 512 + (y 1).val = (y 1).val; rw [h.2]; omega

/-! The operands staged in parts. -/

/-- The prompt rows, keys and values a point works on are those its result is written back to. -/
theorem idxP : ∀ t : Fin grid0.N, win0_0.index (lastPrompt t) 0 = win0_10.index t 0 ∧ win0_0.index (lastPrompt t) 1 = win0_10.index t 1 ∧ win0_0.index (lastPrompt t) 2 = 0
    ∧ win0_3.index (lastPrompt t) 0 = win0_10.index t 0 ∧ win0_3.index (lastPrompt t) 1 = 0 ∧ win0_3.index (lastPrompt t) 2 = 0
    ∧ win0_4.index (lastPrompt t) 0 = win0_10.index t 0 ∧ win0_4.index (lastPrompt t) 1 = 0 ∧ win0_4.index (lastPrompt t) 2 = 0
    ∧ win0_10.index t 2 = 0 ∧ win0_10.index t 0 < 8 ∧ win0_10.index t 1 < 2 := by decide +kernel
theorem b0_apply (c : Dev nD) (t : Fin cfg0.N) (r k : Fin 1024) (i : Fin 8) (R : Fin 2048) (hi : i.val = win0_10.index t 0) (hR : R.val = win0_10.index t 1 * 1024 + r.val) :
    b0 m c (lastPrompt t) (ix3 0 r k) = m ((c.tc : Thread nD τ).loc main_arg0) (ix3 i R k) := by
  refine Eq.trans (b := V m c main_arg0 (ix3 i R k)) ?_ (congrFun (V_main_arg0 m c) _)
  obtain ⟨h0, h1, h2, -⟩ := idxP t
  refine congrArg (V m c main_arg0) (funext fun a => Fin.ext ?_)
  blk_simp
  fin_cases a
  · show win0_0.index (lastPrompt t) 0 * 1 + 0 = i.val; rw [h0]; omega
  · show win0_0.index (lastPrompt t) 1 * 1024 + r.val = R.val; rw [h1]; omega
  · show win0_0.index (lastPrompt t) 2 * 1024 + k.val = k.val; rw [h2]; omega
theorem b3_apply (c : Dev nD) (t : Fin cfg0.N) (k : Fin 1024) (n : Fin 256) (i : Fin 8) (hi : i.val = win0_10.index t 0) :
    b3 m c (lastPrompt t) (ix3 0 k n) = m ((c.tc : Thread nD τ).loc main_arg3) (ix3 i k n) := by
  refine Eq.trans (b := V m c main_arg3 (ix3 i k n)) ?_ (congrFun (V_main_arg3 m c) _)
  obtain ⟨-, -, -, h0, h1, h2, -⟩ := idxP t
  refine congrArg (V m c main_arg3) (funext fun a => Fin.ext ?_)
  blk_simp
  fin_cases a
  · show win0_3.index (lastPrompt t) 0 * 1 + 0 = i.val; rw [h0]; omega
  · show win0_3.index (lastPrompt t) 1 * 1024 + k.val = k.val; rw [h1]; omega
  · show win0_3.index (lastPrompt t) 2 * 256 + n.val = n.val; rw [h2]; omega
theorem b4_apply (c : Dev nD) (t : Fin cfg0.N) (n : Fin 256) (k : Fin 1024) (i : Fin 8) (hi : i.val = win0_10.index t 0) :
    b4 m c (lastPrompt t) (ix3 0 n k) = m ((c.tc : Thread nD τ).loc main_arg4) (ix3 i n k) := by
  refine Eq.trans (b := V m c main_arg4 (ix3 i n k)) ?_ (congrFun (V_main_arg4 m c) _)
  obtain ⟨-, -, -, -, -, -, h0, h1, h2, -⟩ := idxP t
  refine congrArg (V m c main_arg4) (funext fun a => Fin.ext ?_)
  blk_simp
  fin_cases a
  · show win0_4.index (lastPrompt t) 0 * 1 + 0 = i.val; rw [h0]; omega
  · show win0_4.index (lastPrompt t) 1 * 256 + n.val = n.val; rw [h1]; omega
  · show win0_4.index (lastPrompt t) 2 * 1024 + k.val = k.val; rw [h2]; omega

/-- A prompt point's eight tokens and its rows of the weight. -/
theorem idxT : ∀ b : Fin 16, win0_6.index (tp b) 0 = b.val ∧ win0_6.index (tp b) 1 = 0 ∧ win0_7.index (tp b) 0 = b.val ∧ win0_7.index (tp b) 1 = 0 ∧ win0_7.index (tp b) 2 = 0 ∧ win0_7.index (tp b) 3 = 0
    ∧ win0_8.index (tp b) 0 = b.val ∧ win0_8.index (tp b) 1 = 0 := by decide +kernel
theorem b6_apply (c : Dev nD) (p : Fin 16) (r : Fin 8) (k : Fin 2048) (b : Fin 128) (K : Fin 3072) (hb : b.val = p.val * 8 + r.val) (hK : K.val = k.val) :
    b6 m c (tp p) (ix2 r k) = m ((c.tc : Thread nD τ).loc main_arg6) (ix2 b K) := by
  refine Eq.trans (b := V m c main_arg6 (ix2 b K)) ?_ (congrFun (V_main_arg6 m c) _)
  obtain ⟨h0, h1, -⟩ := idxT p
  unfold b6 X0_6 Pipeline.Window.fill
  refine (dif_pos (moved0_6 (tp p) (ix2 r k))).trans ?_
  refine congrArg (V m c main_arg6) (funext fun a => Fin.ext ?_)
  blk_simp
  fin_cases a
  · show win0_6.index (tp p) 0 * 8 + r.val = b.val; rw [h0]; omega
  · show win0_6.index (tp p) 1 * 2048 + k.val = K.val; rw [h1]; omega
theorem b7_apply (c : Dev nD) (p : Fin 16) (r : Fin 8) (h : Fin 4) (a d b : Fin 128) (hb : b.val = p.val * 8 + r.val) :
    b7 m c (tp p) (ix4 r h a d) = m ((c.tc : Thread nD τ).loc main_arg7) (ix4 b h a d) := by
  refine Eq.trans (b := V m c main_arg7 (ix4 b h a d)) ?_ (congrFun (V_main_arg7 m c) _)
  obtain ⟨-, -, h0, h1, h2, h3, -⟩ := idxT p
  refine congrArg (V m c main_arg7) (funext fun e => Fin.ext ?_)
  blk_simp
  fin_cases e
  · show win0_7.index (tp p) 0 * 8 + r.val = b.val; rw [h0]; omega
  · show win0_7.index (tp p) 1 * 4 + h.val = h.val; rw [h1]; omega
  · show win0_7.index (tp p) 2 * 128 + a.val = a.val; rw [h2]; omega
  · show win0_7.index (tp p) 3 * 128 + d.val = d.val; rw [h3]; omega
theorem b8_apply (c : Dev nD) (p : Fin 16) (r : Fin 176) (k : Fin 1024) (R : Fin 2816) (hR : R.val = p.val * 176 + r.val) :
    b8 m c (tp p) (ix2 r k) = m ((c.tc : Thread nD τ).loc main_arg8) (ix2 R k) := by
  refine Eq.trans (b := V m c main_arg8 (ix2 R k)) ?_ (congrFun (V_main_arg8 m c) _)
  obtain ⟨-, -, -, -, -, -, h0, h1⟩ := idxT p
  refine congrArg (V m c main_arg8) (funext fun a => Fin.ext ?_)
  blk_simp
  fin_cases a
  · show win0_8.index (tp p) 0 * 176 + r.val = R.val; rw [h0]; omega
  · show win0_8.index (tp p) 1 * 1024 + k.val = k.val; rw [h1]; omega

end Cert.Kernel2Ideal.Value

end
-- ==== Proof.Value2.RefRows.lean ====
module

public import proofs.«01_k».proof.Proof.Value.Softmax
public import proofs.«01_k».proof.Proof.Gen.Reference2Ideal.Read

@[expose] public section

set_option maxRecDepth 16384

noncomputable section

namespace Cert.Reference2Ideal.Rows

open Cert.Reference2Ideal Cert.Reference2Ideal.Gen Cert.Reference2Ideal.Read Cert.Layer
open Idealize.ShloMosaic

/-! The reference's decode rows before the output projection. -/

/-- A row of 128 numbers over its root mean square. -/
def rms128 (o : Fin 128 → EReal) (d : Fin 128) : EReal := o d * Ideal.rsqrt (Ideal.div (∑ a, o a * o a) (Ideal.ofBits .f32 0x43000000#32) + Ideal.ofBits .f32 0x358637BD#32)

/-- The new state, -/
theorem v62_apply (x6 x7) (b : Fin 128) (h : Fin 4) (a d : Fin 128) :
    val_main_v62 (F := Ideal) x6 x7 (ix4 b h a d) = x6 (ix2 b ⟨512 + (h.val * 128 + a.val), by omega⟩) * x7 (ix4 b h a d)
      + x6 (ix2 b ⟨1024 + (h.val * 128 + a.val), by omega⟩) * x6 (ix2 b ⟨1536 + (h.val * 128 + d.val), by omega⟩) := by
  unfold val_main_v62 val_main_v61 val_main_v60 val_main_v59 val_main_v58 val_main_v57 val_main_v56 val_main_v55 val_main_v54 val_main_v50 val_main_v49 val_main_v48 val_main_v46 val_main_v45 val_main_v44 val_main_v42
  pointwise
/-- what the query reads out of it, -/
theorem v63_apply (x6 x7) (b : Fin 128) (h : Fin 4) (d : Fin 128) :
    val_main_v63 (F := Ideal) x6 x7 (ix3 b h d) = ∑ a : Fin 128, x6 (ix2 b ⟨h.val * 128 + a.val, by omega⟩) * val_main_v62 (F := Ideal) x6 x7 (ix4 b h a d) := by
  unfold val_main_v63
  generalize val_main_v62 (F := Ideal) x6 x7 = n
  unfold val_main_v47 val_main_v43 val_main_v42
  pointwise
/-- normed, -/
theorem v77_apply (x6 x7 x12) (b : Fin 128) (h : Fin 4) (d : Fin 128) :
    val_main_v77 (F := Ideal) x6 x7 x12 (ix3 b h d) = rms128 (fun a => val_main_v63 (F := Ideal) x6 x7 (ix3 b h a)) d * x12 (ix2 0 ⟨h.val * 128 + d.val, by omega⟩) := by
  unfold rms128
  unfold val_main_v77 val_main_v76 val_main_v75 val_main_v74 val_main_v73 val_main_v72 val_main_v71 val_main_v70 val_main_v69 val_main_v68 val_main_v67 val_main_v66 val_main_v65 val_main_v64 val_main_cst_6 val_main_cst_7 val_main_cst_8
  generalize val_main_v63 (F := Ideal) x6 x7 = n
  pointwise
/-- and gated. -/
theorem v79_apply (x6 x7 x10 x12) (b : Fin 128) (h : Fin 4) (d : Fin 128) :
    val_main_v79 (F := Ideal) x6 x7 x10 x12 (ix2 b ⟨h.val * 128 + d.val, by omega⟩) = val_main_v77 (F := Ideal) x6 x7 x12 (ix3 b h d) * x10 (ix2 b ⟨2048 + (h.val * 128 + d.val), by omega⟩) := by
  unfold val_main_v79 val_main_v78 val_main_v52 val_main_v51
  generalize val_main_v77 (F := Ideal) x6 x7 x12 = n
  pointwise
/-- The pooling window: the tokens kept, and the new one. -/
theorem v81_apply (x10 x11) (t : Fin 16) (b : Fin 128) (c : Fin 512) :
    val_main_v81 (F := Ideal) x10 x11 (ix3 t b c) = if h : t.val < 15 then x11 (ix3 ⟨t.val, h⟩ b c) else x10 (ix2 b ⟨2048 + (512 + c.val), by omega⟩) := by
  unfold val_main_v81 val_main_v80 val_main_v53 val_main_v51
  pointwise
/-- The window moved on by one token. -/
theorem v126_apply (x10 x11) (t : Fin 15) (b : Fin 128) (c : Fin 512) :
    val_main_v126 (F := Ideal) x10 x11 (ix3 t b c) = val_main_v81 (F := Ideal) x10 x11 (ix3 ⟨1 + t.val, by omega⟩ b c) := by
  unfold val_main_v126
  generalize val_main_v81 (F := Ideal) x10 x11 = n
  pointwise
/-- The four windows' means. -/
theorem v85_apply (x10 x11) (b d : Fin 128) :
    val_main_v85 (F := Ideal) x10 x11 (ix2 b d) = Ideal.div (∑ t : Fin 2, val_main_v81 (F := Ideal) x10 x11 (ix3 ⟨14 + t.val, by omega⟩ b ⟨d.val, by omega⟩)) (Ideal.ofBits .f32 0x40000000#32) := by
  unfold val_main_v85 val_main_v84 val_main_v83 val_main_v82 val_main_cst_9 val_main_cst_10
  generalize val_main_v81 (F := Ideal) x10 x11 = n
  pointwise
theorem v89_apply (x10 x11) (b d : Fin 128) :
    val_main_v89 (F := Ideal) x10 x11 (ix2 b d) = Ideal.div (∑ t : Fin 4, val_main_v81 (F := Ideal) x10 x11 (ix3 ⟨12 + t.val, by omega⟩ b ⟨128 + d.val, by omega⟩)) (Ideal.ofBits .f32 0x40800000#32) := by
  unfold val_main_v89 val_main_v88 val_main_v87 val_main_v86 val_main_cst_11 val_main_cst_12
  generalize val_main_v81 (F := Ideal) x10 x11 = n
  pointwise
theorem v93_apply (x10 x11) (b d : Fin 128) :
    val_main_v93 (F := Ideal) x10 x11 (ix2 b d) = Ideal.div (∑ t : Fin 8, val_main_v81 (F := Ideal) x10 x11 (ix3 ⟨8 + t.val, by omega⟩ b ⟨256 + d.val, by omega⟩)) (Ideal.ofBits .f32 0x41000000#32) := by
  unfold val_main_v93 val_main_v92 val_main_v91 val_main_v90 val_main_cst_13 val_main_cst_14
  generalize val_main_v81 (F := Ideal) x10 x11 = n
  pointwise
theorem v97_apply (x10 x11) (b d : Fin 128) :
    val_main_v97 (F := Ideal) x10 x11 (ix2 b d) = Ideal.div (∑ t : Fin 16, val_main_v81 (F := Ideal) x10 x11 (ix3 t b ⟨384 + d.val, by omega⟩)) (Ideal.ofBits .f32 0x41800000#32) := by
  unfold val_main_v97 val_main_v96 val_main_v95 val_main_v94 val_main_cst_15 val_main_cst_16
  generalize val_main_v81 (F := Ideal) x10 x11 = n
  pointwise
/-- Each less the new token. -/
theorem v99_apply (x10 x11) (b : Fin 128) (c : Fin 512) :
    val_main_v99 (F := Ideal) x10 x11 (ix2 b c) = val_main_v98 (F := Ideal) x10 x11 (ix2 b c) - x10 (ix2 b ⟨2048 + (512 + c.val), by omega⟩) := by
  unfold val_main_v99 val_main_v53 val_main_v51
  generalize val_main_v98 (F := Ideal) x10 x11 = n
  pointwise
theorem v98_apply (x10 x11) (b : Fin 128) (g : Fin 4) (d : Fin 128) :
    val_main_v98 (F := Ideal) x10 x11 (ix2 b ⟨128 * g.val + d.val, by omega⟩) = (![val_main_v85 (F := Ideal) x10 x11, val_main_v89 (F := Ideal) x10 x11, val_main_v93 (F := Ideal) x10 x11, val_main_v97 (F := Ideal) x10 x11] g) (ix2 b d) := by
  unfold val_main_v98
  generalize val_main_v85 (F := Ideal) x10 x11 = n0
  generalize val_main_v89 (F := Ideal) x10 x11 = n1
  generalize val_main_v93 (F := Ideal) x10 x11 = n2
  generalize val_main_v97 (F := Ideal) x10 x11 = n3
  fin_cases g
  · pointwise
  · pointwise
  · pointwise
    refine (dif_neg (by omega)).trans ((dif_neg (by omega)).trans ((dif_pos (by omega)).trans (congrArg (fun x => n2 (ix2 b x)) (Fin.ext ?_))))
    show 256 + d.val - 128 - 128 = d.val
    omega
  · pointwise
    refine (dif_neg (by omega)).trans ((dif_neg (by omega)).trans ((dif_neg (by omega)).trans (congrArg (fun x => n3 (ix2 b x)) (Fin.ext ?_))))
    show 384 + d.val - 128 - 128 - 128 = d.val
    omega
theorem v100_apply (x6 x7 x10 x11 x12) (b : Fin 128) (c : Fin 1024) :
    val_main_v100 (F := Ideal) x6 x7 x10 x11 x12 (ix2 b c) = if h : c.val < 512 then val_main_v79 (F := Ideal) x6 x7 x10 x12 (ix2 b ⟨c.val, h⟩) else val_main_v99 (F := Ideal) x10 x11 (ix2 b ⟨c.val - 512, by omega⟩) := by
  unfold val_main_v100
  generalize val_main_v79 (F := Ideal) x6 x7 x10 x12 = n0
  generalize val_main_v99 (F := Ideal) x10 x11 = n1
  pointwise

end Cert.Reference2Ideal.Rows

end
-- ==== Proof.Value2.State.lean ====
module

public import proofs.«01_k».proof.Proof.Value2.Blocks
public import proofs.«01_k».proof.Proof.Value2.RefRows

@[expose] public section

set_option maxRecDepth 16384

noncomputable section

namespace Cert.Kernel2Ideal.Value

open Cert.Kernel2Ideal Cert.Kernel2Ideal.Gen Cert.Kernel2Ideal.Hand Cert.Layer
open Idealize.ShloMosaic.TcCoe
open Cert.Reference2Ideal.Read
open Cert.Reference2Ideal.Rows (v62_apply v63_apply)
open Idealize.ShloMosaic

variable (m : (ℓ : Loc nD τ sig) → Buf (Elt Ideal) ℓ)

/-! The new state and what the queries read out of it. -/

/-- Eight tokens' new state, -/
theorem st_eq (c : Dev nD) (p : Fin 16) (r : Fin 8) (h : Fin 4) (a d b : Fin 128) (hb : b.val = p.val * 8 + r.val) :
    stBlk (b6 m c (tp p)) (b7 m c (tp p)) (ix4 r h a d) = val_main_v62 (F := Ideal) (m ((c.tc : Thread nD τ).loc main_arg6)) (m ((c.tc : Thread nD τ).loc main_arg7)) (ix4 b h a d) := by
  rw [v62_apply]
  unfold stBlk
  refine congrArg₂ (fun a b : EReal => a + b) (congrArg₂ (fun a b : EReal => a * b) ?_ (b7_apply m c p r h a d b hb)) (congrArg₂ (fun a b : EReal => a * b) ?_ ?_)
  · exact b6_apply m c p r _ b _ hb (by show 512 + (h.val * 128 + a.val) = 512 + 128 * h.val + a.val; omega)
  · exact b6_apply m c p r _ b _ hb (by show 1024 + (h.val * 128 + a.val) = 1024 + 128 * h.val + a.val; omega)
  · exact b6_apply m c p r _ b _ hb (by show 1536 + (h.val * 128 + d.val) = 1536 + 128 * h.val + d.val; omega)

/-- A square's sums over its rows, -/
theorem sq_sum (f : FVec Ideal S128x128 .f32) (d : Fin 128) : multiReduction .add [0] S128 f 0x00000000#32 reduces_S128x128_S128 (.inl rfl) rfl (ix1 d) = ∑ a : Fin 128, f (ix2 a d) := by
  pointwise
/-- and all the tokens' read-outs. -/
theorem oo_eq (c : Dev nD) (b : Fin 128) (h : Fin 4) (d : Fin 128) :
    ooAll m c (ix2 b ⟨h.val * 128 + d.val, by omega⟩) = val_main_v63 (F := Ideal) (m ((c.tc : Thread nD τ).loc main_arg6)) (m ((c.tc : Thread nD τ).loc main_arg7)) (ix3 b h d) := by
  rw [v63_apply]
  have eh : (⟨(h.val * 128 + d.val) / 128, by omega⟩ : Fin 4) = h := Fin.ext (by show (h.val * 128 + d.val) / 128 = h.val; omega)
  have ed : (⟨(h.val * 128 + d.val) % 128, by omega⟩ : Fin 128) = d := Fin.ext (by show (h.val * 128 + d.val) % 128 = d.val; omega)
  let p : Fin 16 := ⟨b.val / 8, by omega⟩
  have hp : p.val = b.val / 8 := rfl
  refine Eq.trans (b := ∑ a : Fin 128, qSt (b6 m c (tp p)) (b7 m c (tp p)) ⟨b.val % 8, by omega⟩ h (ix2 a d)) ?_ (Finset.sum_congr rfl fun a _ => ?_)
  · refine (sq_sum (qSt (b6 m c (tp p)) (b7 m c (tp p)) ⟨b.val % 8, by omega⟩ ⟨(h.val * 128 + d.val) / 128, by omega⟩) ⟨(h.val * 128 + d.val) % 128, by omega⟩).trans ?_
    rw [eh, ed]
  · unfold qSt
    refine congrArg₂ (fun a b : EReal => a * b) ?_ (st_eq m c p ⟨b.val % 8, by omega⟩ h a d b (by show b.val = p.val * 8 + b.val % 8; omega))
    exact b6_apply m c p ⟨b.val % 8, by omega⟩ _ b _ (by show b.val = p.val * 8 + b.val % 8; omega) (by show h.val * 128 + a.val = 128 * h.val + a.val; omega)

end Cert.Kernel2Ideal.Value

end
-- ==== Proof.Value2.Attn.lean ====
module

public import proofs.«01_k».proof.Proof.Value.Softmax
public import proofs.«01_k».proof.Proof.Ideal2.Attn

@[expose] public section

set_option maxRecDepth 16384

noncomputable section

namespace Cert.Kernel2Ideal.Value

open Cert.Kernel2Ideal Cert.Kernel2Ideal.Gen Cert.Kernel2Ideal.Hand Cert.Layer
open Idealize.ShloMosaic

/-! The kernel's prompt attention, row by row. -/

/-- The kernel's query scale. -/
abbrev qscale : EReal := (((16 * (Real.log 2))⁻¹ : ℝ) : EReal)

/-- The scaled queries, -/
theorem pay3_apply (x : Vec Ideal S1x512x1024 .f32) (g : Vec Ideal S1x1024 .f32) (w : Vec Ideal S1024x1024 .bf16) (r : Fin 512) (c : Fin 1024) :
    k0_pay3 x g w (ix2 r c) = (∑ k, rms (fun j => x (ix3 0 r j)) (fun j => g (ix2 0 j)) k * w (ix2 k c)) * qscale := by
  unfold rms meanSq
  unfold_payloads
  pointwise
  rfl
/-- the scores, -/
theorem pay7_apply (q : FVec Ideal S512x256 .bf16) (k : Vec Ideal S1x256x256 .bf16) (r : Fin 512) (n : Fin 256) :
    k0_pay7 q k (ix2 r n) = ∑ d, q (ix2 r d) * k (ix3 0 d n) := by
  unfold_payloads
  pointwise
/-- one head's attention, -/
theorem pay14_apply (s : FVec Ideal S512x256 .f32) (v : Vec Ideal S1x256x256 .bf16) (r : Fin 512) (d : Fin 256) :
    k0_pay14 s v (ix2 r d) = attTwo (fun n => s (ix2 r n)) fun n => v (ix3 0 n d) := by
  unfold attTwo top
  unfold_payloads
  pointwise
  rfl
/-- and the projection with the residual. -/
theorem pay24_apply (x : Vec Ideal S1x512x1024 .f32) (a : Vec Ideal S512x1024 .bf16) (w : Vec Ideal S1024x1024 .bf16) (o : Fin 1) (r : Fin 512) (j : Fin 1024) :
    k0_pay24 x a w (ix3 o r j) = x (ix3 0 r j) + ∑ c, a (ix2 r c) * w (ix2 c j) := by
  obtain rfl := Subsingleton.elim o 0
  unfold_payloads
  pointwise

/-- The pieces of the operands that a head reads. -/
theorem xHalf_apply (x1 : Vec Ideal S1x1024x1024 .f32) (hf : Fin 2) (r : Fin 512) (j : Fin 1024) : xHalf x1 hf (ix3 0 r j) = x1 (ix3 0 ⟨512 * hf.val + r.val, by omega⟩ j) :=
  congrArg x1 (funext fun d => Fin.ext (by
    fin_cases d
    · show 0 + 1 * 0 = 0; omega
    · show 512 * hf.val + 1 * r.val = 512 * hf.val + r.val; omega
    · show 0 + 1 * j.val = j.val; omega))
theorem kHead_apply (x4 : Vec Ideal S1x1024x256 .bf16) (h : Fin 4) (d n : Fin 256) : kHead x4 h (ix3 0 d n) = x4 (ix3 0 ⟨h.val * 256 + d.val, by omega⟩ n) :=
  congrArg x4 (funext fun e => Fin.ext (by
    fin_cases e
    · show 0 + 1 * 0 = 0; omega
    · show 256 * h.val + 1 * d.val = h.val * 256 + d.val; omega
    · show 0 + 1 * n.val = n.val; omega))
theorem vHead_apply (x5 : Vec Ideal S1x256x1024 .bf16) (h : Fin 4) (n d : Fin 256) : vHead x5 h (ix3 0 n d) = x5 (ix3 0 n ⟨h.val * 256 + d.val, by omega⟩) :=
  congrArg x5 (funext fun e => Fin.ext (by
    fin_cases e
    · show 0 + 1 * 0 = 0; omega
    · show 0 + 1 * n.val = n.val; omega
    · show 256 * h.val + 1 * d.val = h.val * 256 + d.val; omega))
theorem qHead_apply (q : FVec Ideal S512x1024 .bf16) (h : Fin 4) (r : Fin 512) (d : Fin 256) : qHead q h (ix2 r d) = q (ix2 r ⟨h.val * 256 + d.val, by omega⟩) :=
  extractStridedSlice_apply ![0, 256 * h.val] q (slice_head h) (ix2 r d) (ix2 r ⟨h.val * 256 + d.val, by omega⟩) (fun e => by
    fin_cases e
    · show r.val = 0 + r.val; omega
    · show h.val * 256 + d.val = 256 * h.val + d.val; omega)

/-- A row of the scores of one head. -/
def sRow (x : Fin 1024 → EReal) (g : Fin 1024 → EReal) (w : Fin 1024 → Fin 1024 → EReal) (k : Fin 1024 → Fin 256 → EReal) (h : Fin 4) (n : Fin 256) : EReal :=
  ∑ d : Fin 256, ((∑ j, rms x g j * w j ⟨h.val * 256 + d.val, by omega⟩) * qscale) * k ⟨h.val * 256 + d.val, by omega⟩ n

/-- The prompt rows of a point. -/
theorem yBlk_apply (x1 : Vec Ideal S1x1024x1024 .f32) (x2 : Vec Ideal S1x1024 .f32) (x3 : Vec Ideal S1024x1024 .bf16) (x4 : Vec Ideal S1x1024x256 .bf16) (x5 : Vec Ideal S1x256x1024 .bf16) (x6 : Vec Ideal S1024x1024 .bf16)
    (o : Fin 1) (r : Fin 1024) (j : Fin 1024) :
    yBlk x1 x2 x3 x4 x5 x6 (ix3 o r j) = x1 (ix3 0 r j) + ∑ c : Fin 1024,
      attTwo (sRow (fun i => x1 (ix3 0 r i)) (fun i => x2 (ix2 0 i)) (fun i c => x3 (ix2 i c)) (fun c n => x4 (ix3 0 c n)) ⟨c.val / 256, by omega⟩)
        (fun n => x5 (ix3 0 n c)) * x6 (ix2 c j) := by
  unfold yBlk
  refine (pay24_apply _ _ _ _ _ _).trans ?_
  have er : (⟨512 * (r.val / 512) + r.val % 512, by omega⟩ : Fin 1024) = r := Fin.ext (by show 512 * (r.val / 512) + r.val % 512 = r.val; omega)
  refine congrArg₂ (fun a b : EReal => a + b) ((xHalf_apply x1 _ _ j).trans (congrArg (fun r => x1 (ix3 0 r j)) er)) (Finset.sum_congr rfl fun c _ => congrArg (fun a : EReal => a * x6 (ix2 c j)) ?_)
  unfold attB
  refine (pay14_apply _ _ _ _).trans ?_
  refine congrArg₂ attTwo (funext fun n => ?_) (funext fun n => ?_)
  · refine (pay7_apply _ _ _ n).trans ?_
    unfold sRow
    refine Finset.sum_congr rfl fun d _ => congrArg₂ (fun a b : EReal => a * b) ?_ (kHead_apply x4 _ d n)
    refine (qHead_apply _ _ _ d).trans ((pay3_apply _ _ _ _ _).trans ?_)
    refine congrArg (fun f : Fin 1024 → EReal => (∑ k, rms f (fun i => x2 (ix2 0 i)) k * x3 (ix2 k ⟨c.val / 256 * 256 + d.val, by omega⟩)) * qscale) (funext fun i => ?_)
    exact (xHalf_apply x1 _ _ i).trans (congrArg (fun r => x1 (ix3 0 r i)) er)
  · refine (vHead_apply x5 _ n _).trans (congrArg (fun c => x5 (ix3 0 n c)) (Fin.ext ?_))
    show c.val / 256 * 256 + c.val % 256 = c.val
    omega

end Cert.Kernel2Ideal.Value

end
-- ==== Proof.Value2.Rows.lean ====
module

public import proofs.«01_k».proof.Proof.Value2.RefRows
public import proofs.«01_k».proof.Proof.Value2.Attn
public import proofs.«01_k».proof.Proof.Ideal2.Last

@[expose] public section

set_option maxRecDepth 16384

noncomputable section

namespace Cert.Kernel2Ideal.Value

open Cert.Kernel2Ideal Cert.Kernel2Ideal.Gen Cert.Kernel2Ideal.Hand Cert.Layer
open Cert.Reference2Ideal.Rows (rms128)
open Idealize.ShloMosaic

/-! The kernel's decode rows, before and after the output projection. -/

/-- The pieces that a head or a pooling group reads. -/
theorem ooHead_apply (oo : Vec Ideal S128x512 .f32) (h : Fin 4) (b d : Fin 128) : ooHead oo h (ix2 b d) = oo (ix2 b ⟨h.val * 128 + d.val, by omega⟩) :=
  congrArg oo (funext fun e => Fin.ext (by
    fin_cases e
    · show 0 + 1 * b.val = b.val; omega
    · show 128 * h.val + 1 * d.val = h.val * 128 + d.val; omega))
theorem hnHead_apply (hn : Vec Ideal S1x512 .f32) (h : Fin 4) (d : Fin 128) : hnHead hn h (ix2 0 d) = hn (ix2 0 ⟨h.val * 128 + d.val, by omega⟩) :=
  congrArg hn (funext fun e => Fin.ext (by
    fin_cases e
    · show 0 + 1 * 0 = 0; omega
    · show 128 * h.val + 1 * d.val = h.val * 128 + d.val; omega))
theorem gHead_apply (ga : Vec Ideal S128x3072 .f32) (h : Fin 4) (b d : Fin 128) : gHead ga h (ix2 b d) = ga (ix2 b ⟨2048 + (h.val * 128 + d.val), by omega⟩) :=
  congrArg ga (funext fun e => Fin.ext (by
    fin_cases e
    · show 0 + 1 * b.val = b.val; omega
    · show 2048 + 128 * h.val + 1 * d.val = 2048 + (h.val * 128 + d.val); omega))
theorem uGrp_apply (ga : Vec Ideal S128x3072 .f32) (g : Fin 4) (b d : Fin 128) : uGrp ga g (ix2 b d) = ga (ix2 b ⟨2048 + (512 + (128 * g.val + d.val)), by omega⟩) :=
  congrArg ga (funext fun e => Fin.ext (by
    fin_cases e
    · show 0 + 1 * b.val = b.val; omega
    · show 2560 + 128 * g.val + 1 * d.val = 2048 + (512 + (128 * g.val + d.val)); omega))
theorem pGrp_apply (pa : Vec Ideal S15x128x512 .f32) (g : Fin 4) (j : Fin 15) (b d : Fin 128) : pGrp pa g j (ix3 0 b d) = pa (ix3 j b ⟨128 * g.val + d.val, by omega⟩) :=
  congrArg pa (funext fun e => Fin.ext (by
    fin_cases e
    · show j.val + 1 * 0 = j.val; omega
    · show 0 + 1 * b.val = b.val; omega
    · show 128 * g.val + 1 * d.val = 128 * g.val + d.val; omega))

/-- A head's rows normed, scaled and gated. -/
theorem pay162_apply (o : Vec Ideal S128x128 .f32) (n : Vec Ideal S1x128 .f32) (g : Vec Ideal S128x128 .f32) (b d : Fin 128) :
    k0_pay162 o n g (ix2 b d) = rms128 (fun a => o (ix2 b a)) d * n (ix2 0 d) * g (ix2 b d) := by
  unfold rms128
  unfold_payloads
  pointwise
theorem pay164_apply (o : Vec Ideal S128x128 .f32) (n : Vec Ideal S1x128 .f32) (g : Vec Ideal S128x128 .f32) (b d : Fin 128) :
    k0_pay164 (k0_pay163 o) n g (ix2 b d) = rms128 (fun a => o (ix2 b a)) d * n (ix2 0 d) * g (ix2 b d) := pay162_apply o n g b d
theorem pay165_apply (o : Vec Ideal S128x128 .f32) (n : Vec Ideal S1x128 .f32) (g : Vec Ideal S128x128 .f32) (b d : Fin 128) :
    k0_pay165 o n g (ix2 b d) = rms128 (fun a => o (ix2 b a)) d * n (ix2 0 d) * g (ix2 b d) := pay162_apply o n g b d
theorem pay168_apply (o : Vec Ideal S128x128 .f32) (n : Vec Ideal S1x128 .f32) (g : Vec Ideal S128x128 .f32) (b d : Fin 128) :
    k0_pay168 o (k0_pay166 o) k0_pay167 n g (ix2 b d) = rms128 (fun a => o (ix2 b a)) d * n (ix2 0 d) * g (ix2 b d) := pay162_apply o n g b d

/-- A pooling group's means less the new rows. -/
theorem pay169_apply (u : Vec Ideal S128x128 .f32) (p : Fin 15 → Vec Ideal S1x128x128 .f32) (b d : Fin 128) :
    k0_pay169 u (p 14) (ix2 b d) = Ideal.div (u (ix2 b d) + p 14 (ix3 0 b d)) (Ideal.ofBits .f32 0x40000000#32) - u (ix2 b d) := by
  unfold_payloads
  pointwise
theorem pay172_apply (u : Vec Ideal S128x128 .f32) (p : Fin 15 → Vec Ideal S1x128x128 .f32) (b d : Fin 128) :
    k0_pay172 u (k0_pay170 u (p 14) (p 13)) (k0_pay171 (p 12)) (ix2 b d) = Ideal.div (u (ix2 b d) + p 14 (ix3 0 b d) + p 13 (ix3 0 b d) + p 12 (ix3 0 b d)) (Ideal.ofBits .f32 0x40800000#32) - u (ix2 b d) := by
  unfold_payloads
  pointwise
theorem pay174_apply (u : Vec Ideal S128x128 .f32) (p : Fin 15 → Vec Ideal S1x128x128 .f32) (b d : Fin 128) :
    k0_pay174 u (k0_pay173 u (p 14) (p 13) (p 12) (p 11) (p 10) (p 9) (p 8)) (ix2 b d)
      = Ideal.div (u (ix2 b d) + p 14 (ix3 0 b d) + p 13 (ix3 0 b d) + p 12 (ix3 0 b d) + p 11 (ix3 0 b d) + p 10 (ix3 0 b d) + p 9 (ix3 0 b d) + p 8 (ix3 0 b d)) (Ideal.ofBits .f32 0x41000000#32) - u (ix2 b d) := by
  unfold_payloads
  pointwise
theorem pay176_apply (u : Vec Ideal S128x128 .f32) (p : Fin 15 → Vec Ideal S1x128x128 .f32) (b d : Fin 128) :
    k0_pay176 u (k0_pay175 u (p 14) (p 13) (p 12) (p 11) (p 10) (p 9) (p 8) (p 7)) (p 6) (p 5) (p 4) (p 3) (p 2) (p 1) (p 0) (ix2 b d)
      = Ideal.div (u (ix2 b d) + p 14 (ix3 0 b d) + p 13 (ix3 0 b d) + p 12 (ix3 0 b d) + p 11 (ix3 0 b d) + p 10 (ix3 0 b d) + p 9 (ix3 0 b d) + p 8 (ix3 0 b d) + p 7 (ix3 0 b d)
          + p 6 (ix3 0 b d) + p 5 (ix3 0 b d) + p 4 (ix3 0 b d) + p 3 (ix3 0 b d) + p 2 (ix3 0 b d) + p 1 (ix3 0 b d) + p 0 (ix3 0 b d)) (Ideal.ofBits .f32 0x41800000#32) - u (ix2 b d) := by
  unfold_payloads
  pointwise

/-- The output projection with the residual. -/
theorem pay178_apply (x : Vec Ideal S128x1024 .f32) (a : Vec Ideal S128x1024 .bf16) (w : Vec Ideal S1024x1024 .bf16) (b : Fin 128) (j : Fin 1024) :
    k0_pay178 x a w (ix2 b j) = x (ix2 b j) + ∑ c, a (ix2 b c) * w (ix2 c j) := by
  unfold_payloads
  pointwise
/-- The scaled queries of those rows. -/
theorem pay179_apply (x : Vec Ideal S128x1024 .f32) (a : Vec Ideal S128x1024 .bf16) (w : Vec Ideal S1024x1024 .bf16) (g : Vec Ideal S1x1024 .f32) (q : Vec Ideal S1024x1024 .bf16) (b : Fin 128) (c : Fin 1024) :
    k0_pay179 x a w g q (ix2 b c) = (∑ k, rms (fun j => k0_pay178 x a w (ix2 b j)) (fun j => g (ix2 0 j)) k * q (ix2 k c)) * qscale := by
  unfold rms meanSq
  unfold k0_pay179
  generalize k0_pay178 x a w = n
  pointwise
  rfl
/-- A group of 128 of their columns. -/
theorem qG_apply (q : FVec Ideal S128x1024 .f32) (p : Fin 8) (b : Fin 128) (l : Fin 128) :
    qG q p (ix3 b 0 l) = q (ix2 b ⟨p.val % 4 * 256 + p.val / 4 * 128 + l.val, by omega⟩) := by
  fin_cases p
  all_goals
    unfold qG
    simp only [Matrix.cons_val, Fin.mk_zero, Fin.mk_one]
    unfold_payloads
    pointwise

end Cert.Kernel2Ideal.Value

end
-- ==== Proof.Value2.Merge.lean ====
module

public import proofs.«01_k».proof.Proof.Value2.Rows

@[expose] public section

set_option maxRecDepth 16384

noncomputable section

namespace Cert.Kernel2Ideal.Value

open Cert.Kernel2Ideal Cert.Kernel2Ideal.Gen Cert.Kernel2Ideal.Hand Cert.Layer
open Cert.Reference2Ideal.Rows Cert.Reference2Ideal.Read
open Idealize.ShloMosaic

/-! The kernel's decode rows before the output projection are the reference's. -/

/-- Sums over the last tokens of a window, newest first. -/
theorem sum2 (w : Fin 16 → EReal) : (∑ t : Fin 2, w ⟨14 + t.val, by omega⟩) = w 15 + w 14 := by
  rw [Fin.sum_univ_two]
  exact add_comm _ _
theorem sum4 (w : Fin 16 → EReal) : (∑ t : Fin 4, w ⟨12 + t.val, by omega⟩) = w 15 + w 14 + w 13 + w 12 := by
  rw [Fin.sum_univ_four]
  show w 12 + w 13 + w 14 + w 15 = _
  ac_rfl
theorem sum8 (w : Fin 16 → EReal) : (∑ t : Fin 8, w ⟨8 + t.val, by omega⟩) = w 15 + w 14 + w 13 + w 12 + w 11 + w 10 + w 9 + w 8 := by
  rw [Fin.sum_univ_eight]
  show w 8 + w 9 + w 10 + w 11 + w 12 + w 13 + w 14 + w 15 = _
  ac_rfl
theorem sum16 (w : Fin 16 → EReal) : (∑ t : Fin 16, w t) = w 15 + w 14 + w 13 + w 12 + w 11 + w 10 + w 9 + w 8 + w 7 + w 6 + w 5 + w 4 + w 3 + w 2 + w 1 + w 0 := by
  refine (Fin.sum_univ_add (a := 8) (b := 8) w).trans ?_
  rw [Fin.sum_univ_eight, Fin.sum_univ_eight]
  show (w 0 + w 1 + w 2 + w 3 + w 4 + w 5 + w 6 + w 7) + (w 8 + w 9 + w 10 + w 11 + w 12 + w 13 + w 14 + w 15) = _
  ac_rfl

variable (hn : Vec Ideal S1x512 .f32) (oo : Vec Ideal S128x512 .f32) (ga : Vec Ideal S128x3072 .f32) (pa : Vec Ideal S15x128x512 .f32)

/-- The reference's column of a head, -/
theorem ref_head (x6 x7) (b : Fin 128) (h : Fin 4) (d : Fin 128) :
    val_main_v100 (F := Ideal) x6 x7 ga pa hn (ix2 b ⟨h.val * 128 + d.val, by omega⟩)
      = rms128 (fun a => val_main_v63 (F := Ideal) x6 x7 (ix3 b h a)) d * hn (ix2 0 ⟨h.val * 128 + d.val, by omega⟩) * ga (ix2 b ⟨2048 + (h.val * 128 + d.val), by omega⟩) := by
  rw [v100_apply]
  refine (dif_pos (by show h.val * 128 + d.val < 512; omega)).trans ?_
  rw [v79_apply, v77_apply]
/-- and of a pooling group. -/
theorem ref_pool (x6 x7) (b : Fin 128) (g : Fin 4) (d : Fin 128) (c : Fin 1024) (hc : c.val = 512 + (128 * g.val + d.val)) :
    val_main_v100 (F := Ideal) x6 x7 ga pa hn (ix2 b c)
      = (![val_main_v85 (F := Ideal) ga pa, val_main_v89 (F := Ideal) ga pa, val_main_v93 (F := Ideal) ga pa, val_main_v97 (F := Ideal) ga pa] g) (ix2 b d) - ga (ix2 b ⟨2048 + (512 + (128 * g.val + d.val)), by omega⟩) := by
  rw [v100_apply]
  refine (dif_neg (by omega)).trans ?_
  have e : (⟨c.val - 512, by omega⟩ : Fin 512) = ⟨128 * g.val + d.val, by omega⟩ := Fin.ext (by show c.val - 512 = 128 * g.val + d.val; omega)
  rw [e, v99_apply, v98_apply]

/-- A kept token in the window, -/
theorem old_at (b : Fin 128) (c : Fin 512) (j : Fin 15) (t : Fin 16) (h : t.val = j.val) : val_main_v81 (F := Ideal) ga pa (ix3 t b c) = pa (ix3 j b c) := by
  rw [v81_apply]
  refine (dif_pos (by omega)).trans (congrArg (fun x => pa (ix3 x b c)) (Fin.ext h))
/-- and the new one. -/
theorem new_at (b : Fin 128) (c : Fin 512) : val_main_v81 (F := Ideal) ga pa (ix3 15 b c) = ga (ix2 b ⟨2048 + (512 + c.val), by omega⟩) := by
  rw [v81_apply]
  exact dif_neg (by decide)

/-- A head's columns agree once the read-outs do. -/
theorem head_eq (x6 x7) (ho : ∀ (b : Fin 128) (h : Fin 4) (d : Fin 128), oo (ix2 b ⟨h.val * 128 + d.val, by omega⟩) = val_main_v63 (F := Ideal) x6 x7 (ix3 b h d)) (b : Fin 128) (h : Fin 4) (d : Fin 128) :
    rms128 (fun a => ooHead oo h (ix2 b a)) d * hnHead hn h (ix2 0 d) * gHead ga h (ix2 b d) = val_main_v100 (F := Ideal) x6 x7 ga pa hn (ix2 b ⟨h.val * 128 + d.val, by omega⟩) := by
  rw [ref_head, hnHead_apply, gHead_apply]
  refine congrArg (fun f : Fin 128 → EReal => rms128 f d * _ * _) (funext fun a => ?_)
  exact (ooHead_apply oo h b a).trans (ho b h a)

/-- Every group of columns. -/
theorem mG_eq (x6 x7) (ho : ∀ (b : Fin 128) (h : Fin 4) (d : Fin 128), oo (ix2 b ⟨h.val * 128 + d.val, by omega⟩) = val_main_v63 (F := Ideal) x6 x7 (ix3 b h d)) (k : Fin 8) (b d : Fin 128) :
    mG hn oo ga pa k (ix2 b d) = val_main_v100 (F := Ideal) x6 x7 ga pa hn (ix2 b ⟨k.val * 128 + d.val, by omega⟩) := by
  have new (g : Fin 4) : uGrp ga g (ix2 b d) = val_main_v81 (F := Ideal) ga pa (ix3 15 b ⟨128 * g.val + d.val, by omega⟩) := (uGrp_apply ga g b d).trans (new_at ga pa b ⟨128 * g.val + d.val, by omega⟩).symm
  have old (g : Fin 4) (j : Fin 15) (t : Fin 16) (h : t.val = j.val) : pGrp pa g j (ix3 0 b d) = val_main_v81 (F := Ideal) ga pa (ix3 t b ⟨128 * g.val + d.val, by omega⟩) :=
    (pGrp_apply pa g j b d).trans (old_at ga pa b _ j t h).symm
  fin_cases k
  · exact (pay162_apply _ _ _ b d).trans (head_eq hn oo ga pa x6 x7 ho b 0 d)
  · exact (pay164_apply _ _ _ b d).trans (head_eq hn oo ga pa x6 x7 ho b 1 d)
  · exact (pay165_apply _ _ _ b d).trans (head_eq hn oo ga pa x6 x7 ho b 2 d)
  · exact (pay168_apply _ _ _ b d).trans (head_eq hn oo ga pa x6 x7 ho b 3 d)
  · refine (pay169_apply (uGrp ga 0) (pGrp pa 0) b d).trans (Eq.trans ?_ (ref_pool hn ga pa x6 x7 b 0 d _ (by show 4 * 128 + d.val = 512 + (128 * 0 + d.val); omega)).symm)
    refine congrArg₂ (fun a b : EReal => a - b) (Eq.trans ?_ (v85_apply ga pa b d).symm) (uGrp_apply ga 0 b d)
    have e : (⟨d.val, by omega⟩ : Fin 512) = ⟨128 * (0 : Fin 4).val + d.val, by omega⟩ := Fin.ext (by show d.val = 128 * 0 + d.val; omega)
    rw [e]
    refine congrArg (fun a => Ideal.div a _) (Eq.trans ?_ (sum2 fun t => val_main_v81 (F := Ideal) ga pa (ix3 t b ⟨128 * (0 : Fin 4).val + d.val, by omega⟩)).symm)
    rw [new 0, old 0 14 14 rfl]
  · refine (pay172_apply (uGrp ga 1) (pGrp pa 1) b d).trans (Eq.trans ?_ (ref_pool hn ga pa x6 x7 b 1 d _ (by show 5 * 128 + d.val = 512 + (128 * 1 + d.val); omega)).symm)
    refine congrArg₂ (fun a b : EReal => a - b) (Eq.trans ?_ (v89_apply ga pa b d).symm) (uGrp_apply ga 1 b d)
    refine congrArg (fun a => Ideal.div a _) (Eq.trans ?_ (sum4 fun t => val_main_v81 (F := Ideal) ga pa (ix3 t b ⟨128 + d.val, by omega⟩)).symm)
    rw [new 1, old 1 14 14 rfl, old 1 13 13 rfl, old 1 12 12 rfl]
    rfl
  · refine (pay174_apply (uGrp ga 2) (pGrp pa 2) b d).trans (Eq.trans ?_ (ref_pool hn ga pa x6 x7 b 2 d _ (by show 6 * 128 + d.val = 512 + (128 * 2 + d.val); omega)).symm)
    refine congrArg₂ (fun a b : EReal => a - b) (Eq.trans ?_ (v93_apply ga pa b d).symm) (uGrp_apply ga 2 b d)
    refine congrArg (fun a => Ideal.div a _) (Eq.trans ?_ (sum8 fun t => val_main_v81 (F := Ideal) ga pa (ix3 t b ⟨256 + d.val, by omega⟩)).symm)
    rw [new 2, old 2 14 14 rfl, old 2 13 13 rfl, old 2 12 12 rfl, old 2 11 11 rfl, old 2 10 10 rfl, old 2 9 9 rfl, old 2 8 8 rfl]
    rfl
  · refine (pay176_apply (uGrp ga 3) (pGrp pa 3) b d).trans (Eq.trans ?_ (ref_pool hn ga pa x6 x7 b 3 d _ (by show 7 * 128 + d.val = 512 + (128 * 3 + d.val); omega)).symm)
    refine congrArg₂ (fun a b : EReal => a - b) (Eq.trans ?_ (v97_apply ga pa b d).symm) (uGrp_apply ga 3 b d)
    refine congrArg (fun a => Ideal.div a _) (Eq.trans ?_ (sum16 fun t => val_main_v81 (F := Ideal) ga pa (ix3 t b ⟨384 + d.val, by omega⟩)).symm)
    rw [new 3, old 3 14 14 rfl, old 3 13 13 rfl, old 3 12 12 rfl, old 3 11 11 rfl, old 3 10 10 rfl, old 3 9 9 rfl, old 3 8 8 rfl, old 3 7 7 rfl, old 3 6 6 rfl, old 3 5 5 rfl, old 3 4 4 rfl, old 3 3 3 rfl, old 3 2 2 rfl, old 3 1 1 rfl, old 3 0 0 rfl]
    rfl

/-- The merged rows. -/
theorem mrg_eq (x6 x7) (ho : ∀ (b : Fin 128) (h : Fin 4) (d : Fin 128), oo (ix2 b ⟨h.val * 128 + d.val, by omega⟩) = val_main_v63 (F := Ideal) x6 x7 (ix3 b h d)) (b : Fin 128) (c : Fin 1024) :
    mrg hn oo ga pa (ix2 b c) = val_main_v100 (F := Ideal) x6 x7 ga pa hn (ix2 b c) := by
  refine (mG_eq hn oo ga pa x6 x7 ho ⟨c.val / 128, by omega⟩ b ⟨c.val % 128, by omega⟩).trans (congrArg (fun c => val_main_v100 (F := Ideal) x6 x7 ga pa hn (ix2 b c)) (Fin.ext ?_))
  show c.val / 128 * 128 + c.val % 128 = c.val
  omega

end Cert.Kernel2Ideal.Value

end
-- ==== Proof.Value2.Finite.lean ====
module

public import proofs.«01_k».proof.Proof.Value2.Attn
public import proofs.«01_k».proof.Proof.Value.Softmax

@[expose] public section

set_option maxRecDepth 16384

noncomputable section

namespace Cert.Kernel2Ideal.Value

open Cert.Layer
open Idealize.ShloMosaic

/-! With a finite gain, weight and keys the scores are finite, and on those the kernel's softmax is the reference's. -/

theorem bits_mean : Ideal.ofBits .f32 0x44800000#32 = ((1024 : ℝ) : EReal) := by
  simp [Ideal.ofBits, Ideal.ieee, -EReal.coe_mul]
  norm_num
theorem bits_sixteenth : Ideal.ofBits .f32 0x3D800000#32 = ((1 / 16 : ℝ) : EReal) := by
  simp [Ideal.ofBits, Ideal.ieee, -EReal.coe_mul]
  norm_num
theorem bits_eps : ∃ e : ℝ, 0 < e ∧ Ideal.ofBits .f32 0x358637BD#32 = (e : EReal) := by
  refine ⟨8796093 / 8388608 / 1048576, by norm_num, ?_⟩
  simp [Ideal.ofBits, Ideal.ieee, -EReal.coe_mul]
  norm_num

/-- A square is at least zero. -/
theorem sq_nonneg (a : EReal) : 0 ≤ a * a := by
  induction a using EReal.rec with
  | bot => simp
  | top => simp
  | coe r => rw [← EReal.coe_mul]; exact EReal.coe_nonneg.2 (mul_self_nonneg r)

/-- A row that is infinite somewhere is normed to zeros. -/
theorem rms_zero (x g : Fin 1024 → EReal) (i : Fin 1024) (hi : x i * x i = ⊤) (j : Fin 1024) : rms x g j = 0 := by
  obtain ⟨e, he, hb⟩ := bits_eps
  have hs : (∑ k, x k * x k) = ⊤ := top_le_iff.1 (hi ▸ Finset.single_le_sum (f := fun k => x k * x k) (fun k _ => sq_nonneg (x k)) (Finset.mem_univ i))
  have hm : meanSq x = ⊤ := by
    unfold meanSq
    rw [hs, bits_mean, Ideal.div_coe (by norm_num), EReal.top_mul_coe_of_pos (by norm_num)]
  have hr : Ideal.rsqrt ⊤ = 0 := rfl
  unfold rms
  rw [hm, hb, EReal.top_add_coe, hr, mul_zero, zero_mul]

/-- A normed row of finite numbers is finite. -/
theorem rms_coe_of (x g : Fin 1024 → EReal) (hx : ∀ i, ∃ r : ℝ, x i = (r : EReal)) (hg : ∀ i, ∃ r : ℝ, g i = (r : EReal)) (j : Fin 1024) : ∃ y : ℝ, rms x g j = (y : EReal) := by
  choose xr hx using hx
  choose gr hg using hg
  obtain rfl : x = fun i => (xr i : EReal) := funext hx
  obtain rfl : g = fun i => (gr i : EReal) := funext hg
  obtain ⟨e, he, hb⟩ := bits_eps
  have hm : meanSq (fun i => (xr i : EReal)) = ((1 / 1024 * ∑ i, xr i * xr i : ℝ) : EReal) := by
    unfold meanSq
    rw [bits_mean, Ideal.div_coe (by norm_num)]
    simp only [← EReal.coe_mul, coe_sum]
    rw [mul_comm]
  have hp : 0 < 1 / 1024 * (∑ i, xr i * xr i) + e := add_pos_of_nonneg_of_pos (mul_nonneg (by norm_num) (Finset.sum_nonneg fun i _ => mul_self_nonneg _)) he
  have hr : Ideal.rsqrt ((1 / 1024 * (∑ i, xr i * xr i) + e : ℝ) : EReal) = (((Real.sqrt (1 / 1024 * (∑ i, xr i * xr i) + e))⁻¹ : ℝ) : EReal) :=
    (if_neg (not_lt.2 hp.le)).trans (if_neg hp.ne')
  refine ⟨xr j * (Real.sqrt (1 / 1024 * (∑ i, xr i * xr i) + e))⁻¹ * gr j, ?_⟩
  unfold rms
  rw [hm, hb, ← EReal.coe_add, hr, EReal.coe_mul, EReal.coe_mul]

/-- A normed row is finite whenever the gain is. -/
theorem rms_coe (x g : Fin 1024 → EReal) (hg : ∀ i, ∃ r : ℝ, g i = (r : EReal)) (j : Fin 1024) : ∃ y : ℝ, rms x g j = (y : EReal) := by
  by_cases hx : ∀ i, ∃ r : ℝ, x i = (r : EReal)
  · exact rms_coe_of x g hx hg j
  · obtain ⟨i, hi⟩ := not_forall.1 hx
    refine ⟨0, rms_zero x g i ?_ j⟩
    generalize x i = a at hi
    induction a using EReal.rec with
    | bot => simp
    | top => simp
    | coe r => exact absurd ⟨r, rfl⟩ hi

/-- So is a query. -/
theorem query_coe (x g : Fin 1024 → EReal) (w : Fin 1024 → EReal) (hg : ∀ i, ∃ r : ℝ, g i = (r : EReal)) (hw : ∀ i, ∃ r : ℝ, w i = (r : EReal)) :
    ∃ y : ℝ, (∑ j, rms x g j * w j) = (y : EReal) := by
  choose nr hn using rms_coe x g hg
  choose wr hw using hw
  refine ⟨∑ j, nr j * wr j, ?_⟩
  rw [← coe_sum]
  refine Finset.sum_congr rfl fun j _ => ?_
  rw [hn, hw, EReal.coe_mul]

/-- The two softmaxes. -/
theorem att_eq (Q : Fin 256 → EReal) (K : Fin 256 → Fin 256 → EReal) (v : Fin 256 → EReal) (hQ : ∀ d, ∃ r : ℝ, Q d = (r : EReal)) (hK : ∀ d n, ∃ r : ℝ, K d n = (r : EReal)) :
    attTwo (fun n => ∑ d, Q d * qscale * K d n) v = attExp (fun n => (∑ d, Q d * K d n) * Ideal.ofBits .f32 0x3D800000#32) v := by
  choose q hQ using hQ
  choose k hK using hK
  have hl : Real.log 2 ≠ 0 := (Real.log_pos (by norm_num)).ne'
  have e1 : (fun n => ∑ d, Q d * qscale * K d n) = fun n => ((∑ d, q d * (16 * Real.log 2)⁻¹ * k d n : ℝ) : EReal) := funext fun n => by
    rw [← coe_sum]
    refine Finset.sum_congr rfl fun d _ => ?_
    rw [hQ, hK, EReal.coe_mul, EReal.coe_mul]
  rw [e1, attTwo_eq]
  refine congrArg (fun s => attExp s v) (funext fun n => ?_)
  have e2 : (∑ d, Q d * K d n) = ((∑ d, q d * k d n : ℝ) : EReal) := by
    rw [← coe_sum]
    refine Finset.sum_congr rfl fun d _ => ?_
    rw [hQ, hK, EReal.coe_mul]
  rw [e2, bits_sixteenth, ← EReal.coe_mul, ← EReal.coe_mul]
  refine congrArg (fun r : ℝ => (r : EReal)) ?_
  rw [Finset.sum_mul, Finset.sum_mul]
  refine Finset.sum_congr rfl fun d _ => ?_
  field_simp

/-- The scale of the decode queries. -/
theorem scale_eq (a : EReal) : a * qscale = Ideal.div (a * Ideal.ofBits .f32 0x3D800000#32) ((Real.log 2 : ℝ) : EReal) := by
  have hl : Real.log 2 ≠ 0 := (Real.log_pos (by norm_num)).ne'
  rw [Ideal.div_coe hl, bits_sixteenth, mul_assoc, ← EReal.coe_mul]
  refine congrArg (fun r : ℝ => a * (r : EReal)) ?_
  field_simp

end Cert.Kernel2Ideal.Value

end
-- ==== Proof.Value2.RefOut.lean ====
module

public import proofs.«01_k».proof.Proof.Value.Softmax
public import proofs.«01_k».proof.Proof.Gen.Reference2Ideal.Read

@[expose] public section

set_option maxRecDepth 16384

noncomputable section

namespace Cert.Reference2Ideal.Rows

open Cert.Reference2Ideal Cert.Reference2Ideal.Gen Cert.Reference2Ideal.Read Cert.Layer
open Idealize.ShloMosaic

/-! The reference's decode rows after the output projection, and their queries. -/

theorem v102_apply (x6 x7 x9 x10 x11 x12 x13) (b : Fin 128) (j : Fin 1024) :
    val_main_v102 (F := Ideal) x6 x7 x9 x10 x11 x12 x13 (ix2 b j) = x9 (ix2 b j) + ∑ c, val_main_v100 (F := Ideal) x6 x7 x10 x11 x12 (ix2 b c) * x13 (ix2 c j) := by
  unfold val_main_v102 val_main_v101
  generalize val_main_v100 (F := Ideal) x6 x7 x10 x11 x12 = n
  unfold val_main_v4
  pointwise
theorem v114_apply (x1 x6 x7 x9 x10 x11 x12 x13) (b : Fin 128) (k : Fin 1024) :
    val_main_v114 (F := Ideal) x1 x6 x7 x9 x10 x11 x12 x13 (ix2 b k) = rms (fun j => val_main_v102 (F := Ideal) x6 x7 x9 x10 x11 x12 x13 (ix2 b j)) (fun j => x1 (ix2 0 j)) k := by
  unfold rms meanSq
  unfold val_main_v114 val_main_v113 val_main_v112 val_main_v111 val_main_v110 val_main_v109 val_main_v108 val_main_v107 val_main_v106 val_main_v105 val_main_v104 val_main_v103 val_main_cst_17 val_main_cst_18 val_main_cst_19
  generalize val_main_v102 (F := Ideal) x6 x7 x9 x10 x11 x12 x13 = n
  pointwise
theorem v121_apply (x1 x2 x6 x7 x9 x10 x11 x12 x13) (b : Fin 128) (c : Fin 1024) :
    val_main_v121 (F := Ideal) x1 x2 x6 x7 x9 x10 x11 x12 x13 (ix2 b c)
      = Ideal.div ((∑ k, val_main_v114 (F := Ideal) x1 x6 x7 x9 x10 x11 x12 x13 (ix2 b k) * x2 (ix2 k c)) * Ideal.ofBits .f32 0x3D800000#32) ((Real.log 2 : ℝ) : EReal) := by
  rw [← log_two]
  unfold val_main_v121 val_main_v120 val_main_v119 val_main_v118 val_main_v117 val_main_v116 val_main_v115 val_main_cst_20 val_main_cst_21
  generalize val_main_v114 (F := Ideal) x1 x6 x7 x9 x10 x11 x12 x13 = n
  unfold val_main_v0
  pointwise
  rfl
theorem v124_apply (x1 x2 x6 x7 x9 x10 x11 x12 x13) (b : Fin 128) (p : Fin 8) (l : Fin 128) :
    val_main_v124 (F := Ideal) x1 x2 x6 x7 x9 x10 x11 x12 x13 (ix3 b p l) = val_main_v121 (F := Ideal) x1 x2 x6 x7 x9 x10 x11 x12 x13 (ix2 b ⟨p.val % 4 * 256 + p.val / 4 * 128 + l.val, by omega⟩) := by
  unfold val_main_v124 val_main_v123 val_main_v122
  generalize val_main_v121 (F := Ideal) x1 x2 x6 x7 x9 x10 x11 x12 x13 = n
  pointwise

end Cert.Reference2Ideal.Rows

end
-- ==== Proof.Value2.Arrays.lean ====
module

public import proofs.«01_k».proof.Proof.Value2.State
public import proofs.«01_k».proof.Proof.Value2.Merge
public import proofs.«01_k».proof.Proof.Value2.Finite
public import proofs.«01_k».proof.Proof.Value2.RefOut

@[expose] public section

set_option maxRecDepth 16384

noncomputable section

namespace Cert.Kernel2Ideal.Value

open Cert.Kernel2Ideal Cert.Kernel2Ideal.Gen Cert.Kernel2Ideal.Hand Cert.Layer
open Cert.Reference2Ideal.Read
open Idealize.ShloMosaic.TcCoe
open Cert.Reference2Ideal.Rows (v126_apply v81_apply v102_apply v114_apply v121_apply v124_apply)
open Idealize.ShloMosaic

variable (m : (ℓ : Loc nD τ sig) → Buf (Elt Ideal) ℓ)

/-- The decode rows of the kernel are the reference's. -/
theorem x1s_eq (c : Dev nD) (t : Fin cfg0.N) (b : Fin 128) (j : Fin 1024) : x1sAt m c t (ix2 b j) = val_main_v102 (F := Ideal) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix2 b j) := by
  unfold x1sAt
  refine (pay178_apply _ _ _ b j).trans ((v102_apply _ _ _ _ _ _ _ b j).trans ?_).symm
  rw [b9_eq, V_main_arg9, V_main_arg10, V_main_arg11, V_main_arg13]
  exact congrArg₂ (fun a s : EReal => a + s) rfl (Finset.sum_congr rfl fun k _ => congrArg (fun a : EReal => a * _) (mrg_eq _ _ _ _ _ _ (fun b h d => oo_eq m c b h d) b k).symm)

/-- So are their queries. -/
theorem q_eq (c : Dev nD) (t : Fin cfg0.N) (b : Fin 128) (p : Fin 8) (l : Fin 128) : qsAt m c t (ix3 b p l) = val_main_v124 (F := Ideal) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (ix3 b p l) := by
  rw [v124_apply, v121_apply]
  unfold qsAt qsBlk
  refine (qG_apply _ p b l).trans ((pay179_apply _ _ _ _ _ b _).trans ((scale_eq _).trans ?_))
  refine congrArg (fun s : EReal => Ideal.div (s * _) _) (Finset.sum_congr rfl fun k _ => ?_)
  rw [v114_apply, b1_eq, b2_eq]
  exact congrArg (fun f : Fin 1024 → EReal => rms f _ k * _) (funext fun j => x1s_eq m c t b j)

/-- The pooling state. -/
theorem pool_eq (c : Dev nD) (i : Fin 15) (b : Fin 128) (k : Fin 512) : poolAt m c (ix3 i b k) = val_main_v126 (F := Ideal) (m ((c.tc : Thread nD τ).loc main_arg10)) (m ((c.tc : Thread nD τ).loc main_arg11)) (ix3 i b k) := by
  rw [v126_apply, v81_apply]
  unfold poolAt poolBlk
  rw [V_main_arg10, V_main_arg11]
  by_cases h : i.val < 14
  · refine (dif_pos h).trans ((dif_pos (by show 1 + i.val < 15; omega)).trans (congrArg (fun x => (m ((c.tc : Thread nD τ).loc main_arg11)) (ix3 x b k)) (Fin.ext (Nat.add_comm 1 i.val)))).symm
  · refine (dif_neg h).trans ((dif_neg (by show ¬ 1 + i.val < 15; omega)).trans (congrArg (fun x => (m ((c.tc : Thread nD τ).loc main_arg10)) (ix2 b x)) (Fin.ext ?_))).symm
    show 2048 + (512 + k.val) = 2560 + k.val
    omega

/-! The result arrays. -/

theorem idx11 : ∀ t : Fin grid0.N, win0_11.index t 0 = (lastPrompt t).val ∧ win0_11.index t 1 = 0 ∧ win0_11.index t 2 = 0 ∧ win0_11.index t 3 = 0 ∧ win0_12.index t 0 = (lastPrompt t).val ∧ win0_12.index t 1 = 0 ∧ (lastPrompt t).val < 16 := by decide +kernel

/-- The new state, -/
theorem final11 (c : Dev nD) : (dats m 0 c).arrAt 11 cfg0.N = val_main_v62 (F := Ideal) (m ((c.tc : Thread nD τ).loc main_arg6)) (m ((c.tc : Thread nD τ).loc main_arg7)) := by
  refine (dats m 0 c).arrAt_eq_of_covers 11 _ (by decide +kernel) fun t hf y => ?_
  obtain ⟨r, h, a, d, rfl⟩ : ∃ r h a d, y = ix4 r h a d := ⟨y 0, y 1, y 2, y 3, funext fun a => by fin_cases a <;> rfl⟩
  obtain ⟨h0, h1, h2, h3, -, -, hl⟩ := idx11 t
  let b : Fin 128 := ⟨(lastPrompt t).val * 8 + r.val, by have : r.val < 8 := r.isLt; omega⟩
  have e : ((cfg0.win 11).blk t).view.emb (ix4 r h a d) = ix4 b h a d := by
    funext a'
    refine Fin.ext ?_
    blk_simp
    fin_cases a'
    · show win0_11.index t 0 * 8 + r.val = (lastPrompt t).val * 8 + r.val; rw [h0]
    · show win0_11.index t 1 * 4 + h.val = h.val; rw [h1]; omega
    · show win0_11.index t 2 * 128 + a.val = a.val; rw [h2]; omega
    · show win0_11.index t 3 * 128 + d.val = d.val; rw [h3]; omega
  refine Eq.trans (b := stAt m c (lastPrompt t) (ix4 r h a d)) ?_ (Eq.trans ?_ (congrArg _ e.symm))
  · blk_simp
    rw [after11]
  exact st_eq m c ⟨(lastPrompt t).val, hl⟩ r h a d b rfl

/-- the weight, -/
theorem final12 (c : Dev nD) : (dats m 0 c).arrAt 12 cfg0.N = val_main_v125 (F := Ideal) (m ((c.tc : Thread nD τ).loc main_arg8)) := by
  refine (dats m 0 c).arrAt_eq_of_covers 12 _ (by decide +kernel) fun t hf y => ?_
  obtain ⟨r, k, rfl⟩ : ∃ r k, y = ix2 r k := ⟨y 0, y 1, funext fun a => by fin_cases a <;> rfl⟩
  obtain ⟨-, -, -, -, h0, h1, hl⟩ := idx11 t
  let R : Fin 2816 := ⟨(lastPrompt t).val * 176 + r.val, by have : r.val < 176 := r.isLt; omega⟩
  have e : ((cfg0.win 12).blk t).view.emb (ix2 r k) = ix2 R k := by
    funext a
    refine Fin.ext ?_
    blk_simp
    fin_cases a
    · show win0_12.index t 0 * 176 + r.val = (lastPrompt t).val * 176 + r.val; rw [h0]
    · show win0_12.index t 1 * 1024 + k.val = k.val; rw [h1]; omega
  refine Eq.trans (b := wAt m c (lastPrompt t) (ix2 r k)) ?_ (Eq.trans ?_ (congrArg _ e.symm))
  · blk_simp
    rw [after12]
  exact b8_apply m c ⟨(lastPrompt t).val, hl⟩ r k R rfl

/-- the decode rows, -/
theorem idx13 : ∀ t : Fin grid0.N, win0_13.index t 0 = 0 ∧ win0_13.index t 1 = 0 := by decide +kernel
theorem final13 (c : Dev nD) : (dats m 0 c).arrAt 13 cfg0.N = val_main_v102 (F := Ideal) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (dats m 0 c).arrAt_eq_of_covers 13 _ (by decide +kernel) fun t hf y => ?_
  obtain ⟨b, j, rfl⟩ : ∃ b j, y = ix2 b j := ⟨y 0, y 1, funext fun a => by fin_cases a <;> rfl⟩
  have h := idx13 t
  have e : ((cfg0.win 13).blk t).view.emb (ix2 b j) = (ix2 b j) := by
    funext a
    refine Fin.ext ?_
    blk_simp
    fin_cases a
    · show win0_13.index t 0 * 128 + b.val = b.val; rw [h.1]; omega
    · show win0_13.index t 1 * 1024 + j.val = j.val; rw [h.2]; omega
  refine Eq.trans (b := x1sAt m c t (ix2 b j)) ?_ (Eq.trans ?_ (congrArg _ e.symm))
  · blk_simp
    rw [after13]
  exact x1s_eq m c t b j

/-- the pooling state, -/
theorem idx14 : ∀ t : Fin grid0.N, win0_14.index t 0 = 0 ∧ win0_14.index t 1 = 0 ∧ win0_14.index t 2 = 0 := by decide +kernel
theorem final14 (c : Dev nD) : (dats m 0 c).arrAt 14 cfg0.N = val_main_v126 (F := Ideal) (m ((c.tc : Thread nD τ).loc main_arg10)) (m ((c.tc : Thread nD τ).loc main_arg11)) := by
  refine (dats m 0 c).arrAt_eq_of_covers 14 _ (by decide +kernel) fun t hf y => ?_
  obtain ⟨i, b, k, rfl⟩ : ∃ i b k, y = ix3 i b k := ⟨y 0, y 1, y 2, funext fun a => by fin_cases a <;> rfl⟩
  have h := idx14 t
  have e : ((cfg0.win 14).blk t).view.emb (ix3 i b k) = (ix3 i b k) := by
    funext a
    refine Fin.ext ?_
    blk_simp
    fin_cases a
    · show win0_14.index t 0 * 15 + i.val = i.val; rw [h.1]; omega
    · show win0_14.index t 1 * 128 + b.val = b.val; rw [h.2.1]; omega
    · show win0_14.index t 2 * 512 + k.val = k.val; rw [h.2.2]; omega
  refine Eq.trans (b := poolAt m c (ix3 i b k)) ?_ (Eq.trans ?_ (congrArg _ e.symm))
  · blk_simp
    rw [after14]
  exact pool_eq m c i b k

/-- and the queries. -/
theorem idx15 : ∀ t : Fin grid0.N, win0_15.index t 0 = 0 ∧ win0_15.index t 1 = 0 ∧ win0_15.index t 2 = 0 := by decide +kernel
theorem final15 (c : Dev nD) : (dats m 0 c).arrAt 15 cfg0.N = val_main_v124 (F := Ideal) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (dats m 0 c).arrAt_eq_of_covers 15 _ (by decide +kernel) fun t hf y => ?_
  obtain ⟨b, p, l, rfl⟩ : ∃ b p l, y = ix3 b p l := ⟨y 0, y 1, y 2, funext fun a => by fin_cases a <;> rfl⟩
  have h := idx15 t
  have e : ((cfg0.win 15).blk t).view.emb (ix3 b p l) = (ix3 b p l) := by
    funext a
    refine Fin.ext ?_
    blk_simp
    fin_cases a
    · show win0_15.index t 0 * 128 + b.val = b.val; rw [h.1]; omega
    · show win0_15.index t 1 * 8 + p.val = p.val; rw [h.2.1]; omega
    · show win0_15.index t 2 * 128 + l.val = l.val; rw [h.2.2]; omega
  refine Eq.trans (b := qsAt m c t (ix3 b p l)) ?_ (Eq.trans ?_ (congrArg _ e.symm))
  · blk_simp
    rw [after15]
  exact q_eq m c t b p l

end Cert.Kernel2Ideal.Value

end
-- ==== Proof.Value2.RefAttn.lean ====
module

public import proofs.«01_k».proof.Proof.Value.Softmax
public import proofs.«01_k».proof.Proof.Gen.Reference2Ideal.Read

@[expose] public section

set_option maxRecDepth 16384

noncomputable section

namespace Cert.Reference2Ideal.Rows

open Cert.Reference2Ideal Cert.Reference2Ideal.Gen Cert.Reference2Ideal.Read Cert.Layer
open Idealize.ShloMosaic

/-! The reference's prompt attention, row by row. -/

/-- The normed rows, -/
theorem v20_apply (x0 x1) (i : Fin 8) (r : Fin 2048) (k : Fin 1024) :
    val_main_v20 (F := Ideal) x0 x1 (ix3 i r k) = rms (fun j => x0 (ix3 i r j)) (fun j => x1 (ix2 0 j)) k := by
  unfold rms meanSq
  unfold val_main_v20 val_main_v19 val_main_v18 val_main_v17 val_main_v16 val_main_v15 val_main_v14 val_main_v13 val_main_v12 val_main_v11 val_main_v10 val_main_v9 val_main_v8 val_main_cst val_main_cst_0 val_main_cst_1
  pointwise
/-- the queries, -/
theorem v21_apply (x0 x1 x2) (i : Fin 8) (r : Fin 2048) (c : Fin 1024) :
    val_main_v21 (F := Ideal) x0 x1 x2 (ix3 i r c) = ∑ k, val_main_v20 (F := Ideal) x0 x1 (ix3 i r k) * x2 (ix2 k c) := by
  unfold val_main_v21
  generalize val_main_v20 (F := Ideal) x0 x1 = n
  unfold val_main_v0
  pointwise
/-- the scores before the change of base, -/
theorem v23_apply (x0 x1 x2 x3) (i : Fin 8) (h : Fin 4) (r : Fin 2048) (m : Fin 256) :
    val_main_v23 (F := Ideal) x0 x1 x2 x3 (ix4 i h r m) = ∑ d : Fin 256, val_main_v21 (F := Ideal) x0 x1 x2 (ix3 i r ⟨h.val * 256 + d.val, by omega⟩) * x3 (ix3 i ⟨h.val * 256 + d.val, by omega⟩ m) := by
  unfold val_main_v23 val_main_v22 val_main_v6
  generalize val_main_v21 (F := Ideal) x0 x1 x2 = n
  unfold val_main_v5 val_main_v1
  pointwise
/-- and after, -/
theorem v25_apply (x0 x1 x2 x3) (i : Fin 8) (h : Fin 4) (r : Fin 2048) (m : Fin 256) :
    val_main_v25 (F := Ideal) x0 x1 x2 x3 (ix4 i h r m) = val_main_v23 (F := Ideal) x0 x1 x2 x3 (ix4 i h r m) * Ideal.ofBits .f32 0x3D800000#32 := by
  unfold val_main_v25 val_main_v24 val_main_cst_2
  generalize val_main_v23 (F := Ideal) x0 x1 x2 x3 = n
  pointwise
/-- their largest, -/
theorem v26_apply (x0 x1 x2 x3) (i : Fin 8) (h : Fin 4) (r : Fin 2048) :
    val_main_v26 (F := Ideal) x0 x1 x2 x3 (ix3 i h r) = top fun m => val_main_v25 (F := Ideal) x0 x1 x2 x3 (ix4 i h r m) := by
  unfold top
  unfold val_main_v26 val_main_cst_3
  generalize val_main_v25 (F := Ideal) x0 x1 x2 x3 = n
  pointwise
/-- (at least the bottom), -/
theorem maximumf_ideal (a b : EReal) : FloatOps.maximumf (F := Ideal) (φ := .f32) a b = max a b := rfl
theorem v27_apply (i : Fin 8) (h : Fin 4) (r : Fin 2048) : val_main_v27 (F := Ideal) (ix3 i h r) = Ideal.ofBits .f32 0xFF800000#32 := by
  unfold val_main_v27 val_main_cst_4
  pointwise
theorem v30_apply (x0 x1 x2 x3) (i : Fin 8) (h : Fin 4) (r : Fin 2048) (m : Fin 256) :
    val_main_v30 (F := Ideal) x0 x1 x2 x3 (ix4 i h r m) = val_main_v28 (F := Ideal) x0 x1 x2 x3 (ix3 i h r) := by
  unfold val_main_v30 val_main_v29
  generalize val_main_v28 (F := Ideal) x0 x1 x2 x3 = n
  pointwise
/-- their powers, -/
theorem v32_apply (x0 x1 x2 x3) (i : Fin 8) (h : Fin 4) (r : Fin 2048) (m : Fin 256) :
    val_main_v32 (F := Ideal) x0 x1 x2 x3 (ix4 i h r m) = Ideal.exp (val_main_v25 (F := Ideal) x0 x1 x2 x3 (ix4 i h r m) - val_main_v30 (F := Ideal) x0 x1 x2 x3 (ix4 i h r m)) := by
  unfold val_main_v32 val_main_v31
  generalize val_main_v30 (F := Ideal) x0 x1 x2 x3 = n'
  generalize val_main_v25 (F := Ideal) x0 x1 x2 x3 = n
  rfl
/-- the powers' sum, -/
theorem v33_apply (x0 x1 x2 x3) (i : Fin 8) (h : Fin 4) (r : Fin 2048) :
    val_main_v33 (F := Ideal) x0 x1 x2 x3 (ix3 i h r) = ∑ m, val_main_v32 (F := Ideal) x0 x1 x2 x3 (ix4 i h r m) := by
  unfold val_main_v33 val_main_cst_5
  generalize val_main_v32 (F := Ideal) x0 x1 x2 x3 = n
  pointwise
/-- the quotients, -/
theorem v36_div (x0 x1 x2 x3) (i : Fin 8) (h : Fin 4) (r : Fin 2048) (m : Fin 256) :
    val_main_v36 (F := Ideal) x0 x1 x2 x3 (ix4 i h r m) = Ideal.div (val_main_v32 (F := Ideal) x0 x1 x2 x3 (ix4 i h r m)) (val_main_v33 (F := Ideal) x0 x1 x2 x3 (ix3 i h r)) := by
  unfold val_main_v36 val_main_v35 val_main_v34
  generalize val_main_v33 (F := Ideal) x0 x1 x2 x3 = n'
  generalize val_main_v32 (F := Ideal) x0 x1 x2 x3 = n
  pointwise
/-- which are the softmax weights, -/
theorem v36_apply (x0 x1 x2 x3) (i : Fin 8) (h : Fin 4) (r : Fin 2048) (m : Fin 256) (s : Fin 256 → EReal) (hs : ∀ m, val_main_v25 (F := Ideal) x0 x1 x2 x3 (ix4 i h r m) = s m) :
    val_main_v36 (F := Ideal) x0 x1 x2 x3 (ix4 i h r m)
      = Ideal.div (Ideal.exp (s m - max (Ideal.ofBits .f32 0xFF800000#32) (top s))) (∑ n, Ideal.exp (s n - max (Ideal.ofBits .f32 0xFF800000#32) (top s))) := by
  have hM : val_main_v28 (F := Ideal) x0 x1 x2 x3 (ix3 i h r) = max (Ideal.ofBits .f32 0xFF800000#32) (top s) :=
    (val_main_v28_apply x0 x1 x2 x3 (ix3 i h r)).trans ((congrArg₂ (fun a b : EReal => FloatOps.maximumf (F := Ideal) (φ := .f32) a b) (v27_apply i h r) ((v26_apply x0 x1 x2 x3 i h r).trans (congrArg top (funext hs)))).trans (maximumf_ideal _ _))
  have e (n : Fin 256) : val_main_v32 (F := Ideal) x0 x1 x2 x3 (ix4 i h r n) = Ideal.exp (s n - max (Ideal.ofBits .f32 0xFF800000#32) (top s)) :=
    (v32_apply x0 x1 x2 x3 i h r n).trans (congrArg₂ (fun a b : EReal => Ideal.exp (a - b)) (hs n) ((v30_apply x0 x1 x2 x3 i h r n).trans hM))
  exact (v36_div x0 x1 x2 x3 i h r m).trans (congrArg₂ Ideal.div (e m) ((v33_apply x0 x1 x2 x3 i h r).trans (Finset.sum_congr rfl fun n _ => e n)))
/-- the weighted values, -/
theorem v37_apply (x0 x1 x2 x3 x4) (i : Fin 8) (h : Fin 4) (d : Fin 256) (r : Fin 2048) :
    val_main_v37 (F := Ideal) x0 x1 x2 x3 x4 (ix4 i h d r) = ∑ m : Fin 256, x4 (ix3 i m ⟨h.val * 256 + d.val, by omega⟩) * val_main_v36 (F := Ideal) x0 x1 x2 x3 (ix4 i h r m) := by
  unfold val_main_v37 val_main_v7
  generalize val_main_v36 (F := Ideal) x0 x1 x2 x3 = n
  unfold val_main_v2
  pointwise
/-- and the projection with the residual. -/
theorem v41_apply (x0 x1 x2 x3 x4 x5) (i : Fin 8) (r : Fin 2048) (j : Fin 1024) :
    val_main_v41 (F := Ideal) x0 x1 x2 x3 x4 x5 (ix3 i r j) = x0 (ix3 i r j) + ∑ c : Fin 1024, val_main_v37 (F := Ideal) x0 x1 x2 x3 x4 (ix4 i ⟨c.val / 256, by omega⟩ ⟨c.val % 256, by omega⟩ r) * x5 (ix2 c j) := by
  unfold val_main_v41 val_main_v40 val_main_v39 val_main_v38
  generalize val_main_v37 (F := Ideal) x0 x1 x2 x3 x4 = n
  unfold val_main_v3
  pointwise

/-- One head's attention, from its scores. -/
theorem att_apply (x0 x1 x2 x3 x4) (i : Fin 8) (h : Fin 4) (d : Fin 256) (r : Fin 2048) (s : Fin 256 → EReal) (hs : ∀ m, val_main_v25 (F := Ideal) x0 x1 x2 x3 (ix4 i h r m) = s m) :
    val_main_v37 (F := Ideal) x0 x1 x2 x3 x4 (ix4 i h d r) = attExp s fun m => x4 (ix3 i m ⟨h.val * 256 + d.val, by omega⟩) := by
  rw [v37_apply]
  unfold attExp
  exact Finset.sum_congr rfl fun m _ => (mul_comm _ _).trans (congrArg (· * _) (v36_apply x0 x1 x2 x3 i h r m s hs))

end Cert.Reference2Ideal.Rows

end
-- ==== Proof.Value2.Prompt.lean ====
module

public import proofs.«01_k».proof.Proof.Value2.Blocks
public import proofs.«01_k».proof.Proof.Value2.Finite
public import proofs.«01_k».proof.Proof.Value2.RefAttn
public import proofs.«01_k».proof.Proof.Value.Scores
public import proofs.«01_k».proof.Proof.Gen.Pre_finite_attention
public import proofs.«01_k».proof.Defs

@[expose] public section

set_option maxRecDepth 16384

noncomputable section

namespace Cert.Kernel2Ideal.Value

open Cert.Kernel2Ideal Cert.Kernel2Ideal.Gen Cert.Kernel2Ideal.Hand Cert.Layer
open Cert.Reference2Ideal.Read
open Idealize.ShloMosaic.TcCoe
open Cert.Reference2Ideal.Rows (v41_apply v25_apply v23_apply v21_apply v20_apply att_apply)
open Idealize.ShloMosaic

variable (m : (ℓ : Loc nD τ sig) → Buf (Elt Ideal) ℓ)

/-! The prompt rows' result array. -/

/-- What the precondition says. -/
theorem finite_g (hp : Pre_Kernel2Ideal_finite_attention (hPre_finite_attention := Cert.Pre_finite_attention.Gen.facts) m) (c : Dev nD) (i) : ∃ x : ℝ, (m ((c.tc : Thread nD τ).loc main_arg1)) i = (x : EReal) := Cert.KernelIdeal.Value.real_of_abs_lt _ (congrFun (hp c).1 i)
theorem finite_w (hp : Pre_Kernel2Ideal_finite_attention (hPre_finite_attention := Cert.Pre_finite_attention.Gen.facts) m) (c : Dev nD) (i) : ∃ x : ℝ, (m ((c.tc : Thread nD τ).loc main_arg2)) i = (x : EReal) := Cert.KernelIdeal.Value.real_of_abs_lt _ (congrFun (hp c).2.1 i)
theorem finite_k (hp : Pre_Kernel2Ideal_finite_attention (hPre_finite_attention := Cert.Pre_finite_attention.Gen.facts) m) (c : Dev nD) (i) : ∃ x : ℝ, (m ((c.tc : Thread nD τ).loc main_arg3)) i = (x : EReal) := Cert.KernelIdeal.Value.real_of_abs_lt _ (congrFun (hp c).2.2 i)

/-- One prompt row. -/
theorem prompt_row (x0 : Vec Ideal S8x2048x1024 .f32) (x1 : Vec Ideal S1x1024 .f32) (x2 : Vec Ideal S1024x1024 .bf16) (x3 : Vec Ideal S8x1024x256 .bf16) (x4 : Vec Ideal S8x256x1024 .bf16) (x5 : Vec Ideal S1024x1024 .bf16)
    (h1 : ∀ i, ∃ r : ℝ, x1 i = (r : EReal)) (h2 : ∀ i, ∃ r : ℝ, x2 i = (r : EReal)) (h3 : ∀ i, ∃ r : ℝ, x3 i = (r : EReal))
    (i : Fin 8) (r : Fin 2048) (j : Fin 1024) :
    x0 (ix3 i r j) + ∑ c : Fin 1024, attTwo (sRow (fun k => x0 (ix3 i r k)) (fun k => x1 (ix2 0 k)) (fun k c => x2 (ix2 k c)) (fun c n => x3 (ix3 i c n)) ⟨c.val / 256, by omega⟩) (fun n => x4 (ix3 i n c)) * x5 (ix2 c j)
      = val_main_v41 (F := Ideal) x0 x1 x2 x3 x4 x5 (ix3 i r j) := by
  rw [v41_apply]
  refine congrArg (fun s : EReal => x0 (ix3 i r j) + s) (Finset.sum_congr rfl fun c _ => congrArg (fun a : EReal => a * x5 (ix2 c j)) ?_)
  have ec : (⟨c.val / 256 * 256 + c.val % 256, by omega⟩ : Fin 1024) = c := Fin.ext (by show c.val / 256 * 256 + c.val % 256 = c.val; omega)
  let Q (d : Fin 256) : EReal := ∑ k, rms (fun k => x0 (ix3 i r k)) (fun k => x1 (ix2 0 k)) k * x2 (ix2 k ⟨c.val / 256 * 256 + d.val, by omega⟩)
  let K (d n : Fin 256) : EReal := x3 (ix3 i ⟨c.val / 256 * 256 + d.val, by omega⟩ n)
  refine Eq.trans ?_ (att_apply x0 x1 x2 x3 x4 i ⟨c.val / 256, by omega⟩ ⟨c.val % 256, by omega⟩ r (fun n => (∑ d, Q d * K d n) * Ideal.ofBits .f32 0x3D800000#32) fun n => ?_).symm
  · refine (att_eq Q K _ (fun d => query_coe _ _ _ (fun k => h1 _) fun k => h2 _) fun d n => h3 _).trans (congrArg (attExp _) (funext fun n => ?_))
    exact congrArg (fun c => x4 (ix3 i n c)) ec.symm
  · refine (v25_apply x0 x1 x2 x3 i _ r n).trans (congrArg (fun a : EReal => a * _) ((v23_apply x0 x1 x2 x3 i _ r n).trans (Finset.sum_congr rfl fun d _ => congrArg (fun a : EReal => a * _) ?_)))
    refine (v21_apply x0 x1 x2 i r _).trans (Finset.sum_congr rfl fun k _ => congrArg (fun a : EReal => a * _) (v20_apply x0 x1 i r k))

/-- The array. -/
theorem final10 (hp : Pre_Kernel2Ideal_finite_attention (hPre_finite_attention := Cert.Pre_finite_attention.Gen.facts) m) (c : Dev nD) : (dats m 0 c).arrAt 10 cfg0.N = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 10 _ (by decide +kernel) fun t hf y => ?_
  obtain ⟨o, r, j, rfl⟩ : ∃ o r j, y = ix3 o r j := ⟨y 0, y 1, y 2, funext fun a => by fin_cases a <;> rfl⟩
  obtain ⟨-, -, -, -, -, -, -, -, -, h2, h0, h1⟩ := idxP t
  let i : Fin 8 := ⟨win0_10.index t 0, h0⟩
  let R : Fin 2048 := ⟨win0_10.index t 1 * 1024 + r.val, by omega⟩
  have ho : o.val = 0 := by have : o.val < 1 := o.isLt; omega
  have e : ((cfg0.win 10).blk t).view.emb (ix3 o r j) = ix3 i R j := by
    funext a
    refine Fin.ext ?_
    blk_simp
    fin_cases a
    · show win0_10.index t 0 * 1 + o.val = win0_10.index t 0; omega
    · rfl
    · show win0_10.index t 2 * 1024 + j.val = j.val; rw [h2]; omega
  refine Eq.trans (b := yAt m c (lastPrompt t) (ix3 o r j)) ?_ (Eq.trans ?_ (congrArg _ e.symm))
  · blk_simp
    rw [after10]
  unfold yAt
  refine (yBlk_apply _ _ _ _ _ _ o r j).trans (Eq.trans ?_ (prompt_row _ _ _ _ _ _ (finite_g m hp c) (finite_w m hp c) (finite_k m hp c) i R j))
  rw [b1_eq, b2_eq, b5_eq, b0_apply m c t r j i R rfl rfl]
  refine congrArg (fun s : EReal => _ + s) (Finset.sum_congr rfl fun k _ => congrArg (fun a : EReal => a * _) ?_)
  refine congrArg₂ attTwo ?_ (funext fun n => b4_apply m c t n k i rfl)
  rw [show (fun k => b0 m c (lastPrompt t) (ix3 0 r k)) = fun k => m ((c.tc : Thread nD τ).loc main_arg0) (ix3 i R k) from funext fun k => b0_apply m c t r k i R rfl rfl,
    show (fun (k : Fin 1024) (n : Fin 256) => b3 m c (lastPrompt t) (ix3 0 k n)) = fun k n => m ((c.tc : Thread nD τ).loc main_arg3) (ix3 i k n) from funext fun k => funext fun n => b3_apply m c t k n i rfl]

end Cert.Kernel2Ideal.Value

end
-- ==== Proof.Value2.Claim.lean ====
module

public import proofs.«01_k».proof.Proof.Value2.Arrays
public import proofs.«01_k».proof.Proof.Value2.Prompt
public import proofs.«01_k».proof.Proof.Gen.Reference2Ideal.Run
public import proofs.«01_k».proof.Proof.Gen.Reference2Ideal.Read

@[expose] public section

set_option maxRecDepth 16384

noncomputable section

namespace Cert.Proof

open Cert.Reference2Ideal.Read
open Idealize.ShloMosaic

/-- The two programs of the prompt's memory attention and the decode rows' recurrence, read over the extended reals, end with equal results whenever the prompt rows, the gain, the query weight and the memory keys are finite. -/
theorem algebraic2 : algebraic_Kernel2Ideal_Reference2Ideal_pre_finite_attention (hKernel2Ideal := Cert.Kernel2Ideal.Gen.facts) (hReference2Ideal := Cert.Reference2Ideal.Gen.facts) (hPre_finite_attention := Cert.Pre_finite_attention.Gen.facts) := by
  intro m g m' g' hp hag
  refine ⟨fun c => val_main_v41 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)), fun c => val_main_v62 (F := Ideal) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)), fun c => val_main_v125 (F := Ideal) (m ((c.tc : Thread Cert.Kernel2Ideal.nD Cert.Kernel2Ideal.τ).loc Cert.Kernel2Ideal.main_arg8)), fun c => val_main_v102 (F := Ideal) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)), fun c => val_main_v126 (F := Ideal) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)), fun c => val_main_v124 (F := Ideal) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)), ?_, ?_⟩
  · exact (θ_run Cert.Kernel2Ideal.defs _ _).mono (fun _ hs c => ⟨((hs.1 c).1 10).trans (Cert.Kernel2Ideal.Value.final10 m hp c), ((hs.1 c).1 11).trans (Cert.Kernel2Ideal.Value.final11 m c), ((hs.1 c).1 12).trans (Cert.Kernel2Ideal.Value.final12 m c), ((hs.1 c).1 13).trans (Cert.Kernel2Ideal.Value.final13 m c), ((hs.1 c).1 14).trans (Cert.Kernel2Ideal.Value.final14 m c), ((hs.1 c).1 15).trans (Cert.Kernel2Ideal.Value.final15 m c), Cert.Kernel2Ideal.Hand.args_kept m hs.1 c⟩) (Cert.Kernel2Ideal.Hand.run_main m g)
  · refine (θ_run Cert.Reference2Ideal.defs _ _).mono (fun _ hs c => ?_) (Cert.Reference2Ideal.Value.run (F := Ideal) m' g')
    obtain ⟨h0, h1, h2, h3, h4, h5, h6, h7, h8, h9, h10, h11, h12, h13⟩ := hag c
    refine ⟨(hs c).1.trans ((val_main_v41_eq m' c).trans ?_), (hs c).2.1.trans ((val_main_v62_eq _ _).trans ?_), (hs c).2.2.1.trans ((val_main_v125_eq _).trans ?_), (hs c).2.2.2.1.trans ((val_main_v102_eq m' c).trans ?_), (hs c).2.2.2.2.1.trans ((val_main_v126_eq _ _).trans ?_), (hs c).2.2.2.2.2.1.trans ((val_main_v124_eq m' c).trans ?_), (hs c).2.2.2.2.2.2⟩
    · rw [h0, h1, h2, h3, h4, h5]
    · rw [h6, h7]
    · rw [h8]
    · rw [h6, h7, h9, h10, h11, h12, h13]
    · rw [h10, h11]
    · rw [h1, h2, h6, h7, h9, h10, h11, h12, h13]

end Cert.Proof

end
-- ==== Proof.lean ====
module

public import proofs.«01_k».proof.Defs
public import proofs.«01_k».proof.Proof.Kern.Run
public import proofs.«01_k».proof.Proof.Ideal.Run
public import proofs.«01_k».proof.Proof.Value.Claim
public import proofs.«01_k».proof.Proof.Kern2.Run
public import proofs.«01_k».proof.Proof.Ideal2.Run
public import proofs.«01_k».proof.Proof.Value2.Claim
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_attention
public import Idealize.ShloMosaic.Adequacy
public import Idealize.ShloMosaic.Init

@[expose] public section

noncomputable section

namespace Cert.Proof

open Idealize.ShloMosaic Idealize.SL.Sem

/-- The reference ends without fault, its arguments unchanged and every counter at zero. -/
theorem reference_frame : Cert.quiescent_ReferenceIdeal (hReferenceIdeal := Cert.ReferenceIdeal.Gen.facts) :=
  fun m g _ => (θ_run Cert.ReferenceIdeal.defs _ _).mono (fun r h => ⟨fun c => (h c).2.2, Idealize.ShloMosaic.sem_eq_zero_of_no_sems (by decide) r.2⟩)
    (Cert.ReferenceIdeal.Value.run (F := Ideal) m g)

/-- So does the second call's. -/
theorem reference2_frame : Cert.quiescent_Reference2Ideal (hReference2Ideal := Cert.Reference2Ideal.Gen.facts) :=
  fun m g _ => (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Pre_finite_scores.Gen.facts, Cert.Pre_finite_attention.Gen.facts,
  fun m g _ => Cert.Kernel.Hand.frame m g, fun m g _ => Cert.KernelIdeal.Hand.frame m g, fun m g _ => Cert.KernelIdeal.Hand.frame m g,
  reference_frame, fun m g _ => reference_frame m g trivial,
  fun m g _ => Cert.Kernel2.Hand.frame m g, fun m g _ => Cert.Kernel2Ideal.Hand.frame m g, fun m g _ => Cert.Kernel2Ideal.Hand.frame m g,
  reference2_frame, fun m g _ => reference2_frame m g trivial,
  trivial, algebraic, IdealRules.named_const.statement Cert.Kernel2Ideal.κ "query_scale" .f32 0x3DB8AA3B#32 (((16 * (Real.log 2))⁻¹ : ℝ) : EReal) rfl, algebraic2⟩

end Cert.Proof

end
